-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_conv [hPre_finite_conv : Cert.Pre_finite_conv.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_conv.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_conv [hPre_finite_conv : Cert.Pre_finite_conv.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_conv.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_cross [hPre_finite_cross : Cert.Pre_finite_cross.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_cross.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_cross [hPre_finite_cross : Cert.Pre_finite_cross.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_cross.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_scores [hPre_finite_scores : Cert.Pre_finite_scores.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_scores.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_scores [hPre_finite_scores : Cert.Pre_finite_scores.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_scores.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite_logs [hPre_finite_logs : Cert.Pre_finite_logs.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite_logs.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite_logs [hPre_finite_logs : Cert.Pre_finite_logs.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite_logs.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Kernel16Ideal_pre_finite_conv [hKernel16Ideal : Cert.Kernel16Ideal.Facts] [hPre_finite_conv : Cert.Pre_finite_conv.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_conv m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Reference16Ideal_pre_finite_conv [hReference16Ideal : Cert.Reference16Ideal.Facts] [hPre_finite_conv : Cert.Pre_finite_conv.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_conv m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite_cross [hKernel17Ideal : Cert.Kernel17Ideal.Facts] [hPre_finite_cross : Cert.Pre_finite_cross.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_cross m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite_cross [hReference17Ideal : Cert.Reference17Ideal.Facts] [hPre_finite_cross : Cert.Pre_finite_cross.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_cross m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Kernel29Ideal_pre_finite_scores [hKernel29Ideal : Cert.Kernel29Ideal.Facts] [hPre_finite_scores : Cert.Pre_finite_scores.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_scores m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Reference29Ideal_pre_finite_scores [hReference29Ideal : Cert.Reference29Ideal.Facts] [hPre_finite_scores : Cert.Pre_finite_scores.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_scores m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Kernel31Ideal_pre_finite_logs [hKernel31Ideal : Cert.Kernel31Ideal.Facts] [hPre_finite_logs : Cert.Pre_finite_logs.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite_logs m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Reference31Ideal_pre_finite_logs [hReference31Ideal : Cert.Reference31Ideal.Facts] [hPre_finite_logs : Cert.Pre_finite_logs.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite_logs m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v81) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v3) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v3) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_v20) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v3) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v21) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v3) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v39) = v0 c
          ∧ r.2.mem ((c.tc : Thread Cert.Reference15Ideal.nD Cert.Reference15Ideal.τ).loc Cert.Reference15Ideal.main_v22) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal_pre_finite_conv [hKernel16Ideal : Cert.Kernel16Ideal.Facts] [hReference16Ideal : Cert.Reference16Ideal.Facts] [hPre_finite_conv : Cert.Pre_finite_conv.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_conv m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v66) = v0 c
          ∧ r.2.mem ((c.tc : Thread Cert.Reference16Ideal.nD Cert.Reference16Ideal.τ).loc Cert.Reference16Ideal.main_v63) = v1 c
          ∧ r.2.mem ((c.tc : Thread Cert.Reference16Ideal.nD Cert.Reference16Ideal.τ).loc Cert.Reference16Ideal.main_v54) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal_pre_finite_cross [hKernel17Ideal : Cert.Kernel17Ideal.Facts] [hReference17Ideal : Cert.Reference17Ideal.Facts] [hPre_finite_cross : Cert.Pre_finite_cross.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_cross m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v142) = v0 c
          ∧ r.2.mem ((c.tc : Thread Cert.Reference17Ideal.nD Cert.Reference17Ideal.τ).loc Cert.Reference17Ideal.main_v117) = v1 c
          ∧ r.2.mem ((c.tc : Thread Cert.Reference17Ideal.nD Cert.Reference17Ideal.τ).loc Cert.Reference17Ideal.main_v79) = v2 c
          ∧ r.2.mem ((c.tc : Thread Cert.Reference17Ideal.nD Cert.Reference17Ideal.τ).loc Cert.Reference17Ideal.main_v140) = v3 c
          ∧ r.2.mem ((c.tc : Thread Cert.Reference17Ideal.nD Cert.Reference17Ideal.τ).loc Cert.Reference17Ideal.main_v116) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_v16) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal_pre_finite_scores [hKernel29Ideal : Cert.Kernel29Ideal.Facts] [hReference29Ideal : Cert.Reference29Ideal.Facts] [hPre_finite_scores : Cert.Pre_finite_scores.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_scores m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v50) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal_pre_finite_logs [hKernel31Ideal : Cert.Kernel31Ideal.Facts] [hReference31Ideal : Cert.Reference31Ideal.Facts] [hPre_finite_logs : Cert.Pre_finite_logs.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite_logs m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v38) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite_conv : Cert.Pre_finite_conv.Facts) (hPre_finite_cross : Cert.Pre_finite_cross.Facts) (hPre_finite_scores : Cert.Pre_finite_scores.Facts) (hPre_finite_logs : Cert.Pre_finite_logs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_conv (hKernel16Ideal := hKernel16Ideal) (hPre_finite_conv := hPre_finite_conv)
    ∧ quiescent_Reference16Ideal (hReference16Ideal := hReference16Ideal)
    ∧ quiescent_Reference16Ideal_pre_finite_conv (hReference16Ideal := hReference16Ideal) (hPre_finite_conv := hPre_finite_conv)
    ∧ quiescent_Kernel17 (hKernel17 := hKernel17)
    ∧ quiescent_Kernel17Ideal (hKernel17Ideal := hKernel17Ideal)
    ∧ quiescent_Kernel17Ideal_pre_finite_cross (hKernel17Ideal := hKernel17Ideal) (hPre_finite_cross := hPre_finite_cross)
    ∧ quiescent_Reference17Ideal (hReference17Ideal := hReference17Ideal)
    ∧ quiescent_Reference17Ideal_pre_finite_cross (hReference17Ideal := hReference17Ideal) (hPre_finite_cross := hPre_finite_cross)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite_scores (hKernel29Ideal := hKernel29Ideal) (hPre_finite_scores := hPre_finite_scores)
    ∧ quiescent_Reference29Ideal (hReference29Ideal := hReference29Ideal)
    ∧ quiescent_Reference29Ideal_pre_finite_scores (hReference29Ideal := hReference29Ideal) (hPre_finite_scores := hPre_finite_scores)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Kernel31Ideal_pre_finite_logs (hKernel31Ideal := hKernel31Ideal) (hPre_finite_logs := hPre_finite_logs)
    ∧ quiescent_Reference31Ideal (hReference31Ideal := hReference31Ideal)
    ∧ quiescent_Reference31Ideal_pre_finite_logs (hReference31Ideal := hReference31Ideal) (hPre_finite_logs := hPre_finite_logs)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_conv (hKernel16Ideal := hKernel16Ideal) (hReference16Ideal := hReference16Ideal) (hPre_finite_conv := hPre_finite_conv)
    ∧ preserves_Kernel17_Kernel17Ideal
    ∧ algebraic_Kernel17Ideal_Reference17Ideal_pre_finite_cross (hKernel17Ideal := hKernel17Ideal) (hReference17Ideal := hReference17Ideal) (hPre_finite_cross := hPre_finite_cross)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite_scores (hKernel29Ideal := hKernel29Ideal) (hReference29Ideal := hReference29Ideal) (hPre_finite_scores := hPre_finite_scores)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal_pre_finite_logs (hKernel31Ideal := hKernel31Ideal) (hReference31Ideal := hReference31Ideal) (hPre_finite_logs := hPre_finite_logs)
-- ==== Pre_finite.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn_part1 {F : FTy → Type} [FloatOps F] (main_arg4 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Pre_finite_conv.lean ====
abbrev S2048x6144 : Shape := ⟨2, ![2048, 6144]⟩
abbrev S4x2048 : Shape := ⟨2, ![4, 2048]⟩
abbrev S1x2048 : Shape := ⟨2, ![1, 2048]⟩
abbrev S2048x1024 : Shape := ⟨2, ![2048, 1024]⟩
abbrev S2048x512 : Shape := ⟨2, ![2048, 512]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x6144 .f32) (main_arg1 : FVec F S4x2048 .f32) (main_arg2 : FVec F S1x2048 .f32) (main_arg3 : FVec F S2048x1024 .f32) (main_arg4 : FVec F S2048x512 .f32) (main_arg5 : FVec F S2048x512 .f32) : IVec S_ 1 :=
  let main_v0 : FVec F S2048x1024 .f32 := Host.absf main_arg3
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := Host.absf main_arg4
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg5
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Pre_finite_cross.lean ====
abbrev S2048x512 : Shape := ⟨2, ![2048, 512]⟩
abbrev S256x1024 : Shape := ⟨2, ![256, 1024]⟩
abbrev S1x128 : Shape := ⟨2, ![1, 128]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bitsLt_bf16_f32 : FTy.bits .bf16 < FTy.bits .f32
  bcast_S_S256x1024 : S_.BroadcastsInDim S256x1024 (![] : Fin 0 → Fin S256x1024.rank)
  reducesTo_S256x1024_S_d0_1 : S256x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v4 : FVec F S2048x512 .f32) (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  let main_v20 : FVec F S2048x512 .f32 := Host.absf main_v4
  let main_cst_6 : FVec F S_ .f32 := constant S_ .f32 0x7F800000#32
  let main_v21 : FVec F S2048x512 .f32 := broadcastInDim S2048x512 ![] bcast_S_S2048x512 main_cst_6
  let main_v22 : IVec S2048x512 1 := cmpf .olt main_v20 main_v21
  let main_c_7 : IVec S_ 1 := constantI S_ 1 1#1
  let main_v23 : IVec S_ 1 := (fun x v => Host.reduce IntOp.andi x v reducesTo_S2048x512_S_d0_1 h_S_) main_v22 main_c_7
  let main_v24 : IVec S_ 1 := andi main_v19 main_v23
  main_v24

def fn {F : FTy → Type} [FloatOps F] (main_arg0 : FVec F S2048x512 .f32) (main_arg1 : FVec F S256x1024 .f32) (main_arg2 : FVec F S1x128 .f32) (main_arg3 : FVec F S1x128 .f32) (main_arg4 : FVec F S2048x512 .bf16) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := (extf .f32 · bitsLt_bf16_f32) main_arg4
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v3 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_v4 main_v14 main_v15 main_v16
-- ==== Pre_finite_logs.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S2048x1024 .f32) (main_arg5 : FVec F S2048x1024 .f32) (main_arg6 : FVec F S1x1024 .f32) : IVec S_ 1 :=
  let main_v0 : FVec F S2048x1024 .f32 := Host.absf main_arg3
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg4
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg5
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_scores.lean ====
abbrev S2048x512 : Shape := ⟨2, ![2048, 512]⟩
abbrev S256x1024 : Shape := ⟨2, ![256, 1024]⟩
abbrev S1x128 : Shape := ⟨2, ![1, 128]⟩
abbrev S_ : Shape := ⟨0, ![]⟩
abbrev S256x512 : Shape := ⟨2, ![256, 512]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  main_v19

def fn {F : FTy → Type} [FloatOps F] (main_arg0 : FVec F S2048x512 .f32) (main_arg1 : FVec F S256x1024 .f32) (main_arg2 : FVec F S1x128 .f32) (main_arg3 : FVec F S1x128 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v3 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_v14 main_v15 main_v16
-- ==== Kernel.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel2.lean ====
abbrev S2048x1024 : Shape := ⟨2, ![2048, 1024]⟩
abbrev S128x16x16x64 : Shape := ⟨4, ![128, 16, 16, 64]⟩
abbrev S16x16x128x128 : Shape := ⟨4, ![16, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x128x128 : Shape := ⟨4, ![1, 1, 128, 128]⟩
abbrev S_ : Shape := ⟨0, ![]⟩
abbrev S16x16x128 : Shape := ⟨3, ![16, 16, 128]⟩
abbrev S16x16x128x1 : Shape := ⟨4, ![16, 16, 128, 1]⟩
abbrev S16x16x64x128 : Shape := ⟨4, ![16, 16, 64, 128]⟩
abbrev S128x16x16 : Shape := ⟨3, ![128, 16, 16]⟩
abbrev S128x16x16x1 : Shape := ⟨4, ![128, 16, 16, 1]⟩
abbrev S2048x128 : Shape := ⟨2, ![2048, 128]⟩
abbrev S256x128 : Shape := ⟨2, ![256, 128]⟩
abbrev S256x1 : Shape := ⟨2, ![256, 1]⟩
abbrev S256 : Shape := ⟨1, ![256]⟩

abbrev nBuf : Space → Nat
  | .hbm => 47
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S128x16x16x64, .f32⟩
  | .hbm, ⟨6, _⟩ => ⟨S128x16x16x64, .f32⟩
  | .hbm, ⟨7, _⟩ => ⟨S128x16x16x64, .f32⟩
  | .hbm, ⟨8, _⟩ => ⟨S16x16x128x128, .f32⟩
  | .hbm, ⟨9, _⟩ => ⟨S128, .i32⟩
  | .hbm, ⟨10, _⟩ => ⟨S128x1, .i32⟩
  | .hbm, ⟨11, _⟩ => ⟨S128, .i32⟩
  | .hbm, ⟨12, _⟩ => ⟨S1x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S1x1x128x128, .i1⟩
  | .hbm, ⟨17, _⟩ => ⟨S_, .f32⟩
  | .hbm, ⟨18, _⟩ => ⟨S_, .f32⟩
  | .hbm, ⟨19, _⟩ => ⟨S16x16x128x128, .i1⟩
  | .hbm, ⟨20, _⟩ => ⟨S16x16x128x128, .f32⟩
  | .hbm, ⟨21, _⟩ => ⟨S16x16x128x128, .f32⟩
  | .hbm, ⟨22, _⟩ => ⟨S_, .f32⟩
  | .hbm, ⟨23, _⟩ => ⟨S16x16x128, .f32⟩
  | .hbm, ⟨24, _⟩ => ⟨S16x16x128x1, .f32⟩
  | .hbm, ⟨25, _⟩ => ⟨S16x16x128x128, .f32⟩
  | .hbm, ⟨26, _⟩ => ⟨S16x16x128x128, .f32⟩
  | .hbm, ⟨27, _⟩ => ⟨S16x16x128x128, .f32⟩
  | .hbm, ⟨28, _⟩ => ⟨S_, .f32⟩
  | .hbm, ⟨29, _⟩ => ⟨S16x16x128, .f32⟩
  | .hbm, ⟨30, _⟩ => ⟨S16x16x128, .f32⟩
  | .hbm, ⟨31, _⟩ => ⟨S16x16x128, .f32⟩
  | .hbm, ⟨32, _⟩ => ⟨S16x16x128, .f32⟩
  | .hbm, ⟨33, _⟩ => ⟨S16x16x64x128, .f32⟩
  | .hbm, ⟨34, _⟩ => ⟨S128x16x16x64, .f32⟩
  | .hbm, ⟨35, _⟩ => ⟨S128x16x16, .f32⟩
  | .hbm, ⟨36, _⟩ => ⟨S128x16x16x1, .f32⟩
  | .hbm, ⟨37, _⟩ => ⟨S128x16x16x64, .f32⟩
  | .hbm, ⟨38, _⟩ => ⟨S128x16x16x64, .f32⟩
  | .hbm, ⟨39, _⟩ => ⟨S128x16x16, .f32⟩
  | .hbm, ⟨40, _⟩ => ⟨S128x16x16x1, .f32⟩
  | .hbm, ⟨41, _⟩ => ⟨S2048x1024, .f32⟩
  | .hbm, ⟨42, _⟩ => ⟨S128x16x16x64, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 1], ![false, false]⟩

def k0_off1 (i : grid0.Coords) (c0_i32_1 : BitVec 32) : Fin 2 → Nat :=
  let arg1 : BitVec 32 := BitVec.ofNat 32 (i 1).val
  let c2048_i32 : BitVec 32 := 2048#32
  let v3 : BitVec 32 := Scalar.muli arg1 c2048_i32
  let v4 : BitVec 32 := Scalar.addi v3 c0_i32_1
  let v97 : Index := Scalar.indexCast v4
  let c0_28 : Index := 0#32
  ![v97.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "mask" => some ⊥
  | _ => none
-- ==== Reference2Ideal.lean ====
abbrev S2048x1024 : Shape := ⟨2, ![2048, 1024]⟩
abbrev S128x16x16x64 : Shape := ⟨4, ![128, 16, 16, 64]⟩
abbrev S16x16x128x128 : Shape := ⟨4, ![16, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x128x128 : Shape := ⟨4, ![1, 1, 128, 128]⟩
abbrev S_ : Shape := ⟨0, ![]⟩
abbrev S16x16x128 : Shape := ⟨3, ![16, 16, 128]⟩
abbrev S16x16x128x1 : Shape := ⟨4, ![16, 16, 128, 1]⟩
abbrev S16x16x64x128 : Shape := ⟨4, ![16, 16, 64, 128]⟩
abbrev S128x16x16 : Shape := ⟨3, ![128, 16, 16]⟩
abbrev S128x16x16x1 : Shape := ⟨4, ![128, 16, 16, 1]⟩
abbrev S16x16x128x64 : Shape := ⟨4, ![16, 16, 128, 64]⟩

abbrev nBuf : Space → Nat
  | .hbm => 107
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S128x16x16x64, .f32⟩
  | .hbm, ⟨6, _⟩ => ⟨S128x16x16x64, .f32⟩
  | .hbm, ⟨7, _⟩ => ⟨S128x16x16x64, .f32⟩
  | .hbm, ⟨8, _⟩ => ⟨S16x16x128x128, .f32⟩
  | .hbm, ⟨9, _⟩ => ⟨S128, .i32⟩
  | .hbm, ⟨10, _⟩ => ⟨S128x1, .i32⟩
  | .hbm, ⟨11, _⟩ => ⟨S128, .i32⟩
  | .hbm, ⟨12, _⟩ => ⟨S1x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S1x1x128x128, .i1⟩
  | .hbm, ⟨17, _⟩ => ⟨S_, .f32⟩
  | .hbm, ⟨18, _⟩ => ⟨S_, .f32⟩
  | .hbm, ⟨19, _⟩ => ⟨S16x16x128x128, .i1⟩
  | .hbm, ⟨20, _⟩ => ⟨S16x16x128x128, .f32⟩
  | .hbm, ⟨21, _⟩ => ⟨S16x16x128x128, .f32⟩
  | .hbm, ⟨22, _⟩ => ⟨S_, .f32⟩
  | .hbm, ⟨23, _⟩ => ⟨S16x16x128x128, .f32⟩
  | .hbm, ⟨24, _⟩ => ⟨S_, .f32⟩
  | .hbm, ⟨25, _⟩ => ⟨S16x16x128, .f32⟩
  | .hbm, ⟨26, _⟩ => ⟨S16x16x128x1, .f32⟩
  | .hbm, ⟨27, _⟩ => ⟨S16x16x128x128, .f32⟩
  | .hbm, ⟨28, _⟩ => ⟨S16x16x128x128, .i1⟩
  | .hbm, ⟨29, _⟩ => ⟨S16x16x128x128, .f32⟩
  | .hbm, ⟨30, _⟩ => ⟨S_, .f32⟩
  | .hbm, ⟨31, _⟩ => ⟨S16x16x128, .f32⟩
  | .hbm, ⟨32, _⟩ => ⟨S16x16x128x1, .f32⟩
  | .hbm, ⟨33, _⟩ => ⟨S16x16x128x128, .f32⟩
  | .hbm, ⟨34, _⟩ => ⟨S16x16x128x128, .f32⟩
  | .hbm, ⟨35, _⟩ => ⟨S16x16x128x128, .f32⟩
  | .hbm, ⟨36, _⟩ => ⟨S_, .f32⟩
  | .hbm, ⟨37, _⟩ => ⟨S16x16x128, .f32⟩
  | .hbm, ⟨38, _⟩ => ⟨S16x16x128, .f32⟩
  | .hbm, ⟨39, _⟩ => ⟨S16x16x128, .f32⟩
  | .hbm, ⟨40, _⟩ => ⟨S16x16x128, .f32⟩
  | .hbm, ⟨41, _⟩ => ⟨S16x16x64x128, .f32⟩
  | .hbm, ⟨42, _⟩ => ⟨S128x16x16x64, .f32⟩
  | .hbm, ⟨43, _⟩ => ⟨S128x16x16, .f32⟩
  | .hbm, ⟨44, _⟩ => ⟨S128x16x16x1, .f32⟩
  | .hbm, ⟨45, _⟩ => ⟨S128x16x16x64, .f32⟩
  | .hbm, ⟨46, _⟩ => ⟨S128x16x16x64, .f32⟩
  | .hbm, ⟨47, _⟩ => ⟨S128x16x16x1, .f32⟩
  | .hbm, ⟨48, _⟩ => ⟨S_, .f32⟩
  | .hbm, ⟨49, _⟩ => ⟨S128x16x16x1, .f32⟩
  | .hbm, ⟨50, _⟩ => ⟨S128x16x16x1, .f32⟩
  | .hbm, ⟨51, _⟩ => ⟨S128x16x16, .f32⟩
  | .hbm, ⟨52, _⟩ => ⟨S128x16x16x1, .f32⟩
  | .hbm, ⟨53, _⟩ => ⟨S2048x1024, .f32⟩
  | .hbm, ⟨54, _⟩ => ⟨S128x16x16x64, .f32⟩
  | .hbm, ⟨55, _⟩ => ⟨S2048x1024, .f32⟩
  | .hbm, ⟨56, _⟩ => ⟨S128x16x16x64, .f32⟩
  | .hbm, ⟨57, _⟩ => ⟨S_, .f32⟩
  | .hbm, ⟨58, _⟩ => ⟨S128x16x16, .f32⟩
  | .hbm, ⟨59, _⟩ => ⟨S128x16x16x1, .f32⟩
  | .hbm, ⟨60, _⟩ => ⟨S128x16x16x64, .f32⟩
  | .hbm, ⟨61, _⟩ => ⟨S_, .f32⟩
  | .hbm, ⟨62, _⟩ => ⟨S128x16x16, .f32⟩
  | .hbm, ⟨63, _⟩ => ⟨S16x16x128, .f32⟩
  | .hbm, ⟨64, _⟩ => ⟨S128x16x16x64, .f32⟩
  | .hbm, ⟨65, _⟩ => ⟨S128x16x16x64, .f32⟩
  | .hbm, ⟨66, _⟩ => ⟨S128x16x16x64, .f32⟩
  | .hbm, ⟨67, _⟩ => ⟨S_, .f32⟩
  | .hbm, ⟨68, _⟩ => ⟨S128x16x16, .f32⟩
  | .hbm, ⟨69, _⟩ => ⟨S128x16x16x1, .f32⟩
  | .hbm, ⟨70, _⟩ => ⟨S128x16x16x1, .f32⟩
  | .hbm, ⟨71, _⟩ => ⟨S128x16x16x64, .f32⟩
  | .hbm, ⟨72, _⟩ => ⟨S128x16x16x64, .f32⟩
  | .hbm, ⟨73, _⟩ => ⟨S_, .f32⟩
  | .hbm, ⟨74, _⟩ => ⟨S128x16x16, .f32⟩
  | .hbm, ⟨75, _⟩ => ⟨S16x16x128, .f32⟩
  | .hbm, ⟨76, _⟩ => ⟨S16x16x64x128, .f32⟩
  | .hbm, ⟨77, _⟩ => ⟨S16x16x128x128, .f32⟩
  | .hbm, ⟨78, _⟩ => ⟨S16x16x64x128, .f32⟩
  | .hbm, ⟨79, _⟩ => ⟨S128x16x16x64, .f32⟩
  | .hbm, ⟨80, _⟩ => ⟨S16x16x128, .f32⟩
  | .hbm, ⟨81, _⟩ => ⟨S16x16x128, .f32⟩
  | .hbm, ⟨82, _⟩ => ⟨S16x16x128x1, .f32⟩
  | .hbm, ⟨83, _⟩ => ⟨S16x16x128x128, .f32⟩
  | .hbm, ⟨84, _⟩ => ⟨S16x16x128x128, .f32⟩
  | .hbm, ⟨85, _⟩ => ⟨S16x16x128x128, .f32⟩
  | .hbm, ⟨86, _⟩ => ⟨S16x16x128x128, .f32⟩
  | .hbm, ⟨87, _⟩ => ⟨S_, .f32⟩
  | .hbm, ⟨88, _⟩ => ⟨S16x16x128, .f32⟩
  | .hbm, ⟨89, _⟩ => ⟨S16x16x128x1, .f32⟩
  | .hbm, ⟨90, _⟩ => ⟨S16x16x128x1, .f32⟩
  | .hbm, ⟨91, _⟩ => ⟨S_, .f32⟩
  | .hbm, ⟨92, _⟩ => ⟨S16x16x128, .f32⟩
  | .hbm, ⟨93, _⟩ => ⟨S16x16x128, .f32⟩
  | .hbm, ⟨94, _⟩ => ⟨S16x16x128x128, .f32⟩
  | .hbm, ⟨95, _⟩ => ⟨S16x16x128x128, .f32⟩
  | .hbm, ⟨96, _⟩ => ⟨S16x16x128x128, .f32⟩
  | .hbm, ⟨97, _⟩ => ⟨S_, .f32⟩
  | .hbm, ⟨98, _⟩ => ⟨S16x16x128x128, .f32⟩
  | .hbm, ⟨99, _⟩ => ⟨S16x16x128x128, .f32⟩
  | .hbm, ⟨100, _⟩ => ⟨S16x16x128x64, .f32⟩
  | .hbm, ⟨101, _⟩ => ⟨S128x16x16x64, .f32⟩
  | .hbm, ⟨102, _⟩ => ⟨S16x16x128x64, .f32⟩
  | .hbm, ⟨103, _⟩ => ⟨S128x16x16x64, .f32⟩
  | .hbm, ⟨104, _⟩ => ⟨S2048x1024, .f32⟩
  | .hbm, ⟨105, _⟩ => ⟨S2048x1024, .f32⟩
  | .hbm, ⟨106, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call1_cst : Ref sig .tc := ⟨.hbm, 97, rfl⟩
abbrev main_call1_v0 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x2048, .bf16⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x8192 : Shape := ⟨2, ![2048, 8192]⟩
abbrev S2048x2048 : Shape := ⟨2, ![2048, 2048]⟩
abbrev S1x2048 : Shape := ⟨2, ![1, 2048]⟩
abbrev S32x2048 : Shape := ⟨2, ![32, 2048]⟩
abbrev S512x1024 : Shape := ⟨2, ![512, 1024]⟩
abbrev S2048x1024 : Shape := ⟨2, ![2048, 1024]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S2048 : Shape := ⟨1, ![2048]⟩
abbrev S4x2048 : Shape := ⟨2, ![4, 2048]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S32x2048, .f32⟩
  | .hbm, ⟨7, _⟩ => ⟨S4x2048, .f32⟩
  | .hbm, ⟨8, _⟩ => ⟨S_, .f32⟩
  | .hbm, ⟨9, _⟩ => ⟨S2048, .f32⟩
  | .hbm, ⟨10, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S8x2048, .f32⟩
  | .local _ .vmem, ⟨12, _⟩ => ⟨S8x2048, .f32⟩
  | .local _ .vmem, ⟨13, _⟩ => ⟨S512x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S2048x8192 : Shape := ⟨2, ![2048, 8192]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x8192, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x8192, .f32⟩
  | .hbm, ⟨26, _⟩ => ⟨S2048x8192, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel6.lean ====
abbrev S2048x2048 : Shape := ⟨2, ![2048, 2048]⟩
abbrev S2048x6144 : Shape := ⟨2, ![2048, 6144]⟩
abbrev S2048x6160 : Shape := ⟨2, ![2048, 6160]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6160, .bf16⟩
  | .hbm, ⟨3, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x6144 : Shape := ⟨2, ![2048, 6144]⟩
abbrev S2048x6160 : Shape := ⟨2, ![2048, 6160]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6160, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x6144 : Shape := ⟨2, ![2048, 6144]⟩
abbrev S2048x6160 : Shape := ⟨2, ![2048, 6160]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6160, .bf16⟩
  | .hbm, ⟨2, _⟩ => ⟨S2048x6144, .bf16⟩
  | .hbm, ⟨3, _⟩ => ⟨S_, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S2048x8192 : Shape := ⟨2, ![2048, 8192]⟩
abbrev S8192x2048 : Shape := ⟨2, ![8192, 2048]⟩
abbrev S2048x2048 : Shape := ⟨2, ![2048, 2048]⟩
abbrev S16x256 : Shape := ⟨2, ![16, 256]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S2x2 : Shape := ⟨2, ![2, 2]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S16x256, .f32⟩
  | .hbm, ⟨7, _⟩ => ⟨S2x2, .f32⟩
  | .hbm, ⟨8, _⟩ => ⟨S_, .f32⟩
  | .hbm, ⟨9, _⟩ => ⟨S_, .f32⟩
  | .hbm, ⟨10, _⟩ => ⟨S1x1, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S8x128, .f32⟩
  | .local _ .vmem, ⟨14, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference11Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x2048, .f32⟩
  | .hbm, ⟨30, _⟩ => ⟨S2048x2048, .f32⟩
  | .hbm, ⟨31, _⟩ => ⟨S2048x2048, .bf16⟩
  | .hbm, ⟨32, _⟩ => ⟨S1x1, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel12.lean ====
abbrev S2048x2048 : Shape := ⟨2, ![2048, 2048]⟩
abbrev S2048x6160 : Shape := ⟨2, ![2048, 6160]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6160, .bf16⟩
  | .hbm, ⟨2, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S2048x6160 : Shape := ⟨2, ![2048, 6160]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6160, .bf16⟩
  | .hbm, ⟨2, _⟩ => ⟨S2048x2048, .f32⟩
  | .hbm, ⟨3, _⟩ => ⟨S2048x6160, .f32⟩
  | .hbm, ⟨4, _⟩ => ⟨S2048x6160, .f32⟩
  | .hbm, ⟨5, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S1x2048 : Shape := ⟨2, ![1, 2048]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel14.lean ====
abbrev S2048x512 : Shape := ⟨2, ![2048, 512]⟩
abbrev S2048x2048 : Shape := ⟨2, ![2048, 2048]⟩
abbrev S1x2048 : Shape := ⟨2, ![1, 2048]⟩
abbrev S32x2048 : Shape := ⟨2, ![32, 2048]⟩
abbrev S512x512 : Shape := ⟨2, ![512, 512]⟩
abbrev S512x2048 : Shape := ⟨2, ![512, 2048]⟩
abbrev S8x2048 : Shape := ⟨2, ![8, 2048]⟩
abbrev S8x128 : Shape := ⟨2, ![8, 128]⟩
abbrev S512 : Shape := ⟨1, ![512]⟩
abbrev S512x1 : Shape := ⟨2, ![512, 1]⟩
abbrev S2048 : Shape := ⟨1, ![2048]⟩
abbrev S4x2048 : Shape := ⟨2, ![4, 2048]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S32x2048, .f32⟩
  | .hbm, ⟨7, _⟩ => ⟨S4x2048, .f32⟩
  | .hbm, ⟨8, _⟩ => ⟨S_, .f32⟩
  | .hbm, ⟨9, _⟩ => ⟨S2048, .f32⟩
  | .hbm, ⟨10, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S8x2048, .f32⟩
  | .local _ .vmem, ⟨11, _⟩ => ⟨S8x2048, .f32⟩
  | .local _ .vmem, ⟨12, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference14Ideal.lean ====
abbrev S2048x512 : Shape := ⟨2, ![2048, 512]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x512, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x512, .f32⟩
  | .hbm, ⟨26, _⟩ => ⟨S2048x512, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel15.lean ====
abbrev S2048x512 : Shape := ⟨2, ![2048, 512]⟩
abbrev S2048x2048 : Shape := ⟨2, ![2048, 2048]⟩
abbrev S1x2048 : Shape := ⟨2, ![1, 2048]⟩
abbrev S32x2048 : Shape := ⟨2, ![32, 2048]⟩
abbrev S512x512 : Shape := ⟨2, ![512, 512]⟩
abbrev S512x2048 : Shape := ⟨2, ![512, 2048]⟩
abbrev S8x2048 : Shape := ⟨2, ![8, 2048]⟩
abbrev S8x128 : Shape := ⟨2, ![8, 128]⟩
abbrev S512 : Shape := ⟨1, ![512]⟩
abbrev S512x1 : Shape := ⟨2, ![512, 1]⟩
abbrev S2048 : Shape := ⟨1, ![2048]⟩
abbrev S4x2048 : Shape := ⟨2, ![4, 2048]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S32x2048, .f32⟩
  | .hbm, ⟨8, _⟩ => ⟨S4x2048, .f32⟩
  | .hbm, ⟨9, _⟩ => ⟨S_, .f32⟩
  | .hbm, ⟨10, _⟩ => ⟨S2048, .f32⟩
  | .hbm, ⟨11, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S8x2048, .f32⟩
  | .local _ .vmem, ⟨13, _⟩ => ⟨S8x2048, .f32⟩
  | .local _ .vmem, ⟨14, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference15Ideal.lean ====
abbrev S2048x512 : Shape := ⟨2, ![2048, 512]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x512, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x512, .f32⟩
  | .hbm, ⟨27, _⟩ => ⟨S2048x512, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel16.lean ====
abbrev S2048x6144 : Shape := ⟨2, ![2048, 6144]⟩
abbrev S4x2048 : Shape := ⟨2, ![4, 2048]⟩
abbrev S1x2048 : Shape := ⟨2, ![1, 2048]⟩
abbrev S2048x1024 : Shape := ⟨2, ![2048, 1024]⟩
abbrev S2048x512 : Shape := ⟨2, ![2048, 512]⟩
abbrev S2048x2048 : Shape := ⟨2, ![2048, 2048]⟩
abbrev S8x2048 : Shape := ⟨2, ![8, 2048]⟩
abbrev S2048x256 : Shape := ⟨2, ![2048, 256]⟩
abbrev S4x256 : Shape := ⟨2, ![4, 256]⟩
abbrev S1x256 : Shape := ⟨2, ![1, 256]⟩
abbrev S8x256 : Shape := ⟨2, ![8, 256]⟩
abbrev S256 : Shape := ⟨1, ![256]⟩

abbrev nBuf : Space → Nat
  | .hbm => 10
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S4x2048, .f32⟩
  | .hbm, ⟨2, _⟩ => ⟨S1x2048, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x2048, .bf16⟩
  | .hbm, ⟨7, _⟩ => ⟨S8x2048, .f32⟩
  | .hbm, ⟨8, _⟩ => ⟨S1x2048, .f32⟩
  | .hbm, ⟨9, _⟩ => ⟨S4x2048, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S8x256, .f32⟩
  | .local _ .vmem, ⟨15, _⟩ => ⟨S8x256, .f32⟩
  | .local _ .vmem, ⟨16, _⟩ => ⟨S1x256, .f32⟩
  | .local _ .vmem, ⟨17, _⟩ => ⟨S1x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  ![c0_i32_0.toNat, v3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2048x6144 : Shape := ⟨2, ![2048, 6144]⟩
abbrev S4x2048 : Shape := ⟨2, ![4, 2048]⟩
abbrev S1x2048 : Shape := ⟨2, ![1, 2048]⟩
abbrev S2048x1024 : Shape := ⟨2, ![2048, 1024]⟩
abbrev S2048x512 : Shape := ⟨2, ![2048, 512]⟩
abbrev S2048x2048 : Shape := ⟨2, ![2048, 2048]⟩
abbrev S_ : Shape := ⟨0, ![]⟩
abbrev S3x2048 : Shape := ⟨2, ![3, 2048]⟩
abbrev S2051x2048 : Shape := ⟨2, ![2051, 2048]⟩
abbrev S2048 : Shape := ⟨1, ![2048]⟩

abbrev nBuf : Space → Nat
  | .hbm => 103
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S4x2048, .f32⟩
  | .hbm, ⟨2, _⟩ => ⟨S1x2048, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x2048, .f32⟩
  | .hbm, ⟨7, _⟩ => ⟨S_, .f32⟩
  | .hbm, ⟨8, _⟩ => ⟨S3x2048, .f32⟩
  | .hbm, ⟨9, _⟩ => ⟨S2051x2048, .f32⟩
  | .hbm, ⟨10, _⟩ => ⟨S_, .f32⟩
  | .hbm, ⟨11, _⟩ => ⟨S3x2048, .f32⟩
  | .hbm, ⟨12, _⟩ => ⟨S1x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2051x2048, .f32⟩
  | .hbm, ⟨59, _⟩ => ⟨S_, .f32⟩
  | .hbm, ⟨60, _⟩ => ⟨S4x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S_, .f32⟩
  | .hbm, ⟨68, _⟩ => ⟨S2051x2048, .f32⟩
  | .hbm, ⟨69, _⟩ => ⟨S2051x2048, .f32⟩
  | .hbm, ⟨70, _⟩ => ⟨S_, .f32⟩
  | .hbm, ⟨71, _⟩ => ⟨S4x2048, .f32⟩
  | .hbm, ⟨72, _⟩ => ⟨S4x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S2051x2048, .f32⟩
  | .hbm, ⟨81, _⟩ => ⟨S2051x2048, .f32⟩
  | .hbm, ⟨82, _⟩ => ⟨S_, .f32⟩
  | .hbm, ⟨83, _⟩ => ⟨S4x2048, .f32⟩
  | .hbm, ⟨84, _⟩ => ⟨S4x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S_, .f32⟩
  | .hbm, ⟨95, _⟩ => ⟨S2051x2048, .f32⟩
  | .hbm, ⟨96, _⟩ => ⟨S2051x2048, .f32⟩
  | .hbm, ⟨97, _⟩ => ⟨S_, .f32⟩
  | .hbm, ⟨98, _⟩ => ⟨S4x2048, .f32⟩
  | .hbm, ⟨99, _⟩ => ⟨S4x2048, .f32⟩
  | .hbm, ⟨100, _⟩ => ⟨S3x2048, .f32⟩
  | .hbm, ⟨101, _⟩ => ⟨S2048x2048, .f32⟩
  | .hbm, ⟨102, _⟩ => ⟨S2048x2048, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v25_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v25_1 : Ref sig .tc := ⟨.hbm, 44, rfl⟩
abbrev main_v25_0 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_1 : Ref sig .tc := ⟨.hbm, 54, rfl⟩
abbrev main_v31 : Ref sig .tc := ⟨.hbm, 55, rfl⟩
abbrev main_v32 : Ref sig .tc := ⟨.hbm, 56, rfl⟩
abbrev main_cst_2 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩

abbrev nD : Nat := 1
abbrev τ : Topo := Topo.v7x

variable {F : FTy → Type} [FloatOps F]
-- ==== Kernel17.lean ====
abbrev S2048x512 : Shape := ⟨2, ![2048, 512]⟩
abbrev S256x1024 : Shape := ⟨2, ![256, 1024]⟩
abbrev S1x128 : Shape := ⟨2, ![1, 128]⟩
abbrev S256x512 : Shape := ⟨2, ![256, 512]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1024x256 : Shape := ⟨2, ![1024, 256]⟩
abbrev S128x256 : Shape := ⟨2, ![128, 256]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .bf16⟩
  | .hbm, ⟨5, _⟩ => ⟨S2048x512, .bf16⟩
  | .hbm, ⟨6, _⟩ => ⟨S256x512, .f32⟩
  | .hbm, ⟨7, _⟩ => ⟨S256x512, .f32⟩
  | .hbm, ⟨8, _⟩ => ⟨S1x128, .f32⟩
  | .hbm, ⟨9, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v129 : BitVec 1 := Scalar.cmpi .eq arg1 c0_i32
  let v132 : BitVec 32 := Scalar.extui v129
  let c0_i32_45 : BitVec 32 := 0#32
  let v133 : BitVec 1 := Scalar.cmpi .ne v132 c0_i32_45
  v133

def k0_cond2 (i : grid0.Coords) : BitVec 1 :=
  let arg1 : BitVec 32 := BitVec.ofNat 32 (i 1).val
  let c0_i32 : BitVec 32 := 0#32
  let v129 : BitVec 1 := Scalar.cmpi .eq arg1 c0_i32
  let v_true : BitVec 1 := 1#1
  let v134 : BitVec 1 := Scalar.xori v129 v_true
  let v135 : BitVec 32 := Scalar.extui v134
  let c0_i32_46 : BitVec 32 := 0#32
  let v136 : BitVec 1 := Scalar.cmpi .ne v135 c0_i32_46
  v136

def k0_cond3 (i : grid0.Coords) : BitVec 1 :=
  let arg1 : BitVec 32 := BitVec.ofNat 32 (i 1).val
  let c0_i32 : BitVec 32 := 0#32
  let v129 : BitVec 1 := Scalar.cmpi .eq arg1 c0_i32
  let v137 : BitVec 32 := Scalar.extui v129
  let c0_i32_47 : BitVec 32 := 0#32
  let v138 : BitVec 1 := Scalar.cmpi .ne v137 c0_i32_47
  v138

def k0_cond4 (i : grid0.Coords) : BitVec 1 :=
  let arg1 : BitVec 32 := BitVec.ofNat 32 (i 1).val
  let c0_i32 : BitVec 32 := 0#32
  let v129 : BitVec 1 := Scalar.cmpi .eq arg1 c0_i32
  let true_48 : BitVec 1 := 1#1
  let v139 : BitVec 1 := Scalar.xori v129 true_48
  let v140 : BitVec 32 := Scalar.extui v139
  let c0_i32_49 : BitVec 32 := 0#32
  let v141 : BitVec 1 := Scalar.cmpi .ne v140 c0_i32_49
  v141

def k0_cond5 (i : grid0.Coords) : BitVec 1 :=
  let arg1 : BitVec 32 := BitVec.ofNat 32 (i 1).val
  let c0_i32 : BitVec 32 := 0#32
  let v129 : BitVec 1 := Scalar.cmpi .eq arg1 c0_i32
  let arg0 : BitVec 32 := BitVec.ofNat 32 (i 0).val
  let c0_i32_44 : BitVec 32 := 0#32
  let v130 : BitVec 1 := Scalar.cmpi .eq arg0 c0_i32_44
  let v131 : BitVec 1 := Scalar.andi v129 v130
  let v142 : BitVec 32 := Scalar.extui v131
  let c0_i32_50 : BitVec 32 := 0#32
  let v143 : BitVec 1 := Scalar.cmpi .ne v142 c0_i32_50
  v143

def k0_cond6 (i : grid0.Coords) : BitVec 1 :=
  let arg1 : BitVec 32 := BitVec.ofNat 32 (i 1).val
  let c0_i32 : BitVec 32 := 0#32
  let v129 : BitVec 1 := Scalar.cmpi .eq arg1 c0_i32
  let arg0 : BitVec 32 := BitVec.ofNat 32 (i 0).val
  let c0_i32_44 : BitVec 32 := 0#32
  let v130 : BitVec 1 := Scalar.cmpi .eq arg0 c0_i32_44
  let v131 : BitVec 1 := Scalar.andi v129 v130
  let true_51 : BitVec 1 := 1#1
  let v144 : BitVec 1 := Scalar.xori v131 true_51
  let v145 : BitVec 32 := Scalar.extui v144
  let c0_i32_52 : BitVec 32 := 0#32
  let v146 : BitVec 1 := Scalar.cmpi .ne v145 c0_i32_52
  v146

def k0_cond7 (i : grid0.Coords) : BitVec 1 :=
  let arg1 : BitVec 32 := BitVec.ofNat 32 (i 1).val
  let c0_i32 : BitVec 32 := 0#32
  let v129 : BitVec 1 := Scalar.cmpi .eq arg1 c0_i32
  let arg0 : BitVec 32 := BitVec.ofNat 32 (i 0).val
  let c0_i32_44 : BitVec 32 := 0#32
  let v130 : BitVec 1 := Scalar.cmpi .eq arg0 c0_i32_44
  let v131 : BitVec 1 := Scalar.andi v129 v130
  let v147 : BitVec 32 := Scalar.extui v131
  let c0_i32_53 : BitVec 32 := 0#32
  let v148 : BitVec 1 := Scalar.cmpi .ne v147 c0_i32_53
  v148

def k0_cond8 (i : grid0.Coords) : BitVec 1 :=
  let arg1 : BitVec 32 := BitVec.ofNat 32 (i 1).val
  let c0_i32 : BitVec 32 := 0#32
  let v129 : BitVec 1 := Scalar.cmpi .eq arg1 c0_i32
  let arg0 : BitVec 32 := BitVec.ofNat 32 (i 0).val
  let c0_i32_44 : BitVec 32 := 0#32
  let v130 : BitVec 1 := Scalar.cmpi .eq arg0 c0_i32_44
  let v131 : BitVec 1 := Scalar.andi v129 v130
  let true_54 : BitVec 1 := 1#1
  let v149 : BitVec 1 := Scalar.xori v131 true_54
  let v150 : BitVec 32 := Scalar.extui v149
  let c0_i32_55 : BitVec 32 := 0#32
  let v151 : BitVec 1 := Scalar.cmpi .ne v150 c0_i32_55
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference17Ideal.lean ====
abbrev S2048x512 : Shape := ⟨2, ![2048, 512]⟩
abbrev S256x1024 : Shape := ⟨2, ![256, 1024]⟩
abbrev S1x128 : Shape := ⟨2, ![1, 128]⟩
abbrev S256x512 : Shape := ⟨2, ![256, 512]⟩
abbrev S2048x4x128 : Shape := ⟨3, ![2048, 4, 128]⟩
abbrev S128 : Shape := ⟨1, ![128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩

abbrev nBuf : Space → Nat
  | .hbm => 180
  | .vmem => 0
  | .smem => 0
  | _ => 0

abbrev hbmTy0_0 (i : Nat) : BufTy := match i % 128 with
  | 0 => ⟨S2048x512, .f32⟩
  | 1 => ⟨S256x1024, .f32⟩
  | 2 => ⟨S1x128, .f32⟩
  | 3 => ⟨S1x128, .f32⟩
  | 4 => ⟨S2048x512, .bf16⟩
  | 5 => ⟨S256x512, .f32⟩
  | 6 => ⟨S256x512, .f32⟩
  | 7 => ⟨S2048x4x128, .f32⟩
  | 8 => ⟨S128, .f32⟩
  | 9 => ⟨S2048x4x128, .f32⟩
  | 10 => ⟨S_, .f32⟩
  | 11 => ⟨S2048x4, .f32⟩
  | 12 => ⟨S2048x4x1, .f32⟩
  | 13 => ⟨S_, .f32⟩
  | 14 => ⟨S2048x4x1, .f32⟩
  | 15 => ⟨S2048x4x1, .f32⟩
  | 16 => ⟨S_, .f32⟩
  | 17 => ⟨S2048x4x1, .f32⟩
  | 18 => ⟨S2048x4x1, .f32⟩
  | 19 => ⟨S2048x4x1, .f32⟩
  | 20 => ⟨S2048x4x1, .f32⟩
  | 21 => ⟨S_, .f32⟩
  | 22 => ⟨S2048x4x1, .f32⟩
  | 23 => ⟨S2048x4x1, .f32⟩
  | 24 => ⟨S2048x4x128, .f32⟩
  | 25 => ⟨S2048x4x128, .f32⟩
  | 26 => ⟨S1x1x128, .f32⟩
  | 27 => ⟨S2048x4x128, .f32⟩
  | 28 => ⟨S2048x4x128, .f32⟩
  | 29 => ⟨S_, .f32⟩
  | 30 => ⟨S2048x4x128, .f32⟩
  | 31 => ⟨S2048x4x128, .f32⟩
  | 32 => ⟨S256x4x128, .f32⟩
  | 33 => ⟨S128, .f32⟩
  | 34 => ⟨S256x4x128, .f32⟩
  | 35 => ⟨S_, .f32⟩
  | 36 => ⟨S256x4, .f32⟩
  | 37 => ⟨S256x4x1, .f32⟩
  | 38 => ⟨S_, .f32⟩
  | 39 => ⟨S256x4x1, .f32⟩
  | 40 => ⟨S256x4x1, .f32⟩
  | 41 => ⟨S_, .f32⟩
  | 42 => ⟨S256x4x1, .f32⟩
  | 43 => ⟨S256x4x1, .f32⟩
  | 44 => ⟨S256x4x1, .f32⟩
  | 45 => ⟨S256x4x1, .f32⟩
  | 46 => ⟨S_, .f32⟩
  | 47 => ⟨S256x4x1, .f32⟩
  | 48 => ⟨S256x4x1, .f32⟩
  | 49 => ⟨S256x4x128, .f32⟩
  | 50 => ⟨S256x4x128, .f32⟩
  | 51 => ⟨S1x1x128, .f32⟩
  | 52 => ⟨S256x4x128, .f32⟩
  | 53 => ⟨S256x4x128, .f32⟩
  | 54 => ⟨S4x2048x256, .f32⟩
  | 55 => ⟨S_, .f32⟩
  | 56 => ⟨S4x2048, .f32⟩
  | 57 => ⟨S4x2048x1, .f32⟩
  | 58 => ⟨S4x2048x256, .f32⟩
  | 59 => ⟨S4x2048x256, .i1⟩
  | 60 => ⟨S4x2048x256, .f32⟩
  | 61 => ⟨S_, .f32⟩
  | 62 => ⟨S4x2048, .f32⟩
  | 63 => ⟨S_, .f32⟩
  | 64 => ⟨S4x2048, .f32⟩
  | 65 => ⟨S4x2048, .f32⟩
  | 66 => ⟨S_, .f32⟩
  | 67 => ⟨S4x2048, .f32⟩
  | 68 => ⟨S4x2048, .i1⟩
  | 69 => ⟨S_, .f32⟩
  | 70 => ⟨S4x2048, .f32⟩
  | 71 => ⟨S4x2048, .i1⟩
  | 72 => ⟨S_, .f32⟩
  | 73 => ⟨S4x2048, .f32⟩
  | 74 => ⟨S_, .f32⟩
  | 75 => ⟨S4x2048, .f32⟩
  | 76 => ⟨S_, .f32⟩
  | 77 => ⟨S4x2048, .f32⟩
  | 78 => ⟨S4x2048, .f32⟩
  | 79 => ⟨S4x2048, .f32⟩
  | 80 => ⟨S4x2048x1, .f32⟩
  | 81 => ⟨S4x2048x256, .f32⟩
  | 82 => ⟨S4x2048x256, .f32⟩
  | 83 => ⟨S4x2048x256, .f32⟩
  | 84 => ⟨S_, .f32⟩
  | 85 => ⟨S4x2048, .f32⟩
  | 86 => ⟨S4x2048x1, .f32⟩
  | 87 => ⟨S4x2048x256, .f32⟩
  | 88 => ⟨S4x2048x256, .f32⟩
  | 89 => ⟨S4x2048x1, .f32⟩
  | 90 => ⟨S_, .f32⟩
  | 91 => ⟨S4x2048x1, .f32⟩
  | 92 => ⟨S4x2048x1, .f32⟩
  | 93 => ⟨S256x4x128, .f32⟩
  | 94 => ⟨S4x128x2048, .f32⟩
  | 95 => ⟨S2048x4x128, .f32⟩
  | 96 => ⟨S2048x512, .f32⟩
  | 97 => ⟨S2048x512, .f32⟩
  | 98 => ⟨S2048x4x128, .f32⟩
  | 99 => ⟨S4x128x2048, .f32⟩
  | 100 => ⟨S4x2048x256, .f32⟩
  | 101 => ⟨S4x128x256, .f32⟩
  | 102 => ⟨S256x4x128, .f32⟩
  | 103 => ⟨S256x512, .f32⟩
  | 104 => ⟨S4x2048x256, .f32⟩
  | 105 => ⟨S4x2048x256, .f32⟩
  | 106 => ⟨S4x2048x256, .f32⟩
  | 107 => ⟨S_, .f32⟩
  | 108 => ⟨S4x2048, .f32⟩
  | 109 => ⟨S4x2048x1, .f32⟩
  | 110 => ⟨S4x2048x1, .f32⟩
  | 111 => ⟨S4x2048x256, .f32⟩
  | 112 => ⟨S4x2048x256, .f32⟩
  | 113 => ⟨S_, .f32⟩
  | 114 => ⟨S4x2048, .f32⟩
  | 115 => ⟨S4x2048x256, .f32⟩
  | 116 => ⟨S4x2048x256, .f32⟩
  | 117 => ⟨S4x2048x256, .f32⟩
  | 118 => ⟨S4x256x128, .f32⟩
  | 119 => ⟨S256x4x128, .f32⟩
  | 120 => ⟨S4x2048x128, .f32⟩
  | 121 => ⟨S2048x4x128, .f32⟩
  | 122 => ⟨S256x4x128, .f32⟩
  | 123 => ⟨S_, .f32⟩
  | 124 => ⟨S128, .f32⟩
  | 125 => ⟨S1x1x128, .f32⟩
  | 126 => ⟨S256x4x128, .f32⟩
  | 127 => ⟨S256x4x128, .f32⟩
  | _ => ⟨S2048x512, .f32⟩

abbrev hbmTy0_1 (i : Nat) : BufTy := match i % 128 with
  | 0 => ⟨S_, .f32⟩
  | 1 => ⟨S128, .f32⟩
  | 2 => ⟨S256x4x128, .f32⟩
  | 3 => ⟨S_, .f32⟩
  | 4 => ⟨S256x4, .f32⟩
  | 5 => ⟨S256x4x1, .f32⟩
  | 6 => ⟨S256x4x128, .f32⟩
  | 7 => ⟨S256x4x128, .f32⟩
  | 8 => ⟨S256x4x1, .f32⟩
  | 9 => ⟨S_, .f32⟩
  | 10 => ⟨S256x4x1, .f32⟩
  | 11 => ⟨S256x4x1, .f32⟩
  | 12 => ⟨S_, .f32⟩
  | 13 => ⟨S256x4, .f32⟩
  | 14 => ⟨S256x4x128, .f32⟩
  | 15 => ⟨S256x4x128, .f32⟩
  | 16 => ⟨S256x4x128, .f32⟩
  | 17 => ⟨S256x4x128, .f32⟩
  | 18 => ⟨S256x4x128, .f32⟩
  | 19 => ⟨S1x128, .f32⟩
  | 20 => ⟨S256x512, .f32⟩
  | 21 => ⟨S_, .f32⟩
  | 22 => ⟨S2048x4x128, .f32⟩
  | 23 => ⟨S2048x4x128, .f32⟩
  | 24 => ⟨S2048x4x128, .f32⟩
  | 25 => ⟨S_, .f32⟩
  | 26 => ⟨S128, .f32⟩
  | 27 => ⟨S1x1x128, .f32⟩
  | 28 => ⟨S2048x4x128, .f32⟩
  | 29 => ⟨S2048x4x128, .f32⟩
  | 30 => ⟨S_, .f32⟩
  | 31 => ⟨S128, .f32⟩
  | 32 => ⟨S2048x4x128, .f32⟩
  | 33 => ⟨S_, .f32⟩
  | 34 => ⟨S2048x4, .f32⟩
  | 35 => ⟨S2048x4x1, .f32⟩
  | 36 => ⟨S2048x4x128, .f32⟩
  | 37 => ⟨S2048x4x128, .f32⟩
  | 38 => ⟨S2048x4x1, .f32⟩
  | 39 => ⟨S_, .f32⟩
  | 40 => ⟨S2048x4x1, .f32⟩
  | 41 => ⟨S2048x4x1, .f32⟩
  | 42 => ⟨S_, .f32⟩
  | 43 => ⟨S2048x4, .f32⟩
  | 44 => ⟨S2048x4x128, .f32⟩
  | 45 => ⟨S2048x4x128, .f32⟩
  | 46 => ⟨S2048x4x128, .f32⟩
  | 47 => ⟨S2048x4x128, .f32⟩
  | 48 => ⟨S2048x4x128, .f32⟩
  | 49 => ⟨S1x128, .f32⟩
  | 50 => ⟨S2048x512, .f32⟩
  | 51 => ⟨S2048x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_19 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_20 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_21 : Ref sig .tc := ⟨.hbm, 128, rfl⟩
abbrev main_v101 : Ref sig .tc := ⟨.hbm, 129, rfl⟩
abbrev main_v102 : Ref sig .tc := ⟨.hbm, 130, rfl⟩
abbrev main_cst_22 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_23 : Ref sig .tc := ⟨.hbm, 137, rfl⟩
abbrev main_v108 : Ref sig .tc := ⟨.hbm, 138, rfl⟩
abbrev main_v109 : Ref sig .tc := ⟨.hbm, 139, rfl⟩
abbrev main_cst_24 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_25 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_26 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_27 : Ref sig .tc := ⟨.hbm, 158, rfl⟩
abbrev main_v125 : Ref sig .tc := ⟨.hbm, 159, rfl⟩
abbrev main_v126 : Ref sig .tc := ⟨.hbm, 160, rfl⟩
abbrev main_cst_28 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_29 : Ref sig .tc := ⟨.hbm, 167, rfl⟩
abbrev main_v132 : Ref sig .tc := ⟨.hbm, 168, rfl⟩
abbrev main_v133 : Ref sig .tc := ⟨.hbm, 169, rfl⟩
abbrev main_cst_30 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩

abbrev nD : Nat := 1
abbrev τ : Topo := Topo.v7x

variable {F : FTy → Type} [FloatOps F]
-- ==== Kernel18.lean ====
abbrev S2048x512 : Shape := ⟨2, ![2048, 512]⟩
abbrev S2048x2048 : Shape := ⟨2, ![2048, 2048]⟩
abbrev S4x512x512 : Shape := ⟨3, ![4, 512, 512]⟩
abbrev S1x512x512 : Shape := ⟨3, ![1, 512, 512]⟩
abbrev S8x128 : Shape := ⟨2, ![8, 128]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x2048, .f32⟩
  | .hbm, ⟨2, _⟩ => ⟨S4x512x512, .bf16⟩
  | .local _ .vmem, ⟨0, _⟩ => ⟨S2048x512, .bf16⟩
  | .local _ .vmem, ⟨1, _⟩ => ⟨S2048x512, .f32⟩
  | .local _ .vmem, ⟨2, _⟩ => ⟨S2048x512, .f32⟩
  | .local _ .vmem, ⟨3, _⟩ => ⟨S1x512x512, .bf16⟩
  | .local _ .vmem, ⟨4, _⟩ => ⟨S1x512x512, .bf16⟩
  | .local _ .vmem, ⟨5, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩
abbrev S512x4x512 : Shape := ⟨3, ![512, 4, 512]⟩
abbrev S4x512x512 : Shape := ⟨3, ![4, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .f32⟩
  | .hbm, ⟨2, _⟩ => ⟨S_, .f32⟩
  | .hbm, ⟨3, _⟩ => ⟨S512x2048, .f32⟩
  | .hbm, ⟨4, _⟩ => ⟨S2048x512, .f32⟩
  | .hbm, ⟨5, _⟩ => ⟨S2048x2048, .f32⟩
  | .hbm, ⟨6, _⟩ => ⟨S2048x512, .f32⟩
  | .hbm, ⟨7, _⟩ => ⟨S512x2048, .f32⟩
  | .hbm, ⟨8, _⟩ => ⟨S512x2048, .bf16⟩
  | .hbm, ⟨9, _⟩ => ⟨S512x4x512, .bf16⟩
  | .hbm, ⟨10, _⟩ => ⟨S4x512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S512x2048, .bf16⟩
  | .hbm, ⟨2, _⟩ => ⟨S2048x512, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512x2048, .bf16⟩
  | .hbm, ⟨2, _⟩ => ⟨S_, .f32⟩
  | .hbm, ⟨3, _⟩ => ⟨S2048x512, .f32⟩
  | .hbm, ⟨4, _⟩ => ⟨S512x2048, .f32⟩
  | .hbm, ⟨5, _⟩ => ⟨S2048x2048, .f32⟩
  | .hbm, ⟨6, _⟩ => ⟨S2048x512, .f32⟩
  | .hbm, ⟨7, _⟩ => ⟨S2048x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S2048x2048 : Shape := ⟨2, ![2048, 2048]⟩
abbrev S2048x512 : Shape := ⟨2, ![2048, 512]⟩
abbrev S2048x1024 : Shape := ⟨2, ![2048, 1024]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x2048 : Shape := ⟨2, ![2048, 2048]⟩
abbrev S2048x512 : Shape := ⟨2, ![2048, 512]⟩
abbrev S_ : Shape := ⟨0, ![]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S2048x2048 : Shape := ⟨2, ![2048, 2048]⟩
abbrev S2048x512 : Shape := ⟨2, ![2048, 512]⟩
abbrev S1024x2048 : Shape := ⟨2, ![1024, 2048]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2048x2048 : Shape := ⟨2, ![2048, 2048]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x2048, .f32⟩
  | .hbm, ⟨3, _⟩ => ⟨S2048x512, .f32⟩
  | .hbm, ⟨4, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S256x2048 : Shape := ⟨2, ![256, 2048]⟩
abbrev S2048x1024 : Shape := ⟨2, ![2048, 1024]⟩
abbrev S256x1024 : Shape := ⟨2, ![256, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | .local _ .vmem, ⟨3, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S2048x512 : Shape := ⟨2, ![2048, 512]⟩
abbrev S512x2048 : Shape := ⟨2, ![512, 2048]⟩
abbrev S2048x2048 : Shape := ⟨2, ![2048, 2048]⟩
abbrev S1x2048 : Shape := ⟨2, ![1, 2048]⟩
abbrev S512x512 : Shape := ⟨2, ![512, 512]⟩
abbrev S8x128 : Shape := ⟨2, ![8, 128]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference25Ideal.lean ====
abbrev S2048x512 : Shape := ⟨2, ![2048, 512]⟩
abbrev S512x2048 : Shape := ⟨2, ![512, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .hbm, ⟨3, _⟩ => ⟨S1x2048, .f32⟩
  | .hbm, ⟨4, _⟩ => ⟨S2048x512, .f32⟩
  | .hbm, ⟨5, _⟩ => ⟨S512x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel26.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference26Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel27.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let arg0 : BitVec 32 := BitVec.ofNat 32 (i 0).val
  let c0_i32_7 : BitVec 32 := 0#32
  let v18 : BitVec 1 := Scalar.cmpi .eq arg0 c0_i32_7
  let v19 : BitVec 1 := Scalar.andi v15 v18
  let v20 : BitVec 32 := Scalar.extui v19
  let c0_i32_8 : BitVec 32 := 0#32
  let v21 : BitVec 1 := Scalar.cmpi .ne v20 c0_i32_8
  v21

def k0_cond2 (i : grid0.Coords) : BitVec 1 :=
  let arg1 : BitVec 32 := BitVec.ofNat 32 (i 1).val
  let c0_i32 : BitVec 32 := 0#32
  let v15 : BitVec 1 := Scalar.cmpi .eq arg1 c0_i32
  let arg0 : BitVec 32 := BitVec.ofNat 32 (i 0).val
  let c0_i32_7 : BitVec 32 := 0#32
  let v18 : BitVec 1 := Scalar.cmpi .eq arg0 c0_i32_7
  let v19 : BitVec 1 := Scalar.andi v15 v18
  let v_true : BitVec 1 := 1#1
  let v22 : BitVec 1 := Scalar.xori v19 v_true
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference27Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel28.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]
-- ==== Reference28Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel29.lean ====
abbrev S2048x512 : Shape := ⟨2, ![2048, 512]⟩
abbrev S256x1024 : Shape := ⟨2, ![256, 1024]⟩
abbrev S1x128 : Shape := ⟨2, ![1, 128]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .bf16⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference29Ideal.lean ====
abbrev S2048x512 : Shape := ⟨2, ![2048, 512]⟩
abbrev S256x1024 : Shape := ⟨2, ![256, 1024]⟩
abbrev S1x128 : Shape := ⟨2, ![1, 128]⟩
abbrev S256x512 : Shape := ⟨2, ![256, 512]⟩
abbrev S2048x4x128 : Shape := ⟨3, ![2048, 4, 128]⟩
abbrev S128 : Shape := ⟨1, ![128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S2048x4x128, .f32⟩
  | .hbm, ⟨7, _⟩ => ⟨S128, .f32⟩
  | .hbm, ⟨8, _⟩ => ⟨S2048x4x128, .f32⟩
  | .hbm, ⟨9, _⟩ => ⟨S_, .f32⟩
  | .hbm, ⟨10, _⟩ => ⟨S2048x4, .f32⟩
  | .hbm, ⟨11, _⟩ => ⟨S2048x4x1, .f32⟩
  | .hbm, ⟨12, _⟩ => ⟨S_, .f32⟩
  | .hbm, ⟨13, _⟩ => ⟨S2048x4x1, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S2048x4x1, .f32⟩
  | .hbm, ⟨19, _⟩ => ⟨S2048x4x128, .f32⟩
  | .hbm, ⟨20, _⟩ => ⟨S2048x4x128, .f32⟩
  | .hbm, ⟨21, _⟩ => ⟨S1x1x128, .f32⟩
  | .hbm, ⟨22, _⟩ => ⟨S2048x4x128, .f32⟩
  | .hbm, ⟨23, _⟩ => ⟨S2048x4x128, .f32⟩
  | .hbm, ⟨24, _⟩ => ⟨S_, .f32⟩
  | .hbm, ⟨25, _⟩ => ⟨S2048x4x128, .f32⟩
  | .hbm, ⟨26, _⟩ => ⟨S2048x4x128, .f32⟩
  | .hbm, ⟨27, _⟩ => ⟨S256x4x128, .f32⟩
  | .hbm, ⟨28, _⟩ => ⟨S128, .f32⟩
  | .hbm, ⟨29, _⟩ => ⟨S256x4x128, .f32⟩
  | .hbm, ⟨30, _⟩ => ⟨S_, .f32⟩
  | .hbm, ⟨31, _⟩ => ⟨S256x4, .f32⟩
  | .hbm, ⟨32, _⟩ => ⟨S256x4x1, .f32⟩
  | .hbm, ⟨33, _⟩ => ⟨S_, .f32⟩
  | .hbm, ⟨34, _⟩ => ⟨S256x4x1, .f32⟩
  | .hbm, ⟨35, _⟩ => ⟨S256x4x1, .f32⟩
  | .hbm, ⟨36, _⟩ => ⟨S_, .f32⟩
  | .hbm, ⟨37, _⟩ => ⟨S256x4x1, .f32⟩
  | .hbm, ⟨38, _⟩ => ⟨S256x4x1, .f32⟩
  | .hbm, ⟨39, _⟩ => ⟨S256x4x1, .f32⟩
  | .hbm, ⟨40, _⟩ => ⟨S256x4x128, .f32⟩
  | .hbm, ⟨41, _⟩ => ⟨S256x4x128, .f32⟩
  | .hbm, ⟨42, _⟩ => ⟨S1x1x128, .f32⟩
  | .hbm, ⟨43, _⟩ => ⟨S256x4x128, .f32⟩
  | .hbm, ⟨44, _⟩ => ⟨S256x4x128, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S_, .f32⟩
  | .hbm, ⟨49, _⟩ => ⟨S4x2048, .f32⟩
  | .hbm, ⟨50, _⟩ => ⟨S4x2048, .f32⟩
  | .hbm, ⟨51, _⟩ => ⟨S4x2048x1, .f32⟩
  | .hbm, ⟨52, _⟩ => ⟨S4x2048x256, .f32⟩
  | .hbm, ⟨53, _⟩ => ⟨S4x2048x256, .f32⟩
  | .hbm, ⟨54, _⟩ => ⟨S4x2048x256, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x256, .f32⟩
  | .hbm, ⟨59, _⟩ => ⟨S4x2048x256, .f32⟩
  | .hbm, ⟨60, _⟩ => ⟨S256x4x128, .f32⟩
  | .hbm, ⟨61, _⟩ => ⟨S4x128x2048, .f32⟩
  | .hbm, ⟨62, _⟩ => ⟨S2048x4x128, .f32⟩
  | .hbm, ⟨63, _⟩ => ⟨S2048x512, .f32⟩
  | .hbm, ⟨64, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel30.lean ====
abbrev S2048x6144 : Shape := ⟨2, ![2048, 6144]⟩
abbrev S4x2048 : Shape := ⟨2, ![4, 2048]⟩
abbrev S1x2048 : Shape := ⟨2, ![1, 2048]⟩
abbrev S2048x2048 : Shape := ⟨2, ![2048, 2048]⟩
abbrev S2048x256 : Shape := ⟨2, ![2048, 256]⟩
abbrev S4x256 : Shape := ⟨2, ![4, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S4x2048, .f32⟩
  | .hbm, ⟨2, _⟩ => ⟨S1x2048, .f32⟩
  | .hbm, ⟨3, _⟩ => ⟨S2048x2048, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S2048x6144 : Shape := ⟨2, ![2048, 6144]⟩
abbrev S4x2048 : Shape := ⟨2, ![4, 2048]⟩
abbrev S1x2048 : Shape := ⟨2, ![1, 2048]⟩
abbrev S2048x2048 : Shape := ⟨2, ![2048, 2048]⟩
abbrev S_ : Shape := ⟨0, ![]⟩
abbrev S3x2048 : Shape := ⟨2, ![3, 2048]⟩
abbrev S2051x2048 : Shape := ⟨2, ![2051, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S4x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S3x2048, .f32⟩
  | .hbm, ⟨6, _⟩ => ⟨S2051x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S1x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel31.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference31Ideal.lean ====
abbrev S2048x1024 : Shape := ⟨2, ![2048, 1024]⟩
abbrev S1x1024 : Shape := ⟨2, ![1, 1024]⟩
abbrev S1x2048x1024 : Shape := ⟨3, ![1, 2048, 1024]⟩
abbrev S3x2048x1024 : Shape := ⟨3, ![3, 2048, 1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S3x2048x1024, .f32⟩
  | .hbm, ⟨11, _⟩ => ⟨S_, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S1x2048x1024, .f32⟩
  | .hbm, ⟨17, _⟩ => ⟨S3x2048x1024, .f32⟩
  | .hbm, ⟨18, _⟩ => ⟨S3x2048x1024, .f32⟩
  | .hbm, ⟨19, _⟩ => ⟨S3x2048x1024, .f32⟩
  | .hbm, ⟨20, _⟩ => ⟨S_, .f32⟩
  | .hbm, ⟨21, _⟩ => ⟨S2048x1024, .f32⟩
  | .hbm, ⟨22, _⟩ => ⟨S1x2048x1024, .f32⟩
  | .hbm, ⟨23, _⟩ => ⟨S3x2048x1024, .f32⟩
  | .hbm, ⟨24, _⟩ => ⟨S3x2048x1024, .f32⟩
  | .hbm, ⟨25, _⟩ => ⟨S1x2048x1024, .f32⟩
  | .hbm, ⟨26, _⟩ => ⟨S2048x1024, .f32⟩
  | .hbm, ⟨27, _⟩ => ⟨S2048x1024, .f32⟩
  | .hbm, ⟨28, _⟩ => ⟨S1x2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Products.lean ====
/- The gradients of the step's weight products: each kernel's result array read at an index, and the same of its reference. -/
module

public import proofs.«01_k».proof.Defs
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel6Ideal.Frame
public import proofs.«01_k».proof.Proof.Gen.Reference6Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.DwOut

open Cert.Kernel8Ideal Cert.Kernel8Ideal.Gen

variable (m : (ℓ : Loc nD τ sig) → Buf (Elt Ideal) ℓ)

open Cert.Reference8Ideal.Read in
/-- The reference at an index. -/
theorem ref_apply (a : FVec Ideal S2048x2048 .bf16) (b : FVec Ideal S2048x2048 .f32) (j : S2048x2048.Idx) :
    val_main_v5 (F := Ideal) a b j = ∑ k : Fin 2048, a (ix2 k (j 0)) * b (ix2 k (j 1)) := by
  rw [val_main_v5_apply, val_main_v4_apply, val_main_v3_apply]
  simp only [val_main_v1_apply]
  pointwise
  have el : ∀ k, lidx_main_v3 (idx_main_v4 j) k = ix2 k (j 1) := fun k => funext fun a => by match a with | ⟨0, _⟩ => rfl | ⟨1, _⟩ => rfl
  have er : ∀ k, ridx_main_v3 (idx_main_v4 j) k = ix2 k (j 0) := fun k => funext fun a => by match a with | ⟨0, _⟩ => rfl | ⟨1, _⟩ => rfl
  simp only [el, er]
  exact Finset.sum_congr rfl fun k _ => mul_comm _ _

/-- Every window's block index at a grid point. -/
theorem idx : ∀ t : Fin cfg0.N, win0_0.index t = ![0, t.val / 2] ∧ win0_1.index t = ![0, t.val % 2]
    ∧ win0_2.index t = ![t.val / 2, t.val % 2] := (by decide +kernel : ∀ t : Fin grid0.N, _)

/-- The result array after the run. -/
theorem final (c : Dev nD) : (dats m 0 c).arrAt 2 cfg0.N = Cert.Reference8Ideal.Read.val_main_v5 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel8Ideal.DwOut

namespace Cert.Kernel9Ideal.DMix

open Cert.Kernel9Ideal Cert.Kernel9Ideal.Gen

variable (m : (ℓ : Loc nD τ sig) → Buf (Elt Ideal) ℓ)

open Cert.Reference9Ideal.Read in
/-- The reference at an index. -/
theorem ref_apply (a : FVec Ideal S2048x2048 .f32) (b : FVec Ideal S2048x2048 .bf16) (j : S2048x2048.Idx) :
    val_main_v3 (F := Ideal) a b j = ∑ k : Fin 2048, a (ix2 (j 0) k) * b (ix2 (j 1) k) := by
  rw [val_main_v3_apply]
  simp only [val_main_v1_apply]
  pointwise
  have el : ∀ k, lidx_main_v3 j k = ix2 (j 0) k := fun k => funext fun a => by match a with | ⟨0, _⟩ => rfl | ⟨1, _⟩ => rfl
  have er : ∀ k, ridx_main_v3 j k = ix2 (j 1) k := fun k => funext fun a => by match a with | ⟨0, _⟩ => rfl | ⟨1, _⟩ => rfl
  simp only [el, er]
  rfl

/-- Every window's block index at a grid point. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

/-- The result array after the run. -/
theorem final (c : Dev nD) : (dats m 0 c).arrAt 2 cfg0.N = Cert.Reference9Ideal.Read.val_main_v3 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel9Ideal.DMix

namespace Cert.Kernel4Ideal.DwUp

open Cert.Kernel4Ideal Cert.Kernel4Ideal.Gen

variable (m : (ℓ : Loc nD τ sig) → Buf (Elt Ideal) ℓ)

open Cert.Reference4Ideal.Read in
/-- The reference at an index: shard `j 0` holds the columns from `2048 * j 0`. -/
theorem ref_apply (a : FVec Ideal S2048x2048 .bf16) (b : FVec Ideal S2048x8192 .bf16) (j : S4x2048x2048.Idx) :
    val_main_v8 (F := Ideal) a b j = ∑ k : Fin 2048, a (ix2 k (j 1)) * b (ix2 k ⟨(j 0).val * 2048 + (j 2).val, by
      have h0 : (j 0).val < 4 := (j 0).isLt
      have h2 : (j 2).val < 2048 := (j 2).isLt
      omega⟩) := by
  have h0 : (j 0).val < 4 := (j 0).isLt
  have h1 : (j 1).val < 2048 := (j 1).isLt
  have h2 : (j 2).val < 2048 := (j 2).isLt
  rw [val_main_v8_apply, val_main_v7_apply, val_main_v6_apply, val_main_v5_apply, val_main_v4_apply]
  simp only [val_main_v1_apply, val_main_v3_apply]
  pointwise
  have el : ∀ k, lidx_main_v4 (idx_main_v5 (idx_main_v7 (idx_main_v8 j))) k = ix2 k ⟨(j 0).val * 2048 + (j 2).val, by omega⟩ :=
    fun k => funext fun a => by match a with | ⟨0, _⟩ => rfl | ⟨1, _⟩ => exact Fin.ext (by show _ = (j 0).val * 2048 + (j 2).val; simp only [idx_main_v5, idx_main_v7, idx_main_v8]; omega)
  have er : ∀ k, ridx_main_v4 (idx_main_v5 (idx_main_v7 (idx_main_v8 j))) k = ix2 k (j 1) :=
    fun k => funext fun a => by match a with | ⟨0, _⟩ => rfl | ⟨1, _⟩ => exact Fin.ext (by show _ = (j 1).val; simp only [idx_main_v5, idx_main_v7, idx_main_v8]; omega)
  simp only [el, er]
  exact Finset.sum_congr rfl fun k _ => mul_comm _ _

/-- Every window's block index at a grid point. -/
theorem idx : ∀ t : Fin cfg0.N, win0_0.index t = ![0, t.val / 8] ∧ win0_1.index t = ![0, t.val % 8]
    ∧ win0_2.index t = ![t.val % 8 / 2, t.val / 8, t.val % 8 % 2] := (by decide +kernel : ∀ t : Fin grid0.N, _)

/-- The result array after the run. -/
theorem final (c : Dev nD) : (dats m 0 c).arrAt 2 cfg0.N = Cert.Reference4Ideal.Read.val_main_v8 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel4Ideal.DwUp

namespace Cert.Kernel3Ideal.DwDown

open Cert.Kernel3Ideal Cert.Kernel3Ideal.Gen

variable (m : (ℓ : Loc nD τ sig) → Buf (Elt Ideal) ℓ)

open Cert.Reference3Ideal.Read in
/-- The reference at an index. -/
theorem ref_apply (u : FVec Ideal S2048x8192 .f32) (b : FVec Ideal S2048x2048 .bf16) (j : S8192x2048.Idx) :
    val_main_v7 (F := Ideal) u b j = ∑ k : Fin 2048, val_main_v2 (F := Ideal) u (ix2 k (j 0)) * b (ix2 k (j 1)) := by
  rw [val_main_v7_apply, val_main_v6_apply, val_main_v5_apply]
  simp only [val_main_v4_apply]
  generalize val_main_v2 (F := Ideal) u = a
  pointwise
  have el : ∀ k, lidx_main_v5 (idx_main_v6 j) k = ix2 k (j 1) := fun k => funext fun a => by match a with | ⟨0, _⟩ => rfl | ⟨1, _⟩ => rfl
  have er : ∀ k, ridx_main_v5 (idx_main_v6 j) k = ix2 k (j 0) := fun k => funext fun a => by match a with | ⟨0, _⟩ => rfl | ⟨1, _⟩ => rfl
  simp only [el, er]
  exact Finset.sum_congr rfl fun k _ => mul_comm _ _

/-- The activation the host prepares is the reference's. -/
theorem act (c : Dev nD) : V m c (Pipeline.arrRef spec0 0)
    = Cert.Reference3Ideal.Read.val_main_v2 (F := Ideal) (m ((c : Thread nD τ).loc main_arg0)) := by
  unfold_abbrev_sides
  simp only [hostOps0, hostOps0_1, List.flatten_cons, List.flatten_nil, List.append_nil, List.cons_append, List.nil_append]
  simp only [StableHlo.after_cons, StableHlo.after_nil]
  after_results_simp
  rfl

/-- Every window's block index at a grid point. -/
theorem idx : ∀ t : Fin cfg0.N, win0_0.index t = ![0, t.val / 2] ∧ win0_1.index t = ![0, t.val % 2]
    ∧ win0_2.index t = ![t.val / 2, t.val % 2] := (by decide +kernel : ∀ t : Fin grid0.N, _)

/-- The result array after the run. -/
theorem final (c : Dev nD) : (dats m 0 c).arrAt 2 cfg0.N = Cert.Reference3Ideal.Read.val_main_v7 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  rw [← act m c, ← V_main_arg1 m c]
  pointwise [k0_pay1]
  blk_point [iblk, idx t]

end Cert.Kernel3Ideal.DwDown
-- ==== Proof.NormGrad.lean ====
/- The gradient of a row normalisation, as the programs compute it: of one row and of its gain. -/
module

public import Idealize.ShloMosaic.PureOps.Ideal

@[expose] public section

noncomputable section

open Idealize.ShloMosaic

namespace Cert.NormGrad

/-- The mean square of a row of 2048 entries, with the small constant that keeps it positive. -/
def ms (x : Fin 2048 → EReal) : EReal :=
  Ideal.div (∑ k, x k * x k) (Ideal.ofBits FTy.f32 1157627904#32) + Ideal.ofBits FTy.f32 897988541#32

/-- The normalised row with its gain. -/
def nrm (x g : Fin 2048 → EReal) (q : Fin 2048) : EReal := x q * Ideal.rsqrt (ms x) * g q

/-- The factor of the row's own entries in the row's gradient: what passes through the mean square. -/
def back (x ct g : Fin 2048 → EReal) : EReal :=
  ∑ _ : Fin 1, Ideal.div ((∑ k, x k * (ct k * g k)) * (Ideal.ofBits FTy.f32 3204448256#32 * Ideal.div (Ideal.rsqrt (ms x)) (ms x)))
    (Ideal.ofBits FTy.f32 1157627904#32)

/-- The gradient of the row: `ct` the cotangent of the normalised row, `g` the gain. -/
def dx (x ct g : Fin 2048 → EReal) (q : Fin 2048) : EReal :=
  ct q * g q * Ideal.rsqrt (ms x) + x q * back x ct g + back x ct g * x q

/-- A row's part of the gradient of the gain. -/
def dg (x ct : Fin 2048 → EReal) (q : Fin 2048) : EReal := x q * Ideal.rsqrt (ms x) * ct q

/-- The order in which a residual is added to the gradient's three parts. -/
theorem add_last (a b c d : EReal) : d + a + b + c = a + b + c + d := by abel

end Cert.NormGrad

end
-- ==== Proof.DHm.lean ====
/- The gradient of the stream and of the gain before the channel mixer: the product, the normalisation and the residual. -/
module

public import proofs.«01_k».proof.Defs
public import proofs.«01_k».proof.Proof.Gen.Kernel5Ideal.Frame
public import proofs.«01_k».proof.Proof.Gen.Reference5Ideal.Read
public import proofs.«01_k».proof.Proof.NormGrad
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.DHm

open Cert.Kernel5Ideal Cert.Kernel5Ideal.Gen

/-- The kernel's last step at an index: the row's gradient and the residual. -/
theorem pay5 (a x d : FVec Ideal S512x2048 .f32) (g : FVec Ideal S1x2048 .f32) (p : Fin 512) (q : Fin 2048) :
    k0_pay5 (F := Ideal) a x d g (ix2 p q) = NormGrad.dx (fun k => x (ix2 p k)) (fun k => a (ix2 p k)) (fun k => g (ix2 0 k)) q + d (ix2 p q) := by
  pointwise [k0_pay5, k0_pay4, k0_pay3]
  rfl

/-- And the rows' part of the gain's gradient. -/
theorem pay6 (a x : FVec Ideal S512x2048 .f32) (e : Fin 8) (q : Fin 2048) :
    k0_pay6 (F := Ideal) a x (ix2 e q) = ∑ p : Fin 512, NormGrad.dg (fun k => x (ix2 p k)) (fun k => a (ix2 p k)) q := by
  pointwise [k0_pay6, k0_pay4, k0_pay3]
  rfl

open Cert.Reference5Ideal.Read in
/-- The reference's mean square of a row. -/
theorem ref_ms (x : FVec Ideal S2048x2048 .f32) (i : (⟨2, ![2048, 1]⟩ : Shape).Idx) :
    val_main_v7 (F := Ideal) x i = NormGrad.ms fun k => x (ix2 (i 0) k) := by
  pointwise [val_main_v7, val_main_v6, val_main_v5, val_main_v4, val_main_v3, val_main_v2, val_main_v1, val_main_cst, val_main_cst_0, val_main_cst_1]
  rfl

open Cert.Reference5Ideal.Read in
/-- The reference's gradient of the rows at an index. -/
theorem ref_dx (u w : FVec Ideal S2048x8192 .bf16) (x d : FVec Ideal S2048x2048 .f32) (g : FVec Ideal S1x2048 .f32) (p q : Fin 2048) :
    val_main_v38 (F := Ideal) u w x d g (ix2 p q)
      = NormGrad.dx (fun k => x (ix2 p k)) (fun k => val_main_v18 (F := Ideal) u w (ix2 p k)) (fun k => g (ix2 0 k)) q + d (ix2 p q) := by
  pointwise [val_main_v38, val_main_v37, val_main_v36, val_main_v35, val_main_v34, val_main_v33, val_main_v32, val_main_v31, val_main_v30, val_main_v29, val_main_v28,
    val_main_v27, val_main_v26, val_main_v25, val_main_v24, val_main_v23, val_main_v22, val_main_v11, val_main_v10, val_main_v9, val_main_v8,
    val_main_cst_2, val_main_cst_4, val_main_cst_5, val_main_cst_6]
  simp only [ref_ms]
  refine Eq.trans ?_ (NormGrad.add_last _ _ _ _)
  rfl

open Cert.Reference5Ideal.Read in
/-- The reference's gradient of the gain at an index. -/
theorem ref_dg (u w : FVec Ideal S2048x8192 .bf16) (x : FVec Ideal S2048x2048 .f32) (q : Fin 2048) :
    val_main_v21 (F := Ideal) u w x (ix2 0 q)
      = ∑ p : Fin 2048, NormGrad.dg (fun k => x (ix2 p k)) (fun k => val_main_v18 (F := Ideal) u w (ix2 p k)) q := by
  pointwise [val_main_v21, val_main_v20, val_main_v19, val_main_v13, val_main_v12, val_main_v8, val_main_cst_3]
  simp only [ref_ms]
  rfl

variable (m : (ℓ : Loc nD τ sig) → Buf (Elt Ideal) ℓ)

/-- Every window's block index at a grid point. -/
theorem idx : ∀ t : Fin cfg0.N, win0_0.index t = ![t.val / 8, t.val % 8] ∧ win0_1.index t = ![0, t.val % 8]
    ∧ win0_2.index t = ![t.val / 8, 0] ∧ win0_3.index t = ![t.val / 8, 0] ∧ win0_4.index t = ![0, 0]
    ∧ win0_5.index t = ![t.val / 8, 0] ∧ win0_6.index t = ![t.val / 8, 0] := (by decide +kernel : ∀ t : Fin grid0.N, _)

/-- The running product at the end of a run of eight blocks of the contraction. -/
theorem acc (c : Dev nD) (t : Fin cfg0.N) (h : t.val % 8 = 7) (j : S512x2048.Idx) :
    (outsAt0 m c t.val t.isLt).2.2 j = ∑ s : Fin 8, ∑ k : Fin 1024,
      (show FVec Ideal S512x1024 .bf16 from iblk m c 0 ⟨8 * (t.val / 8) + s.val, Pipeline.run_point_lt_of_flush t h s⟩) (ix2 (j 0) k)
        * (show FVec Ideal S2048x1024 .bf16 from iblk m c 1 ⟨8 * (t.val / 8) + s.val, Pipeline.run_point_lt_of_flush t h s⟩) (ix2 (j 1) k) := by
  have e := Pipeline.eq_sum_fin_of_reset_step_apply_of_flush (fun n h => (outsAt0 m c n h).2.2) 8 (fun _ => (0 : EReal))
    (fun p j => ∑ k : Fin 1024, (show FVec Ideal S512x1024 .bf16 from iblk m c 0 p) (ix2 (j 0) k) * (show FVec Ideal S2048x1024 .bf16 from iblk m c 1 p) (ix2 (j 1) k))
    (fun t h j => by rw [outsAt0_A m c t h (by omega)]; frame_out; pointwise [k0_pay1, k0_pay2])
    (fun t h j => by
      by_cases h1 : t.val % 8 = 7
      · rw [outsAt0_C m c t h h1]; frame_out; pointwise [k0_pay2]; simp only [read_unread_whole]
      · rw [outsAt0_B m c t h h1]; frame_out; pointwise [k0_pay2]; simp only [read_unread_whole]) t h j
  rw [e, zero_add]

/-- The cotangent of the normalised row, off the arguments. -/
def ct (c : Dev nD) (p : Fin 2048) (k : Fin 2048) : EReal :=
  Cert.Reference5Ideal.Read.val_main_v18 (F := Ideal) (m ((c : Thread nD τ).loc main_arg0)) (m ((c : Thread nD τ).loc main_arg1)) (ix2 p k)

/-- The row of the array that row `p` of a point's blocks is. -/
def row (t : Fin cfg0.N) (p : Fin 512) : Fin 2048 := ⟨t.val / 8 * 512 + p.val, by have := lt_of_lt_of_eq t.isLt N_0; omega⟩

open Cert.Reference5Ideal.Read in
theorem acc_eq (c : Dev nD) (t : Fin cfg0.N) (h : t.val % 8 = 7) (p : Fin 512) (k : Fin 2048) :
    (outsAt0 m c t.val t.isLt).2.2 (ix2 p k) = ct m c (row t p) k := by
  rw [acc m c t h]
  unfold ct
  rw [val_main_v18_apply]
  simp only [val_main_v17_apply, val_main_v0_apply]
  pointwise
  refine Fin.sum_mul_add_congr fun s l hl => ?_
  blk_point [iblk, V, row, idx t, idx ⟨_, Pipeline.run_point_lt_of_flush t h s⟩]

/-- The rows of the stream a point reads. -/
theorem rows (c : Dev nD) (t : Fin cfg0.N) (p : Fin 512) (k : Fin 2048) :
    (show FVec Ideal S512x2048 .f32 from iblk m c 2 t) (ix2 p k) = m ((c : Thread nD τ).loc main_arg2) (ix2 (row t p) k) := by
  blk_point [iblk, V, row, idx t]

/-- The residual's rows a point reads. -/
theorem res (c : Dev nD) (t : Fin cfg0.N) (p : Fin 512) (k : Fin 2048) :
    (show FVec Ideal S512x2048 .f32 from iblk m c 3 t) (ix2 p k) = m ((c : Thread nD τ).loc main_arg3) (ix2 (row t p) k) := by
  blk_point [iblk, V, row, idx t]

/-- The gain. -/
theorem gain (c : Dev nD) (t : Fin cfg0.N) (k : Fin 2048) :
    (show FVec Ideal S1x2048 .f32 from iblk m c 4 t) (ix2 0 k) = m ((c : Thread nD τ).loc main_arg4) (ix2 0 k) := by
  blk_point [iblk, V, idx t]

/-- The two results' blocks at a run's last point, by the running product there. -/
theorem outs (c : Dev nD) (t : Fin cfg0.N) (h : t.val % 8 = 7) :
    (outsAt0 m c t.val t.isLt).1 = k0_pay5 (outsAt0 m c t.val t.isLt).2.2 (iblk m c 2 t) (iblk m c 3 t) (iblk m c 4 t)
    ∧ (outsAt0 m c t.val t.isLt).2.1 = k0_pay6 (outsAt0 m c t.val t.isLt).2.2 (iblk m c 2 t) := by
  rw [outsAt0_C m c t (by omega) h]
  constructor <;> frame_out

/-- The gradient of the stream, after the run. -/
theorem final_dx (c : Dev nD) : (dats m 0 c).arrAt 5 cfg0.N = Cert.Reference5Ideal.Read.val_main_v38 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  have h : t.val % 8 = 7 := (flush0_5 t).mp hf
  blk_simp
  rw [after0_5, (outs m c t h).1]
  obtain ⟨p, q, rfl⟩ : ∃ (p : Fin 512) (q : Fin 2048), y = ix2 p q := ⟨y 0, y 1, funext fun a => by match a with | ⟨0, _⟩ => rfl | ⟨1, _⟩ => rfl⟩
  refine (pay5 _ _ _ _ p q).trans ?_
  have e : (win0_5.blk t).view.emb (ix2 p q) = ix2 (row t p) q := by blk_ext [row, idx t]
  rw [e, ref_dx]
  refine congrArg₂ (· + ·) ?_ (res m c t p q)
  have e1 := funext fun k => rows m c t p k
  have e2 := funext fun k => acc_eq m c t h p k
  have e3 := funext fun k => gain m c t k
  exact congr (congr (congr (congrArg NormGrad.dx e1) e2) e3) rfl

/-- The parts of the gain's gradient the tiles leave, each in eight equal rows. -/
def parts (c : Dev nD) : FVec Ideal S32x2048 .f32 := fun i =>
  ∑ p : Fin 512, NormGrad.dg (fun k => m ((c : Thread nD τ).loc main_arg2) (ix2 (⟨(i 0).val / 8 * 512 + p.val, by have : (i 0).val < 32 := (i 0).isLt; omega⟩ : Fin 2048) k))
    (fun k => ct m c ⟨(i 0).val / 8 * 512 + p.val, by have : (i 0).val < 32 := (i 0).isLt; omega⟩ k) (i 1)

theorem final_parts (c : Dev nD) : (dats m 0 c).arrAt 6 cfg0.N = parts m c := by
  refine (dats m 0 c).arrAt_eq_of_covers 6 _ (by decide +kernel) fun t hf y => ?_
  have h : t.val % 8 = 7 := (flush0_6 t).mp hf
  blk_simp
  rw [after0_6, (outs m c t h).2]
  obtain ⟨p, q, rfl⟩ : ∃ (p : Fin 8) (q : Fin 2048), y = ix2 p q := ⟨y 0, y 1, funext fun a => by match a with | ⟨0, _⟩ => rfl | ⟨1, _⟩ => rfl⟩
  refine (pay6 _ _ p q).trans ?_
  have e : (win0_6.blk t).view.emb (ix2 p q) = ix2 (⟨t.val / 8 * 8 + p.val, by have := lt_of_lt_of_eq t.isLt N_0; omega⟩ : Fin 32) q := by blk_ext [idx t]
  rw [e]
  unfold parts
  refine Finset.sum_congr rfl fun r _ => ?_
  have er : row t r = ⟨(t.val / 8 * 8 + p.val) / 8 * 512 + r.val, by have := lt_of_lt_of_eq t.isLt N_0; omega⟩ := Fin.ext (by simp only [row]; omega)
  have e1 := funext fun k => rows m c t r k
  have e2 := funext fun k => acc_eq m c t h r k
  rw [er] at e1 e2
  exact congr (congr (congrArg NormGrad.dg e1) e2) rfl

/-- The lines after the call: the tiles' parts added up. -/
theorem tail (c : Dev nD) : Pipeline.afterTail₀ cfgs (dats m) 0 (V0 m) [hostOps1] c main_v3
    = broadcastInDim S1x2048 ![1] bcast_S2048_S1x2048_1 (Host.reduceAdd (F := Ideal) (φ := .f32) (Host.slice S4x2048 ![0, 0] ![8, 1] ((dats m 0 c).arrAt 6 cfg0.N) slicesBy_S32x2048_S4x2048_0s8_0s1) (constant S_ .f32 0x00000000#32) reducesTo_S4x2048_S2048_d0 h_S_) := by
  unfold Pipeline.afterTail₀
  simp only [hostOps1, List.flatten_cons, List.flatten_nil, List.append_nil, List.cons_append, List.nil_append]
  simp only [StableHlo.after_cons, StableHlo.after_nil]
  after_results_simp
  have e : Pipeline.withArrays (cfgs 0).spec c (V0 m c) (fun w => (dats m 0 c).arrAt w (cfgs 0).N) (Proc.devRef .tc main_v0_1)
    = (dats m 0 c).arrAt 6 cfg0.N := Pipeline.withArrays_arr (cfgs 0).spec (by decide) c (V0 m c) _ 6
  rw [e]

/-- The gradient of the gain, after the run. -/
theorem final_dg (c : Dev nD) : Pipeline.afterTail₀ cfgs (dats m) 0 (V0 m) [hostOps1] c main_v3 = Cert.Reference5Ideal.Read.val_main_v21 (F := Ideal)
    (m ((c : Thread nD τ).loc main_arg0)) (m ((c : Thread nD τ).loc main_arg1)) (m ((c : Thread nD τ).loc main_arg2)) := by
  refine (tail m c).trans (funext fun j => ?_)
  obtain ⟨q, rfl⟩ : ∃ q : Fin 2048, j = ix2 0 q := ⟨j 1, funext fun a => by match a with | ⟨0, _⟩ => exact Subsingleton.elim (α := Fin 1) _ _ | ⟨1, _⟩ => rfl⟩
  rw [ref_dg, final_parts]
  pointwise [parts]
  refine Fin.sum_mul_add_congr fun a p hl => ?_
  have er : (⟨8 * a.val / 8 * 512 + p.val, by omega⟩ : Fin 2048) = ⟨a.val * 512 + p.val, hl⟩ := Fin.ext (by show 8 * a.val / 8 * 512 + p.val = a.val * 512 + p.val; omega)
  simp only [er]
  rfl

/-- The program's run: its two results at the reference's expressions of the arguments. -/
theorem run (ρ : Dev nD → PrngReg) : θ_run defs (onTc (τ := τ) (main (F := Ideal))) ⟨m, fun _ => 0, ρ⟩ fun r => ∀ c : Dev nD,
      r.2.mem ((c : Thread nD τ).loc main_v0_0) = Cert.Reference5Ideal.Read.val_main_v38 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v3) = Cert.Reference5Ideal.Read.val_main_v21 (F := Ideal)
        (m ((c : Thread nD τ).loc main_arg0)) (m ((c : Thread nD τ).loc main_arg1)) (m ((c : Thread nD τ).loc main_arg2)) :=
  (θ_run defs _ _).mono (fun r h c => ⟨((h c).1 5).trans (final_dx m c),
    ((h c).2 main_v3 (Pipeline.mem_restRefs_of main_v3 (by decide) (by decide))).trans (final_dg m c)⟩) (run_main m ρ)

end Cert.Kernel5Ideal.DHm
-- ==== Proof.DwMain.lean ====
/- The gradient of the wide input weights: the blocks the kernel writes, and the cut after it. -/
module

public import proofs.«01_k».proof.Defs
public import proofs.«01_k».proof.Proof.Gen.Kernel6Ideal.Frame
public import proofs.«01_k».proof.Proof.Gen.Reference6Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.DwMain

open Cert.Kernel6Ideal Cert.Kernel6Ideal.Gen

variable (m : (ℓ : Loc nD τ sig) → Buf (Elt Ideal) ℓ)

open Cert.Reference6Ideal.Read in
/-- The reference at an index. -/
theorem ref_apply (a : FVec Ideal S2048x2048 .bf16) (b : FVec Ideal S2048x6144 .bf16) (j : S2048x6144.Idx) :
    val_main_v6 (F := Ideal) a b j = ∑ k : Fin 2048, a (ix2 k (j 0)) * b (ix2 k (j 1)) := by
  rw [val_main_v6_apply, val_main_v5_apply, val_main_v4_apply]
  simp only [val_main_v1_apply, val_main_v3_apply]
  pointwise
  have el : ∀ k, lidx_main_v4 (idx_main_v5 j) k = ix2 k (j 1) := fun k => funext fun a => by match a with | ⟨0, _⟩ => rfl | ⟨1, _⟩ => rfl
  have er : ∀ k, ridx_main_v4 (idx_main_v5 j) k = ix2 k (j 0) := fun k => funext fun a => by match a with | ⟨0, _⟩ => rfl | ⟨1, _⟩ => rfl
  simp only [el, er]
  exact Finset.sum_congr rfl fun k _ => mul_comm _ _

/-- Every window's block index at a grid point. -/
theorem idx : ∀ t : Fin cfg0.N, win0_0.index t = ![0, t.val / 6] ∧ win0_1.index t = ![0, t.val % 6]
    ∧ win0_2.index t = ![t.val / 6, t.val % 6] := (by decide +kernel : ∀ t : Fin grid0.N, _)

/-- The product over the columns the kernel's blocks cover. -/
def cols (a : FVec Ideal S2048x2048 .bf16) (b : FVec Ideal S2048x6144 .bf16) : FVec Ideal S2048x6160 .bf16 := fun i =>
  if h : (i 1).val < 6144 then ∑ k : Fin 2048, a (ix2 k (i 0)) * b (ix2 k (⟨(i 1).val, h⟩ : Fin 6144)) else 0

/-- Those columns after the run. -/
theorem written (c : Dev nD) (i : S2048x6160.Idx) (hi : (i 1).val < 6144) :
    (dats m 0 c).arrAt 2 cfg0.N i = cols (m ((c : Thread nD τ).loc main_arg0)) (m ((c : Thread nD τ).loc main_arg1)) i := by
  refine ((dats m 0 c).arrAt_apply_of_coversWhere 2 (cols (m ((c : Thread nD τ).loc main_arg0)) (m ((c : Thread nD τ).loc main_arg1)))
    (P := fun i => (show S2048x6160.Idx from i) 1 < (6144 : ℕ)) (fun β => β 1 < 6) (by decide +kernel) (fun t hf y => ?_)
    (fun j => by blk_simp [Pipeline.Window.cell_apply]; omega) i).trans (if_pos hi)
  have hy : (y 1).val < 1024 := lt_of_lt_of_le (y 1).isLt ((cfg0.win 2).xsize_le _ 1)
  blk_simp
  rw [after0_2]
  unfold outsAt0
  frame_out
  unfold cols
  rw [dif_pos (by blk_simp [idx t]; omega)]
  pointwise [k0_pay1]
  blk_point [iblk, V, idx t]

/-- The line after the call: the covered columns cut out. -/
theorem tail (c : Dev nD) : Pipeline.afterTail₀ cfgs (dats m) 0 (V0 m) [hostOps1] c main_v1
    = extractStridedSlice S2048x6144 ![0, 0] ((dats m 0 c).arrAt 2 cfg0.N) slices_S2048x6160_S2048x6144_0_0 := by
  unfold Pipeline.afterTail₀
  simp only [hostOps1, List.flatten_cons, List.flatten_nil, List.append_nil, List.cons_append, List.nil_append]
  simp only [StableHlo.after_cons, StableHlo.after_nil]
  after_results_simp
  exact congrArg (extractStridedSlice S2048x6144 ![0, 0] · slices_S2048x6160_S2048x6144_0_0)
    (Pipeline.withArrays_arr (cfgs 0).spec (by decide) c (V0 m c) _ 2)

/-- What the program leaves in its result buffer. -/
theorem final (c : Dev nD) : Pipeline.afterTail₀ cfgs (dats m) 0 (V0 m) [hostOps1] c main_v1
    = Cert.Reference6Ideal.Read.val_main_v6 (F := Ideal) (m ((c : Thread nD τ).loc main_arg0)) (m ((c : Thread nD τ).loc main_arg1)) := by
  refine (tail m c).trans (funext fun j => ?_)
  have hj : (j 1).val < 6144 := (j 1).isLt
  have e : extractStridedSlice S2048x6144 ![0, 0] ((dats m 0 c).arrAt 2 cfg0.N) slices_S2048x6160_S2048x6144_0_0 j
      = (dats m 0 c).arrAt 2 cfg0.N (ix2 (j 0) (⟨(j 1).val, by omega⟩ : Fin 6160)) :=
    congrArg ((dats m 0 c).arrAt 2 cfg0.N) (funext fun a => by match a with | ⟨0, _⟩ => exact Fin.ext (by simp) | ⟨1, _⟩ => exact Fin.ext (by simp))
  rw [e, written m c _ hj, ref_apply]
  exact dif_pos hj

/-- The program's run: the result at the reference's expression of the arguments, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v1) = Cert.Reference6Ideal.Read.val_main_v6 (F := Ideal)
        (m ((c : Thread nD τ).loc main_arg0)) (m ((c : Thread nD τ).loc main_arg1)) :=
  (θ_run defs _ _).mono (fun r h c => ((h c).2 main_v1 (Pipeline.mem_restRefs_of main_v1 (by decide) (by decide))).trans (final m c)) (run_main m ρ)

end Cert.Kernel6Ideal.DwMain
-- ==== Proof.DHMain.lean ====
/- The gradient of the input projection through its wide product: the contraction summed block by block. -/
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.DHMain

open Cert.Kernel7Ideal Cert.Kernel7Ideal.Gen

variable (m : (ℓ : Loc nD τ sig) → Buf (Elt Ideal) ℓ)

open Cert.Reference7Ideal.Read in
/-- The reference at an index. -/
theorem ref_apply (a : FVec Ideal S2048x6144 .bf16) (b : FVec Ideal S2048x6160 .bf16) (j : S2048x2048.Idx) :
    val_main_v5 (F := Ideal) a b j = ∑ k : Fin 6144, a (ix2 (j 0) k) * b (ix2 (j 1) (⟨k.val, by omega⟩ : Fin 6160)) := by
  rw [val_main_v5_apply]
  simp only [val_main_v4_apply, val_main_v2_apply, val_main_v0_apply]
  pointwise
  refine Finset.sum_congr rfl fun k _ => ?_
  refine congrArg₂ (· * ·) (congrArg a (funext fun d => by match d with | ⟨0, _⟩ => rfl | ⟨1, _⟩ => rfl)) (congrArg b (funext fun d => by match d with | ⟨0, _⟩ => exact Fin.ext (by simp [idx_main_v0, ridx_main_v5]) | ⟨1, _⟩ => exact Fin.ext (by simp [idx_main_v0, ridx_main_v5])))

/-- Every window's block index at a grid point. -/
theorem idx : ∀ t : Fin cfg0.N, win0_0.index t = ![t.val / 6, t.val % 3] ∧ win0_1.index t = ![t.val / 3 % 2, t.val % 3]
    ∧ win0_2.index t = ![t.val / 6, t.val / 3 % 2] := (by decide +kernel : ∀ t : Fin grid0.N, _)

/-- The second window's block is its array's, every block lying inside the array. -/
theorem block (c : Dev nD) (t : Fin cfg0.N) (y : S1024x2048.Idx) :
    (X0_1 m c t : FVec Ideal S1024x2048 .bf16) y = m ((c : Thread nD τ).loc main_arg1)
      (ix2 (⟨t.val / 3 % 2 * 1024 + (y 0).val, by have : (y 0).val < 1024 := (y 0).isLt; omega⟩ : Fin 2048) (⟨t.val % 3 * 2048 + (y 1).val, by have : (y 1).val < 2048 := (y 1).isLt; omega⟩ : Fin 6160)) := by
  unfold X0_1 Pipeline.Window.fill
  rw [dif_pos (moved0_1 t y)]
  blk_point [iblk, V, idx t]

/-- The running sum at the end of a run of three blocks of the contraction. -/
theorem acc (c : Dev nD) (t : Fin cfg0.N) (h : t.val % 3 = 2) (j : S1024x1024.Idx) :
    (outsAt0 m c t.val t.isLt).2 j = ∑ s : Fin 3, ∑ k : Fin 2048,
      (show FVec Ideal S1024x2048 .bf16 from iblk m c 0 ⟨3 * (t.val / 3) + s.val, Pipeline.run_point_lt_of_flush t h s⟩) (ix2 (j 0) k)
        * (show FVec Ideal S1024x2048 .bf16 from X0_1 m c ⟨3 * (t.val / 3) + s.val, Pipeline.run_point_lt_of_flush t h s⟩) (ix2 (j 1) k) := by
  have e := Pipeline.eq_sum_fin_of_reset_step_apply_of_flush (fun n h => (outsAt0 m c n h).2) 3 (fun _ => (0 : EReal))
    (fun p j => ∑ k : Fin 2048, (show FVec Ideal S1024x2048 .bf16 from iblk m c 0 p) (ix2 (j 0) k) * (show FVec Ideal S1024x2048 .bf16 from X0_1 m c p) (ix2 (j 1) k))
    (fun t h j => by rw [outsAt0_A m c t h (by omega)]; frame_out; pointwise [k0_pay1, k0_pay2])
    (fun t h j => by
      by_cases h1 : t.val % 3 = 2
      · rw [outsAt0_C m c t h h1]; frame_out; pointwise [k0_pay2]; simp only [read_unread_whole]
      · rw [outsAt0_B m c t h h1]; frame_out; pointwise [k0_pay2]; simp only [read_unread_whole]) t h j
  rw [e, zero_add]

/-- The result array after the run. -/
theorem final (c : Dev nD) : (dats m 0 c).arrAt 2 cfg0.N = Cert.Reference7Ideal.Read.val_main_v5 (F := Ideal)
    (m ((c : Thread nD τ).loc main_arg0)) (m ((c : Thread nD τ).loc main_arg1)) := by
  refine (dats m 0 c).arrAt_eq_of_covers 2 _ (by decide +kernel) fun t hf y => ?_
  have h2 : t.val % 3 = 2 := (flush0_2 t).mp hf
  have e : (outsAt0 m c t.val t.isLt).1 = (outsAt0 m c t.val t.isLt).2 := by
    rw [outsAt0_C m c t (by omega) h2]; frame_out
  blk_simp
  rw [after0_2, e, acc m c t h2]
  refine Eq.trans ?_ (ref_apply _ _ _).symm
  refine Fin.sum_mul_add_congr fun s k hl => ?_
  refine Eq.trans (congrArg₂ (· * ·) rfl (block m c _ _)) ?_
  blk_point [iblk, V, idx t, idx ⟨_, Pipeline.run_point_lt_of_flush t h2 s⟩]

end Cert.Kernel7Ideal.DHMain
-- ==== Proof.Ends.lean ====
/- The products' value claims and their references' frames, off the runs. -/
module

public import proofs.«01_k».proof.Defs
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Products
public import proofs.«01_k».proof.Proof.DHm
public import proofs.«01_k».proof.Proof.DwMain
public import proofs.«01_k».proof.Proof.DHMain
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Proof

theorem dw_down_grad : Cert.algebraic_Kernel3Ideal_Reference3Ideal := by
  pair_intro
  · run_from Cert.Kernel3Ideal.Value.run_blocks m g
  · run_from Cert.Reference3Ideal.Value.run m' g'
    rw [Cert.Kernel3Ideal.DwDown.final m c]
    rfl

theorem dw_down_frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem dw_up_grad : Cert.algebraic_Kernel4Ideal_Reference4Ideal := by
  pair_intro
  · run_from Cert.Kernel4Ideal.Value.run_blocks m g
  · run_from Cert.Reference4Ideal.Value.run m' g'
    rw [Cert.Kernel4Ideal.DwUp.final m c]
    rfl

theorem dw_up_frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem d_hm_grad : Cert.algebraic_Kernel5Ideal_Reference5Ideal := fun m g m' g' _ hm =>
  ⟨_, _, (θ_run_and (Cert.Kernel5Ideal.DHm.run m g) (Cert.Kernel5Ideal.Gen.unchanged m g)).mono fun r h c => ⟨(h.1 c).1, (h.1 c).2, h.2 c⟩,
    (θ_run Cert.Reference5Ideal.defs _ _).mono (fun r h c => by
      obtain ⟨m0, m1, m2, m3, m4⟩ := hm c
      obtain ⟨r0, r1, r'⟩ := h c
      refine ⟨r0.trans ?_, r1.trans ?_, r'⟩
      · rw [Cert.Reference5Ideal.Read.val_main_v38_eq, m0, m1, m2, m3, m4]
      · rw [Cert.Reference5Ideal.Read.val_main_v21_eq, m0, m1, m2])
      (Cert.Reference5Ideal.Value.run (F := Ideal) m' g')⟩

theorem d_hm_frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem dw_main_grad : Cert.algebraic_Kernel6Ideal_Reference6Ideal := fun m g m' g' _ hm =>
  ⟨_, (θ_run_and (Cert.Kernel6Ideal.DwMain.run m g) (Cert.Kernel6Ideal.Gen.unchanged m g)).mono fun r h c => ⟨h.1 c, h.2 c⟩,
    (θ_run Cert.Reference6Ideal.defs _ _).mono (fun r h c => ⟨(h c).1.trans (by rw [Cert.Reference6Ideal.Read.val_main_v6_eq, (hm c).1, (hm c).2]), (h c).2⟩)
      (Cert.Reference6Ideal.Value.run (F := Ideal) m' g')⟩

theorem dw_main_frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem d_h_main_grad : Cert.algebraic_Kernel7Ideal_Reference7Ideal := by
  pair_intro
  · run_from Cert.Kernel7Ideal.Value.run_blocks m g
  · run_from Cert.Reference7Ideal.Value.run m' g'
    rw [Cert.Kernel7Ideal.DHMain.final m c]
    rfl

theorem d_h_main_frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem dw_out_grad : Cert.algebraic_Kernel8Ideal_Reference8Ideal := by
  pair_intro
  · run_from Cert.Kernel8Ideal.Value.run_blocks m g
  · run_from Cert.Reference8Ideal.Value.run m' g'
    rw [Cert.Kernel8Ideal.DwOut.final m c]
    rfl

theorem dw_out_frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem d_mix_grad : Cert.algebraic_Kernel9Ideal_Reference9Ideal := by
  pair_intro
  · run_from Cert.Kernel9Ideal.Value.run_blocks m g
  · run_from Cert.Reference9Ideal.Value.run m' g'
    rw [Cert.Kernel9Ideal.DMix.final m c]
    rfl

theorem d_mix_frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Proof

end
-- ==== Proof.Forward.lean ====
/- The forward products: the up projection with its activation, the input projection, the output projection with its residual and norm. -/
module

public import proofs.«01_k».proof.Defs
public import proofs.«01_k».proof.Proof.Gen.Kernel10Ideal.Value
public import proofs.«01_k».proof.Proof.Gen.Reference10Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.NormGrad
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.UpProj

open Cert.Kernel10Ideal Cert.Kernel10Ideal.Gen

variable (m : (ℓ : Loc nD τ sig) → Buf (Elt Ideal) ℓ)

open Cert.Reference10Ideal.Read in
/-- The reference's product at an index. -/
theorem ref_apply (a : FVec Ideal S2048x2048 .bf16) (b : FVec Ideal S2048x8192 .bf16) (j : S2048x8192.Idx) :
    val_main_v2 (F := Ideal) a b j = ∑ k : Fin 2048, a (ix2 (j 0) k) * b (ix2 k (j 1)) := by
  rw [val_main_v2_apply]
  simp only [val_main_v0_apply, val_main_v1_apply]
  pointwise
  have el : ∀ k, lidx_main_v2 j k = ix2 (j 0) k := fun k => funext fun a => by match a with | ⟨0, _⟩ => rfl | ⟨1, _⟩ => rfl
  have er : ∀ k, ridx_main_v2 j k = ix2 k (j 1) := fun k => funext fun a => by match a with | ⟨0, _⟩ => rfl | ⟨1, _⟩ => rfl
  simp only [el, er]
  rfl

/-- Every window's block index at a grid point. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8] := (by decide +kernel : ∀ t : Fin grid0.N, _)

/-- The product's block at a point. -/
theorem block (c : Dev nD) (t : Fin cfg0.N) (y : S1024x1024.Idx) (i : S2048x8192.Idx)
    (h0 : (i 0).val = t.val / 8 * 1024 + (y 0).val) (h1 : (i 1).val = t.val % 8 * 1024 + (y 1).val) :
    k0_pay1 (iblk m c 0 t) (iblk m c 1 t) y = Cert.Reference10Ideal.Read.val_main_v2 (F := Ideal)
      (m ((c : Thread nD τ).loc main_arg0)) (m ((c : Thread nD τ).loc main_arg1)) i := by
  rw [ref_apply]
  pointwise [k0_pay1]
  blk_point [iblk, V, idx t, h0, h1]

/-- The product after the run. -/
theorem final_u (c : Dev nD) : (dats m 0 c).arrAt 2 cfg0.N = Cert.Reference10Ideal.Read.val_main_v2 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact block m c t y _ (by blk_simp [idx t]) (by blk_simp [idx t])

/-- The activation after the run. -/
theorem final_act (c : Dev nD) : (dats m 0 c).arrAt 3 cfg0.N = Cert.Reference10Ideal.Read.val_main_v5 (F := Ideal)
    (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  have e := block m c t y ((win0_3.blk t).view.emb y) (by blk_simp [idx t]) (by blk_simp [idx t])
  exact congrArg (fun u : EReal => max u (Ideal.ofBits FTy.f32 0x00000000#32) * max u (Ideal.ofBits FTy.f32 0x00000000#32)) e

end Cert.Kernel10Ideal.UpProj

namespace Cert.Kernel12Ideal.InProj

open Cert.Kernel12Ideal Cert.Kernel12Ideal.Gen

variable (m : (ℓ : Loc nD τ sig) → Buf (Elt Ideal) ℓ)

open Cert.Reference12Ideal.Read in
/-- The reference at an index. -/
theorem ref_apply (a : FVec Ideal S2048x2048 .bf16) (b : FVec Ideal S2048x6160 .bf16) (j : S2048x6144.Idx) :
    val_main_v3 (F := Ideal) a b j = ∑ k : Fin 2048, a (ix2 (j 0) k) * b (ix2 k (⟨(j 1).val, by have : (j 1).val < 6144 := (j 1).isLt; omega⟩ : Fin 6160)) := by
  rw [val_main_v3_apply, val_main_v2_apply]
  simp only [val_main_v0_apply, val_main_v1_apply]
  pointwise
  refine Finset.sum_congr rfl fun k _ => ?_
  refine congrArg₂ (· * ·) (congrArg a (funext fun d => by match d with | ⟨0, _⟩ => exact Fin.ext (by simp [idx_main_v3, lidx_main_v2]) | ⟨1, _⟩ => rfl)) (congrArg b (funext fun d => by match d with | ⟨0, _⟩ => rfl | ⟨1, _⟩ => exact Fin.ext (by simp [idx_main_v3, ridx_main_v2])))

/-- Every window's block index at a grid point. -/
theorem idx : ∀ t : Fin cfg0.N, win0_0.index t = ![t.val / 6, 0] ∧ win0_1.index t = ![0, t.val % 6]
    ∧ win0_2.index t = ![t.val / 6, t.val % 6] := (by decide +kernel : ∀ t : Fin grid0.N, _)

/-- The kernel's product at an index. -/
theorem pay (a : FVec Ideal S1024x2048 .bf16) (b : FVec Ideal S2048x1024 .bf16) (y : S1024x1024.Idx) :
    k0_pay1 (F := Ideal) a b y = ∑ k : Fin 2048, a (ix2 (y 0) k) * b (ix2 k (y 1)) := by
  pointwise [k0_pay1]

/-- The second window's block is its array's, every block lying inside the array. -/
theorem block (c : Dev nD) (t : Fin cfg0.N) (y : S2048x1024.Idx) :
    (X0_1 m c t : FVec Ideal S2048x1024 .bf16) y = m ((c : Thread nD τ).loc main_arg1)
      (ix2 (y 0) (⟨t.val % 6 * 1024 + (y 1).val, by have : (y 1).val < 1024 := (y 1).isLt; omega⟩ : Fin 6160)) := by
  unfold X0_1 Pipeline.Window.fill
  rw [dif_pos (moved0_1 t y)]
  blk_point [iblk, V, idx t]

/-- The result array after the run. -/
theorem final (c : Dev nD) : (dats m 0 c).arrAt 2 cfg0.N = Cert.Reference12Ideal.Read.val_main_v3 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine (pay _ _ y).trans (Eq.trans ?_ (ref_apply _ _ _).symm)
  refine Finset.sum_congr (M := EReal) rfl fun k _ => ?_
  refine Eq.trans (congrArg₂ (· * ·) rfl (block m c _ _)) ?_
  blk_point [iblk, V, idx t]

end Cert.Kernel12Ideal.InProj

namespace Cert.Kernel13Ideal.OutProj

open Cert.Kernel13Ideal Cert.Kernel13Ideal.Gen

variable (m : (ℓ : Loc nD τ sig) → Buf (Elt Ideal) ℓ)

open Cert.Reference13Ideal.Read in
/-- The reference's product at an index. -/
theorem ref_apply (a : FVec Ideal S2048x2048 .bf16) (b : FVec Ideal S2048x2048 .bf16) (j : S2048x2048.Idx) :
    val_main_v2 (F := Ideal) a b j = ∑ k : Fin 2048, a (ix2 (j 0) k) * b (ix2 k (j 1)) := by
  rw [val_main_v2_apply]
  simp only [val_main_v0_apply, val_main_v1_apply]
  pointwise
  have el : ∀ k, lidx_main_v2 j k = ix2 (j 0) k := fun k => funext fun a => by match a with | ⟨0, _⟩ => rfl | ⟨1, _⟩ => rfl
  have er : ∀ k, ridx_main_v2 j k = ix2 k (j 1) := fun k => funext fun a => by match a with | ⟨0, _⟩ => rfl | ⟨1, _⟩ => rfl
  simp only [el, er]
  rfl

open Cert.Reference13Ideal.Read in
/-- The reference's normalised rows, by its sum with the residual. -/
theorem ref_norm (a b : FVec Ideal S2048x2048 .bf16) (x : FVec Ideal S2048x2048 .f32) (g : FVec Ideal S1x2048 .f32) (p q : Fin 2048) :
    val_main_v16 (F := Ideal) a b x g (ix2 p q)
      = NormGrad.nrm (fun k => val_main_v3 (F := Ideal) a b x (ix2 p k)) (fun k => g (ix2 0 k)) q := by
  pointwise [val_main_v16, val_main_v15, val_main_v14, val_main_v13, val_main_v12, val_main_v11, val_main_v10, val_main_v9, val_main_v8,
    val_main_v7, val_main_v6, val_main_v5, val_main_v4, val_main_cst, val_main_cst_0, val_main_cst_1]
  rfl

/-- The kernel's normalised rows, by its sum with the residual. -/
theorem pay2 (a : FVec Ideal S512x2048 .bf16) (b : FVec Ideal S2048x2048 .bf16) (x : FVec Ideal S512x2048 .f32) (g : FVec Ideal S1x2048 .f32)
    (p : Fin 512) (q : Fin 2048) :
    k0_pay2 (F := Ideal) a b x g (ix2 p q) = NormGrad.nrm (fun k => k0_pay1 (F := Ideal) a b x (ix2 p k)) (fun k => g (ix2 0 k)) q := by
  pointwise [k0_pay2]
  rfl

/-- Every window's block index at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := (by decide +kernel : ∀ t : Fin grid0.N, _)

/-- The sum's block at a point. -/
theorem block (c : Dev nD) (t : Fin cfg0.N) (p : Fin 512) (q : Fin 2048) :
    k0_pay1 (iblk m c 0 t) (iblk m c 1 t) (iblk m c 2 t) (ix2 p q) = Cert.Reference13Ideal.Read.val_main_v3 (F := Ideal)
      (m ((c : Thread nD τ).loc main_arg0)) (m ((c : Thread nD τ).loc main_arg1)) (m ((c : Thread nD τ).loc main_arg2))
      (ix2 (⟨t.val * 512 + p.val, by have := lt_of_lt_of_eq t.isLt N_0; omega⟩ : Fin 2048) q) := by
  rw [Cert.Reference13Ideal.Read.val_main_v3_apply, ref_apply]
  pointwise [k0_pay1]
  refine Eq.trans (add_comm _ _) ?_
  blk_point [iblk, V, idx t]

/-- The place of a block's entry in the array. -/
theorem place (t : Fin cfg0.N) (p : Fin 512) (q : Fin 2048) :
    (win0_4.blk t).view.emb (ix2 p q) = ix2 (⟨t.val * 512 + p.val, by have := lt_of_lt_of_eq t.isLt N_0; omega⟩ : Fin 2048) q
    ∧ (win0_5.blk t).view.emb (ix2 p q) = ix2 (⟨t.val * 512 + p.val, by have := lt_of_lt_of_eq t.isLt N_0; omega⟩ : Fin 2048) q := by
  constructor <;> blk_ext [idx t]

/-- The gain. -/
theorem gain (c : Dev nD) (t : Fin cfg0.N) (k : Fin 2048) :
    (show FVec Ideal S1x2048 .f32 from iblk m c 3 t) (ix2 0 k) = m ((c : Thread nD τ).loc main_arg3) (ix2 0 k) := by
  blk_point [iblk, V, idx t]

/-- The stream after the run. -/
theorem final_x1 (c : Dev nD) : (dats m 0 c).arrAt 4 cfg0.N = Cert.Reference13Ideal.Read.val_main_v3 (F := Ideal)
    (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  obtain ⟨p, q, rfl⟩ : ∃ (p : Fin 512) (q : Fin 2048), y = ix2 p q := ⟨y 0, y 1, funext fun a => by match a with | ⟨0, _⟩ => rfl | ⟨1, _⟩ => rfl⟩
  rw [(place t p q).1]
  exact block m c t p q

/-- The normalised stream after the run. -/
theorem final_hc (c : Dev nD) : (dats m 0 c).arrAt 5 cfg0.N = Cert.Reference13Ideal.Read.val_main_v16 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  obtain ⟨p, q, rfl⟩ : ∃ (p : Fin 512) (q : Fin 2048), y = ix2 p q := ⟨y 0, y 1, funext fun a => by match a with | ⟨0, _⟩ => rfl | ⟨1, _⟩ => rfl⟩
  rw [(place t p q).2, ref_norm]
  refine (pay2 _ _ _ _ p q).trans ?_
  exact congr (congr (congrArg NormGrad.nrm (funext fun k => block m c t p k)) (funext fun k => gain m c t k)) rfl

end Cert.Kernel13Ideal.OutProj
-- ==== Proof.Loss.lean ====
/- The last product of the step with the loss in its last step: the gradient of the stream and the loss. -/
module

public import proofs.«01_k».proof.Defs
public import proofs.«01_k».proof.Proof.Gen.Kernel11Ideal.Frame
public import proofs.«01_k».proof.Proof.Gen.Reference11Ideal.Read
public import Idealize.ShloMosaic.Lib.Pipeline.ValueKit
public import Idealize.ShloMosaic.Lib.Pipeline.ReadBack
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Loss

open Cert.Kernel11Ideal Cert.Kernel11Ideal.Gen

/-! ## The constants, and a constant taken out of a sum -/

theorem two : Ideal.ofBits .f32 0x40000000#32 = ((2 : ℝ) : EReal) := by simp [Ideal.ofBits, Ideal.ieee, -EReal.coe_mul]; try norm_num

theorem half : Ideal.ofBits .f32 0x3F000000#32 = ((1 / 2 : ℝ) : EReal) := by simp [Ideal.ofBits, Ideal.ieee, -EReal.coe_mul]; try norm_num

theorem width : Ideal.ofBits .f32 0x45000000#32 = ((2048 : ℝ) : EReal) := by simp [Ideal.ofBits, Ideal.ieee, -EReal.coe_mul]; try norm_num

theorem invWidth : Ideal.ofBits .f32 0x3A000000#32 = ((1 / 2048 : ℝ) : EReal) := by simp [Ideal.ofBits, Ideal.ieee, -EReal.coe_mul]; try norm_num

theorem halfInv : Ideal.ofBits .f32 0x39800000#32 = ((1 / 4096 : ℝ) : EReal) := by simp [Ideal.ofBits, Ideal.ieee, -EReal.coe_mul]; try norm_num

/-- A nonnegative real factor of every term is a factor of the sum, whatever the terms. -/
theorem sum_mul_real {n : ℕ} (f : Fin n → EReal) (r : ℝ) (hr : 0 ≤ r) : ∑ i, f i * (r : EReal) = (∑ i, f i) * (r : EReal) :=
  (map_sum (⟨⟨fun x => x * (r : EReal), zero_mul _⟩,
    fun a b => EReal.right_distrib_of_nonneg_of_ne_top (EReal.coe_nonneg.mpr hr) (EReal.coe_ne_top r) a b⟩ : AddMonoidHom EReal EReal) f Finset.univ).symm

/-- A square of tiles summed tile by tile is the square. -/
theorem sum_tiles (f : Fin 2048 → Fin 2048 → EReal) :
    ∑ a : Fin 2, ∑ b : Fin 2, ∑ p : Fin 1024, ∑ q : Fin 1024, f ⟨a.val * 1024 + p.val, by omega⟩ ⟨b.val * 1024 + q.val, by omega⟩
      = ∑ p : Fin 2048, ∑ q : Fin 2048, f p q := by
  have e (a : Fin 2) := Finset.sum_comm (s := Finset.univ) (t := Finset.univ)
    (f := fun (b : Fin 2) (p : Fin 1024) => ∑ q : Fin 1024, f ⟨a.val * 1024 + p.val, by omega⟩ ⟨b.val * 1024 + q.val, by omega⟩)
  simp only [e]
  refine Fin.sum_mul_add_congr fun a p hl => ?_
  exact Fin.sum_mul_add_congr fun b q hq => rfl

/-! ## The kernel's and the reference's expressions at an index -/

theorem pay3 (acc x y : FVec Ideal S1024x1024 .f32) (i : S1024x1024.Idx) : k0_pay3 (F := Ideal) acc x y i = acc i + x i - y i := by
  pointwise [k0_pay3]

theorem pay4 (acc x y : FVec Ideal S1024x1024 .f32) (i : S1024x1024.Idx) :
    k0_pay4 (F := Ideal) acc x y i = (acc i + x i - y i) * ((1 / 2048 : ℝ) : EReal) := by
  pointwise [k0_pay4, k0_pay3]
  rw [invWidth]

theorem pay6 (acc x y : FVec Ideal S1024x1024 .f32) (e : Fin 8) (l : Fin 128) :
    k0_pay6 (F := Ideal) acc x y (ix2 e l)
      = (∑ p : Fin 1024, ∑ q : Fin 1024, k0_pay3 (F := Ideal) acc x y (ix2 p q) * k0_pay3 (F := Ideal) acc x y (ix2 p q)) * ((1 / 4096 : ℝ) : EReal) := by
  rw [← halfInv]
  pointwise [k0_pay6]

open Cert.Reference11Ideal.Read in
/-- The reference's gradient of the stream: the difference by the stream's width. -/
theorem ref_dy (a : FVec Ideal S2048x8192 .bf16) (w : FVec Ideal S8192x2048 .bf16) (x y : FVec Ideal S2048x2048 .f32) (i : S2048x2048.Idx) :
    val_main_v18 (F := Ideal) a w x y i = val_main_v4 (F := Ideal) a w x y i * ((1 / 2048 : ℝ) : EReal) := by
  pointwise [val_main_v18, val_main_v17, val_main_v16, val_main_v15, val_main_v14, val_main_v13, val_main_v7, val_main_v6, val_main_cst,
    val_main_cst_4, val_main_cst_5, val_main_cst_6]
  rw [half, width, two, Ideal.div_coe (by norm_num), ← mul_assoc, ← EReal.coe_mul, ← EReal.coe_mul, mul_comm]
  norm_num

open Cert.Reference11Ideal.Read in
/-- The reference's difference. -/
theorem ref_diff (a : FVec Ideal S2048x8192 .bf16) (w : FVec Ideal S8192x2048 .bf16) (x y : FVec Ideal S2048x2048 .f32) (i : S2048x2048.Idx) :
    val_main_v4 (F := Ideal) a w x y i = x i + (∑ k : Fin 8192, a (ix2 (i 0) k) * w (ix2 k (i 1))) - y i := by
  pointwise [val_main_v4, val_main_v3, val_main_v2, val_main_v1, val_main_v0]

open Cert.Reference11Ideal.Read in
/-- The reference's loss: half the sum of the squares by the stream's width. -/
theorem ref_loss (a : FVec Ideal S2048x8192 .bf16) (w : FVec Ideal S8192x2048 .bf16) (x y : FVec Ideal S2048x2048 .f32) :
    val_main_v20 (F := Ideal) a w x y (ix2 0 0)
      = (∑ p : Fin 2048, ∑ q : Fin 2048, val_main_v4 (F := Ideal) a w x y (ix2 p q) * val_main_v4 (F := Ideal) a w x y (ix2 p q)) * ((1 / 4096 : ℝ) : EReal) := by
  pointwise [val_main_v20, val_main_v12, val_main_v11, val_main_v10, val_main_v9, val_main_v8, val_main_v5, val_main_cst_0, val_main_cst_1,
    val_main_cst_2, val_main_cst_3]
  rw [half, width]
  simp only [Ideal.div_coe (show (2048 : ℝ) ≠ 0 by norm_num)]
  rw [sum_mul_real _ _ (by norm_num), mul_comm, mul_assoc, ← EReal.coe_mul]
  norm_num

/-! ## The run -/

variable (m : (ℓ : Loc nD τ sig) → Buf (Elt Ideal) ℓ)

/-- Every window's block index at a grid point. -/
theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] ∧ win0_4.index t = ![t.val / 8, t.val / 4 % 2]
    ∧ win0_5.index t = ![t.val / 8, t.val / 4 % 2] ∧ win0_6.index t = ![t.val / 8, t.val / 4 % 2] := (by decide +kernel : ∀ t : Fin grid0.N, _)

/-- The running product at the end of a run of four blocks of the contraction. -/
theorem acc (c : Dev nD) (t : Fin cfg0.N) (h : t.val % 4 = 3) (j : S1024x1024.Idx) :
    (outsAt0 m c t.val t.isLt).2.2.2 j = ∑ s : Fin 4, ∑ k : Fin 2048,
      (show FVec Ideal S1024x2048 .bf16 from iblk m c 0 ⟨4 * (t.val / 4) + s.val, Pipeline.run_point_lt_of_flush t h s⟩) (ix2 (j 0) k)
        * (show FVec Ideal S2048x1024 .bf16 from iblk m c 1 ⟨4 * (t.val / 4) + s.val, Pipeline.run_point_lt_of_flush t h s⟩) (ix2 k (j 1)) := by
  have e := Pipeline.eq_sum_fin_of_reset_step_apply_of_flush (fun n h => (outsAt0 m c n h).2.2.2) 4 (fun _ => (0 : EReal))
    (fun p j => ∑ k : Fin 2048, (show FVec Ideal S1024x2048 .bf16 from iblk m c 0 p) (ix2 (j 0) k) * (show FVec Ideal S2048x1024 .bf16 from iblk m c 1 p) (ix2 k (j 1)))
    (fun t h j => by rw [outsAt0_A m c t h (by omega)]; frame_out; pointwise [k0_pay1, k0_pay2])
    (fun t h j => by
      by_cases h1 : t.val % 4 = 3
      · rw [outsAt0_C m c t h h1]; frame_out; pointwise [k0_pay2]; simp only [read_unread_whole]
      · rw [outsAt0_B m c t h h1]; frame_out; pointwise [k0_pay2]; simp only [read_unread_whole]) t h j
  rw [e, zero_add]

/-- The difference, off the arguments. -/
def diff (c : Dev nD) (p q : Fin 2048) : EReal :=
  Cert.Reference11Ideal.Read.val_main_v4 (F := Ideal) (m ((c : Thread nD τ).loc main_arg0)) (m ((c : Thread nD τ).loc main_arg1))
    (m ((c : Thread nD τ).loc main_arg2)) (m ((c : Thread nD τ).loc main_arg3)) (ix2 p q)

/-- The row and the column of the array that an entry of a point's tile is. -/
def row (t : Fin cfg0.N) (p : Fin 1024) : Fin 2048 := ⟨t.val / 8 * 1024 + p.val, by have := lt_of_lt_of_eq t.isLt N_0; omega⟩

def col (t : Fin cfg0.N) (q : Fin 1024) : Fin 2048 := ⟨t.val / 4 % 2 * 1024 + q.val, by omega⟩

/-- The difference a run's last point holds. -/
theorem diff_eq (c : Dev nD) (t : Fin cfg0.N) (h : t.val % 4 = 3) (p q : Fin 1024) :
    (outsAt0 m c t.val t.isLt).2.2.2 (ix2 p q) + (show FVec Ideal S1024x1024 .f32 from iblk m c 2 t) (ix2 p q)
      - (show FVec Ideal S1024x1024 .f32 from iblk m c 3 t) (ix2 p q) = diff m c (row t p) (col t q) := by
  unfold diff
  rw [ref_diff, add_comm (G := EReal)]
  refine congrArg₂ (fun a b : EReal => a - b) (congrArg₂ (fun a b : EReal => a + b) ?_ ?_) ?_
  · blk_point [iblk, V, row, col, idx t]
  · rw [acc m c t h]
    refine Fin.sum_mul_add_congr fun s l hl => ?_
    blk_point [iblk, V, row, col, idx t, idx ⟨_, Pipeline.run_point_lt_of_flush t h s⟩]
  · blk_point [iblk, V, row, col, idx t]

/-- The three results' blocks at a run's last point, by the running product there. -/
theorem outs (c : Dev nD) (t : Fin cfg0.N) (h : t.val % 4 = 3) :
    (outsAt0 m c t.val t.isLt).1 = k0_pay4 (outsAt0 m c t.val t.isLt).2.2.2 (iblk m c 2 t) (iblk m c 3 t)
    ∧ (outsAt0 m c t.val t.isLt).2.1 = k0_pay5 (outsAt0 m c t.val t.isLt).2.2.2 (iblk m c 2 t) (iblk m c 3 t)
    ∧ (outsAt0 m c t.val t.isLt).2.2.1 = k0_pay6 (outsAt0 m c t.val t.isLt).2.2.2 (iblk m c 2 t) (iblk m c 3 t) := by
  rw [outsAt0_C m c t (by omega) h]
  refine ⟨?_, ?_, ?_⟩ <;> frame_out

/-- The gradient of the stream, after the run. -/
theorem final_dy (c : Dev nD) : (dats m 0 c).arrAt 4 cfg0.N = Cert.Reference11Ideal.Read.val_main_v18 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h : t.val % 4 = 3 := (flush0_4 t).mp hf
  blk_simp
  rw [after0_4, (outs m c t h).1]
  obtain ⟨p, q, rfl⟩ : ∃ (p : Fin 1024) (q : Fin 1024), y = ix2 p q := ⟨y 0, y 1, funext fun a => by match a with | ⟨0, _⟩ => rfl | ⟨1, _⟩ => rfl⟩
  have e : (win0_4.blk t).view.emb (ix2 p q) = ix2 (row t p) (col t q) := by blk_ext [row, col, idx t]
  rw [e, ref_dy]
  exact (pay4 _ _ _ _).trans (congrArg (fun a : EReal => a * ((1 / 2048 : ℝ) : EReal)) (diff_eq m c t h p q))

/-- And its copy at the narrower width. -/
theorem final_dyb (c : Dev nD) : (dats m 0 c).arrAt 5 cfg0.N = Cert.Reference11Ideal.Read.val_main_v19 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h : t.val % 4 = 3 := (flush0_5 t).mp hf
  blk_simp
  rw [after0_5, (outs m c t h).2.1]
  obtain ⟨p, q, rfl⟩ : ∃ (p : Fin 1024) (q : Fin 1024), y = ix2 p q := ⟨y 0, y 1, funext fun a => by match a with | ⟨0, _⟩ => rfl | ⟨1, _⟩ => rfl⟩
  have e : (win0_5.blk t).view.emb (ix2 p q) = ix2 (row t p) (col t q) := by blk_ext [row, col, idx t]
  rw [e]
  refine Eq.trans ?_ (ref_dy _ _ _ _ _).symm
  exact (pay4 _ _ _ _).trans (congrArg (fun a : EReal => a * ((1 / 2048 : ℝ) : EReal)) (diff_eq m c t h p q))

/-- The tiles' parts of the loss, each in eight rows of 128 equal entries. -/
def parts (c : Dev nD) : FVec Ideal S16x256 .f32 := fun i =>
  (∑ p : Fin 1024, ∑ q : Fin 1024,
    diff m c ⟨(i 0).val / 8 * 1024 + p.val, by have : (i 0).val < 16 := (i 0).isLt; omega⟩ ⟨(i 1).val / 128 * 1024 + q.val, by have : (i 1).val < 256 := (i 1).isLt; omega⟩
    * diff m c ⟨(i 0).val / 8 * 1024 + p.val, by have : (i 0).val < 16 := (i 0).isLt; omega⟩ ⟨(i 1).val / 128 * 1024 + q.val, by have : (i 1).val < 256 := (i 1).isLt; omega⟩)
    * ((1 / 4096 : ℝ) : EReal)

theorem final_parts (c : Dev nD) : (dats m 0 c).arrAt 6 cfg0.N = parts m c := by
  refine (dats m 0 c).arrAt_eq_of_covers 6 _ (by decide +kernel) fun t hf y => ?_
  have h : t.val % 4 = 3 := (flush0_6 t).mp hf
  blk_simp
  rw [after0_6, (outs m c t h).2.2]
  obtain ⟨e, l, rfl⟩ : ∃ (p : Fin 8) (q : Fin 128), y = ix2 p q := ⟨y 0, y 1, funext fun a => by match a with | ⟨0, _⟩ => rfl | ⟨1, _⟩ => rfl⟩
  have ee : (win0_6.blk t).view.emb (ix2 e l) = ix2 (⟨t.val / 8 * 8 + e.val, by have := lt_of_lt_of_eq t.isLt N_0; omega⟩ : Fin 16) (⟨t.val / 4 % 2 * 128 + l.val, by omega⟩ : Fin 256) := by
    blk_ext [idx t]
  rw [ee]
  refine (pay6 _ _ _ e l).trans ?_
  unfold parts
  refine congrArg (fun a : EReal => a * ((1 / 4096 : ℝ) : EReal)) ?_
  refine Finset.sum_congr rfl fun p _ => Finset.sum_congr rfl fun q _ => ?_
  have er : row t p = ⟨(t.val / 8 * 8 + e.val) / 8 * 1024 + p.val, by have := lt_of_lt_of_eq t.isLt N_0; omega⟩ := Fin.ext (by simp only [row]; omega)
  have ec : col t q = ⟨(t.val / 4 % 2 * 128 + l.val) / 128 * 1024 + q.val, by omega⟩ := Fin.ext (by simp only [col]; omega)
  have ed := (pay3 _ _ _ (ix2 p q)).trans (diff_eq m c t h p q)
  rw [er, ec] at ed
  exact congrArg₂ (fun a b : EReal => a * b) ed ed

/-- The lines after the call: the tiles' parts added up. -/
theorem tail (c : Dev nD) : Pipeline.afterTail₀ cfgs (dats m) 0 (V0 m) [hostOps1] c main_v3
    = shapeCast S1x1 (Host.reduceAdd (F := Ideal) (φ := .f32) (Host.slice S2x2 ![0, 0] ![8, 128] ((dats m 0 c).arrAt 6 cfg0.N) slicesBy_S16x256_S2x2_0s8_0s128) (constant S_ .f32 0x00000000#32) reducesTo_S2x2_S_d0_1 h_S_) shapeCasts_S_S1x1 := by
  unfold Pipeline.afterTail₀
  simp only [hostOps1, List.flatten_cons, List.flatten_nil, List.append_nil, List.cons_append, List.nil_append]
  simp only [StableHlo.after_cons, StableHlo.after_nil]
  after_results_simp
  have e : Pipeline.withArrays (cfgs 0).spec c (V0 m c) (fun w => (dats m 0 c).arrAt w (cfgs 0).N) (Proc.devRef .tc main_v0_2)
    = (dats m 0 c).arrAt 6 cfg0.N := Pipeline.withArrays_arr (cfgs 0).spec (by decide) c (V0 m c) _ 6
  rw [e]
  rfl

/-- The loss, after the run. -/
theorem final_loss (c : Dev nD) : Pipeline.afterTail₀ cfgs (dats m) 0 (V0 m) [hostOps1] c main_v3 = Cert.Reference11Ideal.Read.val_main_v20 (F := Ideal)
    (m ((c : Thread nD τ).loc main_arg0)) (m ((c : Thread nD τ).loc main_arg1)) (m ((c : Thread nD τ).loc main_arg2)) (m ((c : Thread nD τ).loc main_arg3)) := by
  refine (tail m c).trans (funext fun j => ?_)
  obtain rfl : j = ix2 0 0 := funext fun a => by match a with | ⟨0, _⟩ => exact Subsingleton.elim (α := Fin 1) _ _ | ⟨1, _⟩ => exact Subsingleton.elim (α := Fin 1) _ _
  rw [ref_loss, final_parts]
  pointwise [parts]
  simp only [sum_mul_real _ _ (show (0 : ℝ) ≤ 1 / 4096 by norm_num)]
  refine congrArg (fun a : EReal => a * ((1 / 4096 : ℝ) : EReal)) ?_
  refine Eq.trans ?_ (sum_tiles fun p q => diff m c p q * diff m c p q)
  have er (a : Fin 2) (p : Fin 1024) : (⟨8 * a.val / 8 * 1024 + p.val, by omega⟩ : Fin 2048) = ⟨a.val * 1024 + p.val, by omega⟩ :=
    Fin.ext (by show 8 * a.val / 8 * 1024 + p.val = a.val * 1024 + p.val; omega)
  have ec (a : Fin 2) (p : Fin 1024) : (⟨128 * a.val / 128 * 1024 + p.val, by omega⟩ : Fin 2048) = ⟨a.val * 1024 + p.val, by omega⟩ :=
    Fin.ext (by show 128 * a.val / 128 * 1024 + p.val = a.val * 1024 + p.val; omega)
  refine Finset.sum_congr rfl fun a _ => Finset.sum_congr rfl fun b _ => Finset.sum_congr rfl fun p _ => Finset.sum_congr rfl fun q _ => ?_
  exact congrArg₂ (fun u v => diff m c u v * diff m c u v) (er a p) (ec b q)

/-- The program's run: its three results at the reference's expressions of the arguments. -/
theorem run (ρ : Dev nD → PrngReg) : θ_run defs (onTc (τ := τ) (main (F := Ideal))) ⟨m, fun _ => 0, ρ⟩ fun r => ∀ c : Dev nD,
      r.2.mem ((c : Thread nD τ).loc main_v0_0) = Cert.Reference11Ideal.Read.val_main_v18 (F := Ideal)
        (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.Reference11Ideal.Read.val_main_v19 (F := Ideal)
        (m ((c : Thread nD τ).loc main_arg0)) (m ((c : Thread nD τ).loc main_arg1)) (m ((c : Thread nD τ).loc main_arg2)) (m ((c : Thread nD τ).loc main_arg3))
      ∧ r.2.mem ((c : Thread nD τ).loc main_v3) = Cert.Reference11Ideal.Read.val_main_v20 (F := Ideal)
        (m ((c : Thread nD τ).loc main_arg0)) (m ((c : Thread nD τ).loc main_arg1)) (m ((c : Thread nD τ).loc main_arg2)) (m ((c : Thread nD τ).loc main_arg3)) :=
  (θ_run defs _ _).mono (fun r h c => ⟨((h c).1 4).trans (final_dy m c), ((h c).1 5).trans (final_dyb m c),
    ((h c).2 main_v3 (Pipeline.mem_restRefs_of main_v3 (by decide) (by decide))).trans (final_loss m c)⟩) (run_main m ρ)

end Cert.Kernel11Ideal.Loss

end
-- ==== Proof.NormBack.lean ====
/- The gradients of the stream and of the gain before the cross attention: one block of the
product, the normalisation and the residual. -/
module

public import proofs.«01_k».proof.Defs
public import proofs.«01_k».proof.Proof.Gen.Kernel14Ideal.Frame
public import proofs.«01_k».proof.Proof.Gen.Reference14Ideal.Read
public import proofs.«01_k».proof.Proof.NormGrad
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.DHc

open Cert.Kernel14Ideal Cert.Kernel14Ideal.Gen

/-- The cotangent of the normalised rows a step computes. -/
theorem pay3 (a : FVec Ideal S512x512 .bf16) (w : FVec Ideal S2048x512 .bf16) (p : Fin 512) (q : Fin 2048) :
    k0_pay3 (F := Ideal) a w (ix2 p q) = ∑ k : Fin 512, a (ix2 p k) * w (ix2 q k) := by
  pointwise [k0_pay3]

/-- The kernel's last step at an index: the row's gradient and the residual. -/
theorem pay_dx (a : FVec Ideal S512x512 .bf16) (w : FVec Ideal S2048x512 .bf16) (x d : FVec Ideal S512x2048 .f32) (g : FVec Ideal S1x2048 .f32) (p : Fin 512) (q : Fin 2048) :
    k0_pay1 (F := Ideal) d (k0_pay9 a w x g) (k0_pay10 a w x g) (ix2 p q)
      = NormGrad.dx (fun k => x (ix2 p k)) (fun k => k0_pay3 (F := Ideal) a w (ix2 p k)) (fun k => g (ix2 0 k)) q + d (ix2 p q) := by
  pointwise [k0_pay1, k0_pay10, k0_pay9, k0_pay8, k0_pay7, k0_pay5, k0_pay4]
  rfl

/-- And the rows' part of the gain's gradient. -/
theorem pay_dg (a : FVec Ideal S512x512 .bf16) (w : FVec Ideal S2048x512 .bf16) (x : FVec Ideal S512x2048 .f32) (e : Fin 8) (q : Fin 2048) :
    k0_pay2 (F := Ideal) (k0_pay6 a w x) (ix2 e q) = ∑ p : Fin 512, NormGrad.dg (fun k => x (ix2 p k)) (fun k => k0_pay3 (F := Ideal) a w (ix2 p k)) q := by
  pointwise [k0_pay2, k0_pay6, k0_pay5, k0_pay4]
  rfl

open Cert.Reference14Ideal.Read in
/-- The reference's mean square of a row. -/
theorem ref_ms (x : FVec Ideal S2048x2048 .f32) (i : (⟨2, ![2048, 1]⟩ : Shape).Idx) :
    val_main_v7 (F := Ideal) x i = NormGrad.ms fun k => x (ix2 (i 0) k) := by
  pointwise [val_main_v7, val_main_v6, val_main_v5, val_main_v4, val_main_v3, val_main_v2, val_main_v1, val_main_cst, val_main_cst_0, val_main_cst_1]
  rfl

open Cert.Reference14Ideal.Read in
/-- The reference's gradient of the rows at an index. -/
theorem ref_dx (a w : FVec Ideal S2048x512 .bf16) (x d : FVec Ideal S2048x2048 .f32) (g : FVec Ideal S1x2048 .f32) (p q : Fin 2048) :
    val_main_v38 (F := Ideal) a w x d g (ix2 p q)
      = NormGrad.dx (fun k => x (ix2 p k)) (fun k => val_main_v18 (F := Ideal) a w (ix2 p k)) (fun k => g (ix2 0 k)) q + d (ix2 p q) := by
  pointwise [val_main_v38, val_main_v37, val_main_v36, val_main_v35, val_main_v34, val_main_v33, val_main_v32, val_main_v31, val_main_v30, val_main_v29, val_main_v28,
    val_main_v27, val_main_v26, val_main_v25, val_main_v24, val_main_v23, val_main_v22, val_main_v11, val_main_v10, val_main_v9, val_main_v8,
    val_main_cst_2, val_main_cst_4, val_main_cst_5, val_main_cst_6]
  simp only [ref_ms]
  refine Eq.trans ?_ (NormGrad.add_last _ _ _ _)
  rfl

open Cert.Reference14Ideal.Read in
/-- The reference's gradient of the gain at an index. -/
theorem ref_dg (a w : FVec Ideal S2048x512 .bf16) (x : FVec Ideal S2048x2048 .f32) (q : Fin 2048) :
    val_main_v21 (F := Ideal) a w x (ix2 0 q)
      = ∑ p : Fin 2048, NormGrad.dg (fun k => x (ix2 p k)) (fun k => val_main_v18 (F := Ideal) a w (ix2 p k)) q := by
  pointwise [val_main_v21, val_main_v20, val_main_v19, val_main_v13, val_main_v12, val_main_v8, val_main_cst_3]
  simp only [ref_ms]
  rfl

open Cert.Reference14Ideal.Read in
/-- The reference's cotangent of the normalised rows at an index. -/
theorem ref_ct (a w : FVec Ideal S2048x512 .bf16) (p q : Fin 2048) :
    val_main_v18 (F := Ideal) a w (ix2 p q) = ∑ k : Fin 512, a (ix2 p k) * w (ix2 q k) := by
  pointwise [val_main_v18, val_main_v17, val_main_v0]

variable (m : (ℓ : Loc nD τ sig) → Buf (Elt Ideal) ℓ)

/-- Every window's block index at a grid point. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] := (by decide +kernel : ∀ t : Fin grid0.N, _)

/-- The row of the array that row `p` of a point's blocks is. -/
def row (t : Fin cfg0.N) (p : Fin 512) : Fin 2048 := ⟨t.val * 512 + p.val, by have := lt_of_lt_of_eq t.isLt N_0; omega⟩

/-- The cotangent of the normalised rows, off the arguments. -/
def ct (c : Dev nD) (p : Fin 2048) (k : Fin 2048) : EReal :=
  Cert.Reference14Ideal.Read.val_main_v18 (F := Ideal) (m ((c : Thread nD τ).loc main_arg0)) (m ((c : Thread nD τ).loc main_arg1)) (ix2 p k)

theorem ct_eq (c : Dev nD) (t : Fin cfg0.N) (p : Fin 512) (k : Fin 2048) :
    k0_pay3 (F := Ideal) (iblk m c 0 t) (iblk m c 1 t) (ix2 p k) = ct m c (row t p) k := by
  refine (pay3 _ _ p k).trans (Eq.trans ?_ (ref_ct _ _ _ _).symm)
  refine Finset.sum_congr (M := EReal) rfl fun l _ => ?_
  blk_point [iblk, V, row, idx t]

/-- The rows of the stream a point reads. -/
theorem rows (c : Dev nD) (t : Fin cfg0.N) (p : Fin 512) (k : Fin 2048) :
    (show FVec Ideal S512x2048 .f32 from iblk m c 2 t) (ix2 p k) = m ((c : Thread nD τ).loc main_arg2) (ix2 (row t p) k) := by
  blk_point [iblk, V, row, idx t]

/-- The residual's rows a point reads. -/
theorem res (c : Dev nD) (t : Fin cfg0.N) (p : Fin 512) (k : Fin 2048) :
    (show FVec Ideal S512x2048 .f32 from iblk m c 3 t) (ix2 p k) = m ((c : Thread nD τ).loc main_arg3) (ix2 (row t p) k) := by
  blk_point [iblk, V, row, idx t]

/-- The gain. -/
theorem gain (c : Dev nD) (t : Fin cfg0.N) (k : Fin 2048) :
    (show FVec Ideal S1x2048 .f32 from iblk m c 4 t) (ix2 0 k) = m ((c : Thread nD τ).loc main_arg4) (ix2 0 k) := by
  blk_point [iblk, V, idx t]

/-- The gradient of the stream, after the run. -/
theorem final_dx (c : Dev nD) : (dats m 0 c).arrAt 5 cfg0.N = Cert.Reference14Ideal.Read.val_main_v38 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  obtain ⟨p, q, rfl⟩ : ∃ (p : Fin 512) (q : Fin 2048), y = ix2 p q := ⟨y 0, y 1, funext fun a => by match a with | ⟨0, _⟩ => rfl | ⟨1, _⟩ => rfl⟩
  refine (pay_dx _ _ _ _ _ p q).trans ?_
  have e : (win0_5.blk t).view.emb (ix2 p q) = ix2 (row t p) q := by blk_ext [row, idx t]
  rw [e, ref_dx]
  refine congrArg₂ (· + ·) ?_ (res m c t p q)
  have e1 := funext fun k => rows m c t p k
  have e2 := funext fun k => ct_eq m c t p k
  have e3 := funext fun k => gain m c t k
  exact congr (congr (congr (congrArg NormGrad.dx e1) e2) e3) rfl

/-- The parts of the gain's gradient the tiles leave, each in eight equal rows. -/
def parts (c : Dev nD) : FVec Ideal S32x2048 .f32 := fun i =>
  ∑ p : Fin 512, NormGrad.dg (fun k => m ((c : Thread nD τ).loc main_arg2) (ix2 (⟨(i 0).val / 8 * 512 + p.val, by have : (i 0).val < 32 := (i 0).isLt; omega⟩ : Fin 2048) k))
    (fun k => ct m c ⟨(i 0).val / 8 * 512 + p.val, by have : (i 0).val < 32 := (i 0).isLt; omega⟩ k) (i 1)

theorem final_parts (c : Dev nD) : (dats m 0 c).arrAt 6 cfg0.N = parts m c := by
  refine (dats m 0 c).arrAt_eq_of_covers 6 _ (by decide +kernel) fun t _ y => ?_
  blk_simp
  rw [after0_6]
  unfold outsAt0
  frame_out
  obtain ⟨p, q, rfl⟩ : ∃ (p : Fin 8) (q : Fin 2048), y = ix2 p q := ⟨y 0, y 1, funext fun a => by match a with | ⟨0, _⟩ => rfl | ⟨1, _⟩ => rfl⟩
  refine (pay_dg _ _ _ p q).trans ?_
  have e : (win0_6.blk t).view.emb (ix2 p q) = ix2 (⟨t.val * 8 + p.val, by have := lt_of_lt_of_eq t.isLt N_0; omega⟩ : Fin 32) q := by blk_ext [idx t]
  rw [e]
  unfold parts
  refine Finset.sum_congr rfl fun r _ => ?_
  have er : row t r = ⟨(t.val * 8 + p.val) / 8 * 512 + r.val, by have := lt_of_lt_of_eq t.isLt N_0; omega⟩ := Fin.ext (by simp only [row]; omega)
  have e1 := funext fun k => rows m c t r k
  have e2 := funext fun k => ct_eq m c t r k
  rw [er] at e1 e2
  exact congr (congr (congrArg NormGrad.dg e1) e2) rfl

/-- The lines after the call: the tiles' parts added up. -/
theorem tail (c : Dev nD) : Pipeline.afterTail₀ cfgs (dats m) 0 (V0 m) [hostOps1] c main_v3
    = broadcastInDim S1x2048 ![1] bcast_S2048_S1x2048_1 (Host.reduceAdd (F := Ideal) (φ := .f32) (Host.slice S4x2048 ![0, 0] ![8, 1] ((dats m 0 c).arrAt 6 cfg0.N) slicesBy_S32x2048_S4x2048_0s8_0s1) (constant S_ .f32 0x00000000#32) reducesTo_S4x2048_S2048_d0 h_S_) := by
  unfold Pipeline.afterTail₀
  simp only [hostOps1, List.flatten_cons, List.flatten_nil, List.append_nil, List.cons_append, List.nil_append]
  simp only [StableHlo.after_cons, StableHlo.after_nil]
  after_results_simp
  have e : Pipeline.withArrays (cfgs 0).spec c (V0 m c) (fun w => (dats m 0 c).arrAt w (cfgs 0).N) (Proc.devRef .tc main_v0_1)
    = (dats m 0 c).arrAt 6 cfg0.N := Pipeline.withArrays_arr (cfgs 0).spec (by decide) c (V0 m c) _ 6
  rw [e]

/-- The gradient of the gain, after the run. -/
theorem final_dg (c : Dev nD) : Pipeline.afterTail₀ cfgs (dats m) 0 (V0 m) [hostOps1] c main_v3 = Cert.Reference14Ideal.Read.val_main_v21 (F := Ideal)
    (m ((c : Thread nD τ).loc main_arg0)) (m ((c : Thread nD τ).loc main_arg1)) (m ((c : Thread nD τ).loc main_arg2)) := by
  refine (tail m c).trans (funext fun j => ?_)
  obtain ⟨q, rfl⟩ : ∃ q : Fin 2048, j = ix2 0 q := ⟨j 1, funext fun a => by match a with | ⟨0, _⟩ => exact Subsingleton.elim (α := Fin 1) _ _ | ⟨1, _⟩ => rfl⟩
  rw [ref_dg, final_parts]
  pointwise [parts]
  refine Fin.sum_mul_add_congr fun a p hl => ?_
  have er : (⟨8 * a.val / 8 * 512 + p.val, by omega⟩ : Fin 2048) = ⟨a.val * 512 + p.val, hl⟩ := Fin.ext (by show 8 * a.val / 8 * 512 + p.val = a.val * 512 + p.val; omega)
  simp only [er]
  rfl

/-- The program's run: its two results at the reference's expressions of the arguments. -/
theorem run (ρ : Dev nD → PrngReg) : θ_run defs (onTc (τ := τ) (main (F := Ideal))) ⟨m, fun _ => 0, ρ⟩ fun r => ∀ c : Dev nD,
      r.2.mem ((c : Thread nD τ).loc main_v0_0) = Cert.Reference14Ideal.Read.val_main_v38 (F := Ideal)
        (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3) = Cert.Reference14Ideal.Read.val_main_v21 (F := Ideal)
        (m ((c : Thread nD τ).loc main_arg0)) (m ((c : Thread nD τ).loc main_arg1)) (m ((c : Thread nD τ).loc main_arg2)) :=
  (θ_run defs _ _).mono (fun r h c => ⟨((h c).1 5).trans (final_dx m c),
    ((h c).2 main_v3 (Pipeline.mem_restRefs_of main_v3 (by decide) (by decide))).trans (final_dg m c)⟩) (run_main m ρ)

end Cert.Kernel14Ideal.DHc
-- ==== Proof.NormBack2.lean ====
/- The gradients of the stream and of the gain before the wide projection: one block of the
product, the normalisation and the residual. -/
module

public import proofs.«01_k».proof.Defs
public import proofs.«01_k».proof.Proof.Gen.Kernel15Ideal.Frame
public import proofs.«01_k».proof.Proof.Gen.Reference15Ideal.Read
public import proofs.«01_k».proof.Proof.NormGrad
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.DHdt

open Cert.Kernel15Ideal Cert.Kernel15Ideal.Gen

/-- The cotangent of the normalised rows a step computes. -/
theorem pay3 (a : FVec Ideal S512x512 .bf16) (w : FVec Ideal S2048x512 .bf16) (h : FVec Ideal S512x2048 .f32) (p : Fin 512) (q : Fin 2048) :
    k0_pay3 (F := Ideal) a w h (ix2 p q) = ∑ k : Fin 512, a (ix2 p k) * w (ix2 q k) + h (ix2 p q) := by
  pointwise [k0_pay3]

/-- The kernel's last step at an index: the row's gradient and the residual. -/
theorem pay_dx (a : FVec Ideal S512x512 .bf16) (w : FVec Ideal S2048x512 .bf16) (x d h : FVec Ideal S512x2048 .f32) (g : FVec Ideal S1x2048 .f32) (p : Fin 512) (q : Fin 2048) :
    k0_pay1 (F := Ideal) x d (k0_pay8 a w x h g) (k0_pay9 a w x h g) (ix2 p q)
      = NormGrad.dx (fun k => x (ix2 p k)) (fun k => k0_pay3 (F := Ideal) a w h (ix2 p k)) (fun k => g (ix2 0 k)) q + d (ix2 p q) := by
  pointwise [k0_pay1, k0_pay9, k0_pay8, k0_pay7, k0_pay5, k0_pay4]
  rfl

/-- And the rows' part of the gain's gradient. -/
theorem pay_dg (a : FVec Ideal S512x512 .bf16) (w : FVec Ideal S2048x512 .bf16) (x h : FVec Ideal S512x2048 .f32) (e : Fin 8) (q : Fin 2048) :
    k0_pay2 (F := Ideal) (k0_pay6 a w x h) (ix2 e q) = ∑ p : Fin 512, NormGrad.dg (fun k => x (ix2 p k)) (fun k => k0_pay3 (F := Ideal) a w h (ix2 p k)) q := by
  pointwise [k0_pay2, k0_pay6, k0_pay5, k0_pay4]
  rfl

open Cert.Reference15Ideal.Read in
/-- The reference's mean square of a row. -/
theorem ref_ms (x : FVec Ideal S2048x2048 .f32) (i : (⟨2, ![2048, 1]⟩ : Shape).Idx) :
    val_main_v7 (F := Ideal) x i = NormGrad.ms fun k => x (ix2 (i 0) k) := by
  pointwise [val_main_v7, val_main_v6, val_main_v5, val_main_v4, val_main_v3, val_main_v2, val_main_v1, val_main_cst, val_main_cst_0, val_main_cst_1]
  rfl

open Cert.Reference15Ideal.Read in
/-- The reference's gradient of the rows at an index. -/
theorem ref_dx (a w : FVec Ideal S2048x512 .bf16) (x d h : FVec Ideal S2048x2048 .f32) (g : FVec Ideal S1x2048 .f32) (p q : Fin 2048) :
    val_main_v39 (F := Ideal) a w x d h g (ix2 p q)
      = NormGrad.dx (fun k => x (ix2 p k)) (fun k => val_main_v19 (F := Ideal) a w h (ix2 p k)) (fun k => g (ix2 0 k)) q + d (ix2 p q) := by
  pointwise [val_main_v39, val_main_v38, val_main_v37, val_main_v36, val_main_v35, val_main_v34, val_main_v33, val_main_v32, val_main_v31, val_main_v30, val_main_v29,
    val_main_v28, val_main_v27, val_main_v26, val_main_v25, val_main_v24, val_main_v23, val_main_v11, val_main_v10, val_main_v9, val_main_v8,
    val_main_cst_2, val_main_cst_4, val_main_cst_5, val_main_cst_6]
  simp only [ref_ms]
  refine Eq.trans ?_ (NormGrad.add_last _ _ _ _)
  rfl

open Cert.Reference15Ideal.Read in
/-- The reference's gradient of the gain at an index. -/
theorem ref_dg (a w : FVec Ideal S2048x512 .bf16) (x h : FVec Ideal S2048x2048 .f32) (q : Fin 2048) :
    val_main_v22 (F := Ideal) a w x h (ix2 0 q)
      = ∑ p : Fin 2048, NormGrad.dg (fun k => x (ix2 p k)) (fun k => val_main_v19 (F := Ideal) a w h (ix2 p k)) q := by
  pointwise [val_main_v22, val_main_v21, val_main_v20, val_main_v13, val_main_v12, val_main_v8, val_main_cst_3]
  simp only [ref_ms]
  rfl

open Cert.Reference15Ideal.Read in
/-- The reference's cotangent of the normalised rows at an index. -/
theorem ref_ct (a w : FVec Ideal S2048x512 .bf16) (h : FVec Ideal S2048x2048 .f32) (p q : Fin 2048) :
    val_main_v19 (F := Ideal) a w h (ix2 p q) = h (ix2 p q) + ∑ k : Fin 512, a (ix2 p k) * w (ix2 q k) := by
  pointwise [val_main_v19, val_main_v18, val_main_v17, val_main_v0]

variable (m : (ℓ : Loc nD τ sig) → Buf (Elt Ideal) ℓ)

/-- Every window's block index at a grid point. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![0, 0]
    ∧ win0_6.index t = ![t.val, 0] ∧ win0_7.index t = ![t.val, 0] := (by decide +kernel : ∀ t : Fin grid0.N, _)

/-- The row of the array that row `p` of a point's blocks is. -/
def row (t : Fin cfg0.N) (p : Fin 512) : Fin 2048 := ⟨t.val * 512 + p.val, by have := lt_of_lt_of_eq t.isLt N_0; omega⟩

/-- The cotangent of the normalised rows, off the arguments. -/
def ct (c : Dev nD) (p : Fin 2048) (k : Fin 2048) : EReal :=
  Cert.Reference15Ideal.Read.val_main_v19 (F := Ideal) (m ((c : Thread nD τ).loc main_arg0)) (m ((c : Thread nD τ).loc main_arg1)) (m ((c : Thread nD τ).loc main_arg4)) (ix2 p k)

theorem ct_eq (c : Dev nD) (t : Fin cfg0.N) (p : Fin 512) (k : Fin 2048) :
    k0_pay3 (F := Ideal) (iblk m c 0 t) (iblk m c 1 t) (iblk m c 4 t) (ix2 p k) = ct m c (row t p) k := by
  refine (pay3 _ _ _ p k).trans (Eq.trans ?_ (ref_ct _ _ _ _ _).symm)
  refine Eq.trans (congrArg₂ (· + ·) (Finset.sum_congr (M := EReal) rfl fun l _ => ?_) ?_) (add_comm (G := EReal) _ _)
  · blk_point [iblk, V, row, idx t]
  · blk_point [iblk, V, row, idx t]

/-- The rows of the stream a point reads. -/
theorem rows (c : Dev nD) (t : Fin cfg0.N) (p : Fin 512) (k : Fin 2048) :
    (show FVec Ideal S512x2048 .f32 from iblk m c 2 t) (ix2 p k) = m ((c : Thread nD τ).loc main_arg2) (ix2 (row t p) k) := by
  blk_point [iblk, V, row, idx t]

/-- The residual's rows a point reads. -/
theorem res (c : Dev nD) (t : Fin cfg0.N) (p : Fin 512) (k : Fin 2048) :
    (show FVec Ideal S512x2048 .f32 from iblk m c 3 t) (ix2 p k) = m ((c : Thread nD τ).loc main_arg3) (ix2 (row t p) k) := by
  blk_point [iblk, V, row, idx t]

/-- The gain. -/
theorem gain (c : Dev nD) (t : Fin cfg0.N) (k : Fin 2048) :
    (show FVec Ideal S1x2048 .f32 from iblk m c 5 t) (ix2 0 k) = m ((c : Thread nD τ).loc main_arg5) (ix2 0 k) := by
  blk_point [iblk, V, idx t]

/-- The gradient of the stream, after the run. -/
theorem final_dx (c : Dev nD) : (dats m 0 c).arrAt 6 cfg0.N = Cert.Reference15Ideal.Read.val_main_v39 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold outsAt0
  frame_out
  obtain ⟨p, q, rfl⟩ : ∃ (p : Fin 512) (q : Fin 2048), y = ix2 p q := ⟨y 0, y 1, funext fun a => by match a with | ⟨0, _⟩ => rfl | ⟨1, _⟩ => rfl⟩
  refine (pay_dx _ _ _ _ _ _ p q).trans ?_
  have e : (win0_6.blk t).view.emb (ix2 p q) = ix2 (row t p) q := by blk_ext [row, idx t]
  rw [e, ref_dx]
  refine congrArg₂ (· + ·) ?_ (res m c t p q)
  have e1 := funext fun k => rows m c t p k
  have e2 := funext fun k => ct_eq m c t p k
  have e3 := funext fun k => gain m c t k
  exact congr (congr (congr (congrArg NormGrad.dx e1) e2) e3) rfl

/-- The parts of the gain's gradient the tiles leave, each in eight equal rows. -/
def parts (c : Dev nD) : FVec Ideal S32x2048 .f32 := fun i =>
  ∑ p : Fin 512, NormGrad.dg (fun k => m ((c : Thread nD τ).loc main_arg2) (ix2 (⟨(i 0).val / 8 * 512 + p.val, by have : (i 0).val < 32 := (i 0).isLt; omega⟩ : Fin 2048) k))
    (fun k => ct m c ⟨(i 0).val / 8 * 512 + p.val, by have : (i 0).val < 32 := (i 0).isLt; omega⟩ k) (i 1)

theorem final_parts (c : Dev nD) : (dats m 0 c).arrAt 7 cfg0.N = parts m c := by
  refine (dats m 0 c).arrAt_eq_of_covers 7 _ (by decide +kernel) fun t _ y => ?_
  blk_simp
  rw [after0_7]
  unfold outsAt0
  frame_out
  obtain ⟨p, q, rfl⟩ : ∃ (p : Fin 8) (q : Fin 2048), y = ix2 p q := ⟨y 0, y 1, funext fun a => by match a with | ⟨0, _⟩ => rfl | ⟨1, _⟩ => rfl⟩
  refine (pay_dg _ _ _ _ p q).trans ?_
  have e : (win0_7.blk t).view.emb (ix2 p q) = ix2 (⟨t.val * 8 + p.val, by have := lt_of_lt_of_eq t.isLt N_0; omega⟩ : Fin 32) q := by blk_ext [idx t]
  rw [e]
  unfold parts
  refine Finset.sum_congr rfl fun r _ => ?_
  have er : row t r = ⟨(t.val * 8 + p.val) / 8 * 512 + r.val, by have := lt_of_lt_of_eq t.isLt N_0; omega⟩ := Fin.ext (by simp only [row]; omega)
  have e1 := funext fun k => rows m c t r k
  have e2 := funext fun k => ct_eq m c t r k
  rw [er] at e1 e2
  exact congr (congr (congrArg NormGrad.dg e1) e2) rfl

/-- The lines after the call: the tiles' parts added up. -/
theorem tail (c : Dev nD) : Pipeline.afterTail₀ cfgs (dats m) 0 (V0 m) [hostOps1] c main_v3
    = broadcastInDim S1x2048 ![1] bcast_S2048_S1x2048_1 (Host.reduceAdd (F := Ideal) (φ := .f32) (Host.slice S4x2048 ![0, 0] ![8, 1] ((dats m 0 c).arrAt 7 cfg0.N) slicesBy_S32x2048_S4x2048_0s8_0s1) (constant S_ .f32 0x00000000#32) reducesTo_S4x2048_S2048_d0 h_S_) := by
  unfold Pipeline.afterTail₀
  simp only [hostOps1, List.flatten_cons, List.flatten_nil, List.append_nil, List.cons_append, List.nil_append]
  simp only [StableHlo.after_cons, StableHlo.after_nil]
  after_results_simp
  have e : Pipeline.withArrays (cfgs 0).spec c (V0 m c) (fun w => (dats m 0 c).arrAt w (cfgs 0).N) (Proc.devRef .tc main_v0_1)
    = (dats m 0 c).arrAt 7 cfg0.N := Pipeline.withArrays_arr (cfgs 0).spec (by decide) c (V0 m c) _ 7
  rw [e]

/-- The gradient of the gain, after the run. -/
theorem final_dg (c : Dev nD) : Pipeline.afterTail₀ cfgs (dats m) 0 (V0 m) [hostOps1] c main_v3 = Cert.Reference15Ideal.Read.val_main_v22 (F := Ideal)
    (m ((c : Thread nD τ).loc main_arg0)) (m ((c : Thread nD τ).loc main_arg1)) (m ((c : Thread nD τ).loc main_arg2)) (m ((c : Thread nD τ).loc main_arg4)) := by
  refine (tail m c).trans (funext fun j => ?_)
  obtain ⟨q, rfl⟩ : ∃ q : Fin 2048, j = ix2 0 q := ⟨j 1, funext fun a => by match a with | ⟨0, _⟩ => exact Subsingleton.elim (α := Fin 1) _ _ | ⟨1, _⟩ => rfl⟩
  rw [ref_dg, final_parts]
  pointwise [parts]
  refine Fin.sum_mul_add_congr fun a p hl => ?_
  have er : (⟨8 * a.val / 8 * 512 + p.val, by omega⟩ : Fin 2048) = ⟨a.val * 512 + p.val, hl⟩ := Fin.ext (by show 8 * a.val / 8 * 512 + p.val = a.val * 512 + p.val; omega)
  simp only [er]
  rfl

/-- The program's run: its two results at the reference's expressions of the arguments. -/
theorem run (ρ : Dev nD → PrngReg) : θ_run defs (onTc (τ := τ) (main (F := Ideal))) ⟨m, fun _ => 0, ρ⟩ fun r => ∀ c : Dev nD,
      r.2.mem ((c : Thread nD τ).loc main_v0_0) = Cert.Reference15Ideal.Read.val_main_v39 (F := Ideal)
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3) = Cert.Reference15Ideal.Read.val_main_v22 (F := Ideal)
        (m ((c : Thread nD τ).loc main_arg0)) (m ((c : Thread nD τ).loc main_arg1)) (m ((c : Thread nD τ).loc main_arg2)) (m ((c : Thread nD τ).loc main_arg4)) :=
  (θ_run defs _ _).mono (fun r h c => ⟨((h c).1 6).trans (final_dx m c),
    ((h c).2 main_v3 (Pipeline.mem_restRefs_of main_v3 (by decide) (by decide))).trans (final_dg m c)⟩) (run_main m ρ)

end Cert.Kernel15Ideal.DHdt
-- ==== Proof.Ends2.lean ====
/- The pairing of each further program's run with its reference's, and the references' frames. -/
module

public import proofs.«01_k».proof.Defs
public import proofs.«01_k».proof.Proof.Gen.Kernel10Ideal.Value
public import proofs.«01_k».proof.Proof.Gen.Reference10Ideal.Run
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Reference14Ideal.Run
public import proofs.«01_k».proof.Proof.Gen.Reference15Ideal.Run
public import proofs.«01_k».proof.Proof.Forward
public import proofs.«01_k».proof.Proof.Loss
public import proofs.«01_k».proof.Proof.NormBack
public import proofs.«01_k».proof.Proof.NormBack2
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Proof

theorem up_proj_value : Cert.algebraic_Kernel10Ideal_Reference10Ideal := by
  pair_intro
  · run_from Cert.Kernel10Ideal.Value.run_blocks m g
  · run_from Cert.Reference10Ideal.Value.run m' g'
    · rw [Cert.Kernel10Ideal.UpProj.final_u m c]
      rfl
    · rw [Cert.Kernel10Ideal.UpProj.final_act m c]
      rfl

theorem up_proj_frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem down_proj_value : Cert.algebraic_Kernel11Ideal_Reference11Ideal := fun m g m' g' _ hm =>
  ⟨_, _, _, (θ_run_and (Cert.Kernel11Ideal.Loss.run m g) (Cert.Kernel11Ideal.Gen.unchanged m g)).mono fun r h c => ⟨(h.1 c).1, (h.1 c).2.1, (h.1 c).2.2, h.2 c⟩,
    (θ_run Cert.Reference11Ideal.defs _ _).mono (fun r h c => by
      obtain ⟨m0, m1, m2, m3⟩ := hm c
      obtain ⟨r0, r1, r2, r'⟩ := h c
      refine ⟨r0.trans ?_, r1.trans ?_, r2.trans ?_, r'⟩
      · rw [Cert.Reference11Ideal.Read.val_main_v18_eq, m0, m1, m2, m3]
      · rw [Cert.Reference11Ideal.Read.val_main_v19_eq, m0, m1, m2, m3]
      · rw [Cert.Reference11Ideal.Read.val_main_v20_eq, m0, m1, m2, m3])
      (Cert.Reference11Ideal.Value.run (F := Ideal) m' g')⟩

theorem down_proj_frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem in_proj_value : Cert.algebraic_Kernel12Ideal_Reference12Ideal := by
  pair_intro
  · run_from Cert.Kernel12Ideal.Value.run_blocks m g
  · run_from Cert.Reference12Ideal.Value.run m' g'
    rw [Cert.Kernel12Ideal.InProj.final m c]
    rfl

theorem in_proj_frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem out_proj_value : Cert.algebraic_Kernel13Ideal_Reference13Ideal := by
  pair_intro
  · run_from Cert.Kernel13Ideal.Value.run_blocks m g
  · run_from Cert.Reference13Ideal.Value.run m' g'
    · rw [Cert.Kernel13Ideal.OutProj.final_x1 m c]
      rfl
    · rw [Cert.Kernel13Ideal.OutProj.final_hc m c]
      rfl

theorem out_proj_frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem d_hc_value : Cert.algebraic_Kernel14Ideal_Reference14Ideal := fun m g m' g' _ hm =>
  ⟨_, _, (θ_run_and (Cert.Kernel14Ideal.DHc.run m g) (Cert.Kernel14Ideal.Gen.unchanged m g)).mono fun r h c => ⟨(h.1 c).1, (h.1 c).2, h.2 c⟩,
    (θ_run Cert.Reference14Ideal.defs _ _).mono (fun r h c => by
      obtain ⟨m0, m1, m2, m3, m4⟩ := hm c
      obtain ⟨r0, r1, r'⟩ := h c
      refine ⟨r0.trans ?_, r1.trans ?_, r'⟩
      · rw [Cert.Reference14Ideal.Read.val_main_v38_eq, m0, m1, m2, m3, m4]
      · rw [Cert.Reference14Ideal.Read.val_main_v21_eq, m0, m1, m2])
      (Cert.Reference14Ideal.Value.run (F := Ideal) m' g')⟩

theorem d_hc_frame_reference : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem d_h_dt_value : Cert.algebraic_Kernel15Ideal_Reference15Ideal := fun m g m' g' _ hm =>
  ⟨_, _, (θ_run_and (Cert.Kernel15Ideal.DHdt.run m g) (Cert.Kernel15Ideal.Gen.unchanged m g)).mono fun r h c => ⟨(h.1 c).1, (h.1 c).2, h.2 c⟩,
    (θ_run Cert.Reference15Ideal.defs _ _).mono (fun r h c => by
      obtain ⟨m0, m1, m2, m3, m4, m5⟩ := hm c
      obtain ⟨r0, r1, r'⟩ := h c
      refine ⟨r0.trans ?_, r1.trans ?_, r'⟩
      · rw [Cert.Reference15Ideal.Read.val_main_v39_eq, m0, m1, m2, m3, m4, m5]
      · rw [Cert.Reference15Ideal.Read.val_main_v22_eq, m0, m1, m2, m4])
      (Cert.Reference15Ideal.Value.run (F := Ideal) m' g')⟩

theorem d_h_dt_frame_reference : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

end Cert.Proof

end
-- ==== Proof.Products2.lean ====
/- The products around the cross attention and its memory, and the norms that stand alone: each kernel's result array read at an index, and the
   same of its reference. -/
module

public import proofs.«01_k».proof.Defs
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import proofs.«01_k».proof.Proof.Gen.Kernel24Ideal.Value
public import proofs.«01_k».proof.Proof.Gen.Reference24Ideal.Read
public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read
public import proofs.«01_k».proof.Proof.Gen.Kernel28Ideal.Value
public import proofs.«01_k».proof.Proof.Gen.Reference28Ideal.Read
public import proofs.«01_k».proof.Proof.NormGrad
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel19Ideal.DOc

open Cert.Kernel19Ideal Cert.Kernel19Ideal.Gen

variable (m : (ℓ : Loc nD τ sig) → Buf (Elt Ideal) ℓ)

open Cert.Reference19Ideal.Read in
/-- The reference at an index. -/
theorem ref_apply (a : FVec Ideal S2048x2048 .f32) (b : FVec Ideal S512x2048 .bf16) (j : S2048x512.Idx) :
    val_main_v4 (F := Ideal) a b j = ∑ k : Fin 2048, a (ix2 (j 0) k) * b (ix2 (j 1) k) := by
  rw [eq_ix2 j]
  pointwise [val_main_v4, val_main_v3, val_main_v1]

/-- Every window's block index at a grid point. -/
theorem idx : ∀ t : Fin cfg0.N, win0_0.index t = ![t.val, 0] ∧ win0_1.index t = ![0, 0]
    ∧ win0_2.index t = ![t.val, 0] := (by decide +kernel : ∀ t : Fin grid0.N, _)

/-- The result array after the run. -/
theorem final (c : Dev nD) : (dats m 0 c).arrAt 2 cfg0.N = Cert.Reference19Ideal.Read.val_main_v4 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel19Ideal.DOc

namespace Cert.Kernel20Ideal.DwCq

open Cert.Kernel20Ideal Cert.Kernel20Ideal.Gen

variable (m : (ℓ : Loc nD τ sig) → Buf (Elt Ideal) ℓ)

open Cert.Reference20Ideal.Read in
/-- The reference at an index. -/
theorem ref_apply (a : FVec Ideal S2048x2048 .bf16) (b : FVec Ideal S2048x512 .bf16) (j : S2048x512.Idx) :
    val_main_v6 (F := Ideal) a b j = ∑ k : Fin 2048, a (ix2 k (j 0)) * b (ix2 k (j 1)) := by
  rw [eq_ix2 j]
  pointwise [val_main_v6, val_main_v5, val_main_v4, val_main_v3, val_main_v1]
  exact Finset.sum_congr rfl fun k _ => mul_comm _ _

/-- Every window's block index at a grid point. -/
theorem idx : ∀ t : Fin cfg0.N, win0_0.index t = ![0, t.val] ∧ win0_1.index t = ![0, 0]
    ∧ win0_2.index t = ![t.val, 0] := (by decide +kernel : ∀ t : Fin grid0.N, _)

/-- The result array after the run. -/
theorem final (c : Dev nD) : (dats m 0 c).arrAt 2 cfg0.N = Cert.Reference20Ideal.Read.val_main_v6 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel20Ideal.DwCq

namespace Cert.Kernel21Ideal.DwCkv

open Cert.Kernel21Ideal Cert.Kernel21Ideal.Gen

variable (m : (ℓ : Loc nD τ sig) → Buf (Elt Ideal) ℓ)

open Cert.Reference21Ideal.Read in
/-- The reference at an index. -/
theorem ref_apply (a : FVec Ideal S256x2048 .bf16) (b : FVec Ideal S256x1024 .f32) (j : S2048x1024.Idx) :
    val_main_v5 (F := Ideal) a b j = ∑ k : Fin 256, a (ix2 k (j 0)) * b (ix2 k (j 1)) := by
  rw [eq_ix2 j]
  pointwise [val_main_v5, val_main_v4, val_main_v3, val_main_v1]
  exact Finset.sum_congr rfl fun k _ => mul_comm _ _

/-- Every window's block index at a grid point. -/
theorem idx : ∀ t : Fin cfg0.N, win0_0.index t = ![0, t.val] ∧ win0_1.index t = ![0, 0]
    ∧ win0_2.index t = ![t.val, 0] := (by decide +kernel : ∀ t : Fin grid0.N, _)

/-- The result array after the run. -/
theorem final (c : Dev nD) : (dats m 0 c).arrAt 2 cfg0.N = Cert.Reference21Ideal.Read.val_main_v5 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel21Ideal.DwCkv

namespace Cert.Kernel22Ideal.DMemh

open Cert.Kernel22Ideal Cert.Kernel22Ideal.Gen

variable (m : (ℓ : Loc nD τ sig) → Buf (Elt Ideal) ℓ)

open Cert.Reference22Ideal.Read in
/-- The reference at an index. -/
theorem ref_apply (a : FVec Ideal S256x1024 .f32) (b : FVec Ideal S2048x1024 .bf16) (j : S256x2048.Idx) :
    val_main_v3 (F := Ideal) a b j = ∑ k : Fin 1024, a (ix2 (j 0) k) * b (ix2 (j 1) k) := by
  rw [eq_ix2 j]
  pointwise [val_main_v3, val_main_v1]

/-- Every window's block index at a grid point. -/
theorem idx : ∀ t : Fin cfg0.N, win0_0.index t = ![0, 0] ∧ win0_1.index t = ![t.val, 0]
    ∧ win0_2.index t = ![0, t.val] := (by decide +kernel : ∀ t : Fin grid0.N, _)

/-- The result array after the run. -/
theorem final (c : Dev nD) : (dats m 0 c).arrAt 2 cfg0.N = Cert.Reference22Ideal.Read.val_main_v3 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel22Ideal.DMemh

namespace Cert.Kernel23Ideal.CqProj

open Cert.Kernel23Ideal Cert.Kernel23Ideal.Gen

variable (m : (ℓ : Loc nD τ sig) → Buf (Elt Ideal) ℓ)

open Cert.Reference23Ideal.Read in
/-- The reference at an index. -/
theorem ref_apply (a : FVec Ideal S2048x2048 .bf16) (b : FVec Ideal S2048x512 .bf16) (j : S2048x512.Idx) :
    val_main_v2 (F := Ideal) a b j = ∑ k : Fin 2048, a (ix2 (j 0) k) * b (ix2 k (j 1)) := by
  rw [eq_ix2 j]
  pointwise [val_main_v2, val_main_v1, val_main_v0]

/-- Every window's block index at a grid point. -/
theorem idx : ∀ t : Fin cfg0.N, win0_0.index t = ![t.val, 0] ∧ win0_1.index t = ![0, 0]
    ∧ win0_2.index t = ![t.val, 0] := (by decide +kernel : ∀ t : Fin grid0.N, _)

/-- The result array after the run. -/
theorem final (c : Dev nD) : (dats m 0 c).arrAt 2 cfg0.N = Cert.Reference23Ideal.Read.val_main_v2 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel23Ideal.CqProj

namespace Cert.Kernel24Ideal.CkvProj

open Cert.Kernel24Ideal Cert.Kernel24Ideal.Gen

variable (m : (ℓ : Loc nD τ sig) → Buf (Elt Ideal) ℓ)

open Cert.Reference24Ideal.Read in
/-- The reference at an index. -/
theorem ref_apply (a : FVec Ideal S256x2048 .bf16) (b : FVec Ideal S2048x1024 .bf16) (j : S256x1024.Idx) :
    val_main_v2 (F := Ideal) a b j = ∑ k : Fin 2048, a (ix2 (j 0) k) * b (ix2 k (j 1)) := by
  rw [eq_ix2 j]
  pointwise [val_main_v2, val_main_v1, val_main_v0]

/-- Every window's block index at a grid point. -/
theorem idx : ∀ t : Fin cfg0.N, win0_0.index t = ![0, 0] ∧ win0_1.index t = ![0, 0]
    ∧ win0_2.index t = ![0, 0] := (by decide +kernel : ∀ t : Fin grid0.N, _)

/-- The result array after the run. -/
theorem final (c : Dev nD) : (dats m 0 c).arrAt 2 cfg0.N = Cert.Reference24Ideal.Read.val_main_v2 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel24Ideal.CkvProj

namespace Cert.Kernel18Ideal.DwCo

open Cert.Kernel18Ideal Cert.Kernel18Ideal.Gen

variable (m : (ℓ : Loc nD τ sig) → Buf (Elt Ideal) ℓ)

open Cert.Reference18Ideal.Read in
/-- The reference at an index. -/
theorem ref_apply (a : FVec Ideal S2048x512 .bf16) (b : FVec Ideal S2048x2048 .f32) (j : S4x512x512.Idx) :
    val_main_v7 (F := Ideal) a b j = ∑ k : Fin 2048, a (ix2 k (j 1)) * b (ix2 k ⟨(j 0).val * 512 + (j 2).val, by
      have h0 : (j 0).val < 4 := (j 0).isLt
      have h2 : (j 2).val < 512 := (j 2).isLt
      omega⟩) := by
  have h0 : (j 0).val < 4 := (j 0).isLt
  have h1 : (j 1).val < 512 := (j 1).isLt
  have h2 : (j 2).val < 512 := (j 2).isLt
  rw [val_main_v7_apply, val_main_v6_apply, val_main_v5_apply, val_main_v4_apply, val_main_v3_apply]
  simp only [val_main_v1_apply]
  pointwise
  have el : ∀ k, lidx_main_v3 (idx_main_v4 (idx_main_v6 (idx_main_v7 j))) k = ix2 k ⟨(j 0).val * 512 + (j 2).val, by omega⟩ :=
    fun k => funext fun a => by match a with | ⟨0, _⟩ => rfl | ⟨1, _⟩ => exact Fin.ext (by show _ = (j 0).val * 512 + (j 2).val; simp only [idx_main_v4, idx_main_v6, idx_main_v7]; omega)
  have er : ∀ k, ridx_main_v3 (idx_main_v4 (idx_main_v6 (idx_main_v7 j))) k = ix2 k (j 1) :=
    fun k => funext fun a => by match a with | ⟨0, _⟩ => rfl | ⟨1, _⟩ => exact Fin.ext (by show _ = (j 1).val; simp only [idx_main_v4, idx_main_v6, idx_main_v7]; omega)
  simp only [el, er]
  exact Finset.sum_congr rfl fun k _ => mul_comm _ _

/-- Every window's block index at a grid point. -/
theorem idx : ∀ t : Fin cfg0.N, win0_0.index t = ![0, 0] ∧ win0_1.index t = ![0, t.val]
    ∧ win0_2.index t = ![t.val, 0, 0] := (by decide +kernel : ∀ t : Fin grid0.N, _)

/-- The result array after the run. -/
theorem final (c : Dev nD) : (dats m 0 c).arrAt 2 cfg0.N = Cert.Reference18Ideal.Read.val_main_v7 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  refine Eq.trans ?_ (ref_apply _ _ _).symm
  pointwise [k0_pay1]
  blk_point [iblk, V, idx t]

end Cert.Kernel18Ideal.DwCo

namespace Cert.Kernel25Ideal.CoProj

open Cert.Kernel25Ideal Cert.Kernel25Ideal.Gen

variable (m : (ℓ : Loc nD τ sig) → Buf (Elt Ideal) ℓ)

open Cert.Reference25Ideal.Read in
/-- The reference's product at an index. -/
theorem ref_apply (a : FVec Ideal S2048x512 .bf16) (b : FVec Ideal S512x2048 .bf16) (j : S2048x2048.Idx) :
    val_main_v2 (F := Ideal) a b j = ∑ k : Fin 512, a (ix2 (j 0) k) * b (ix2 k (j 1)) := by
  rw [eq_ix2 j]
  pointwise [val_main_v2, val_main_v1, val_main_v0]

open Cert.Reference25Ideal.Read in
/-- The reference's normalised rows, by its sum with the residual. -/
theorem ref_norm (a : FVec Ideal S2048x512 .bf16) (b : FVec Ideal S512x2048 .bf16) (x : FVec Ideal S2048x2048 .f32) (g : FVec Ideal S1x2048 .f32) (p q : Fin 2048) :
    val_main_v16 (F := Ideal) a b x g (ix2 p q)
      = NormGrad.nrm (fun k => val_main_v3 (F := Ideal) a b x (ix2 p k)) (fun k => g (ix2 0 k)) q := by
  pointwise [val_main_v16, val_main_v15, val_main_v14, val_main_v13, val_main_v12, val_main_v11, val_main_v10, val_main_v9, val_main_v8,
    val_main_v7, val_main_v6, val_main_v5, val_main_v4, val_main_cst, val_main_cst_0, val_main_cst_1]
  rfl

/-- The kernel's normalised rows, by its sum with the residual. -/
theorem pay2 (a : FVec Ideal S512x512 .bf16) (b : FVec Ideal S512x2048 .bf16) (x : FVec Ideal S512x2048 .f32) (g : FVec Ideal S1x2048 .f32)
    (p : Fin 512) (q : Fin 2048) :
    k0_pay2 (F := Ideal) a b x g (ix2 p q) = NormGrad.nrm (fun k => k0_pay1 (F := Ideal) a b x (ix2 p k)) (fun k => g (ix2 0 k)) q := by
  pointwise [k0_pay2]
  rfl

/-- Every window's block index at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := (by decide +kernel : ∀ t : Fin grid0.N, _)

/-- The sum's block at a point. -/
theorem block (c : Dev nD) (t : Fin cfg0.N) (p : Fin 512) (q : Fin 2048) :
    k0_pay1 (iblk m c 0 t) (iblk m c 1 t) (iblk m c 2 t) (ix2 p q) = Cert.Reference25Ideal.Read.val_main_v3 (F := Ideal)
      (m ((c : Thread nD τ).loc main_arg0)) (m ((c : Thread nD τ).loc main_arg1)) (m ((c : Thread nD τ).loc main_arg2))
      (ix2 (⟨t.val * 512 + p.val, by have := lt_of_lt_of_eq t.isLt N_0; omega⟩ : Fin 2048) q) := by
  rw [Cert.Reference25Ideal.Read.val_main_v3_apply, ref_apply]
  pointwise [k0_pay1]
  refine Eq.trans (add_comm _ _) ?_
  blk_point [iblk, V, idx t]

/-- The place of a block's entry in the array. -/
theorem place (t : Fin cfg0.N) (p : Fin 512) (q : Fin 2048) :
    (win0_4.blk t).view.emb (ix2 p q) = ix2 (⟨t.val * 512 + p.val, by have := lt_of_lt_of_eq t.isLt N_0; omega⟩ : Fin 2048) q
    ∧ (win0_5.blk t).view.emb (ix2 p q) = ix2 (⟨t.val * 512 + p.val, by have := lt_of_lt_of_eq t.isLt N_0; omega⟩ : Fin 2048) q := by
  constructor <;> blk_ext [idx t]

/-- The gain. -/
theorem gain (c : Dev nD) (t : Fin cfg0.N) (k : Fin 2048) :
    (show FVec Ideal S1x2048 .f32 from iblk m c 3 t) (ix2 0 k) = m ((c : Thread nD τ).loc main_arg3) (ix2 0 k) := by
  blk_point [iblk, V, idx t]

/-- The stream after the run. -/
theorem final_x1 (c : Dev nD) : (dats m 0 c).arrAt 4 cfg0.N = Cert.Reference25Ideal.Read.val_main_v3 (F := Ideal)
    (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  obtain ⟨p, q, rfl⟩ : ∃ (p : Fin 512) (q : Fin 2048), y = ix2 p q := ⟨y 0, y 1, funext fun a => by match a with | ⟨0, _⟩ => rfl | ⟨1, _⟩ => rfl⟩
  rw [(place t p q).1]
  exact block m c t p q

/-- The normalised stream after the run. -/
theorem final_hm (c : Dev nD) : (dats m 0 c).arrAt 5 cfg0.N = Cert.Reference25Ideal.Read.val_main_v16 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  obtain ⟨p, q, rfl⟩ : ∃ (p : Fin 512) (q : Fin 2048), y = ix2 p q := ⟨y 0, y 1, funext fun a => by match a with | ⟨0, _⟩ => rfl | ⟨1, _⟩ => rfl⟩
  rw [(place t p q).2, ref_norm]
  refine (pay2 _ _ _ _ p q).trans ?_
  exact congr (congr (congrArg NormGrad.nrm (funext fun k => block m c t p k)) (funext fun k => gain m c t k)) rfl

end Cert.Kernel25Ideal.CoProj

namespace Cert.Kernel26Ideal.NormIn

open Cert.Kernel26Ideal Cert.Kernel26Ideal.Gen

variable (m : (ℓ : Loc nD τ sig) → Buf (Elt Ideal) ℓ)

open Cert.Reference26Ideal.Read in
/-- The reference's normalised rows. -/
theorem ref_norm (x : FVec Ideal S2048x2048 .f32) (g : FVec Ideal S1x2048 .f32) (p : Fin 2048) (q : Fin 2048) :
    val_main_v12 (F := Ideal) x g (ix2 p q) = NormGrad.nrm (fun k => x (ix2 p k)) (fun k => g (ix2 0 k)) q := by
  pointwise [val_main_v12, val_main_v11, val_main_v10, val_main_v9, val_main_v8,
    val_main_v7, val_main_v6, val_main_v5, val_main_v4, val_main_v3, val_main_v2, val_main_v1, val_main_v0, val_main_cst, val_main_cst_0, val_main_cst_1]
  rfl

/-- The kernel's normalised rows. -/
theorem pay (x : FVec Ideal S512x2048 .f32) (g : FVec Ideal S1x2048 .f32) (p : Fin 512) (q : Fin 2048) :
    k0_pay1 (F := Ideal) x g (ix2 p q) = NormGrad.nrm (fun k => x (ix2 p k)) (fun k => g (ix2 0 k)) q := by
  pointwise [k0_pay1]
  rfl

/-- Every window's block index at a grid point. -/
theorem idx : ∀ t : Fin cfg0.N, win0_0.index t = ![t.val, 0] ∧ win0_1.index t = ![0, 0]
    ∧ win0_2.index t = ![t.val, 0] := (by decide +kernel : ∀ t : Fin grid0.N, _)

/-- The place of a block's entry in the array. -/
theorem place (t : Fin cfg0.N) (p : Fin 512) (q : Fin 2048) : (win0_2.blk t).view.emb (ix2 p q) = ix2 (⟨t.val * 512 + p.val, by have := lt_of_lt_of_eq t.isLt N_0; omega⟩ : Fin 2048) q := by
  blk_ext [idx t]

/-- The rows at a point. -/
theorem row (c : Dev nD) (t : Fin cfg0.N) (p : Fin 512) (k : Fin 2048) :
    (show FVec Ideal S512x2048 .f32 from iblk m c 0 t) (ix2 p k) = m ((c : Thread nD τ).loc main_arg0) (ix2 (⟨t.val * 512 + p.val, by have := lt_of_lt_of_eq t.isLt N_0; omega⟩ : Fin 2048) k) := by
  blk_point [iblk, V, idx t]

/-- The gain at a point. -/
theorem gain (c : Dev nD) (t : Fin cfg0.N) (k : Fin 2048) :
    (show FVec Ideal S1x2048 .f32 from iblk m c 1 t) (ix2 0 k) = m ((c : Thread nD τ).loc main_arg1) (ix2 0 k) := by
  blk_point [iblk, V, idx t]

/-- The result array after the run. -/
theorem final (c : Dev nD) : (dats m 0 c).arrAt 2 cfg0.N = Cert.Reference26Ideal.Read.val_main_v12 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨p, q, rfl⟩ : ∃ (p : Fin 512) (q : Fin 2048), y = ix2 p q := ⟨y 0, y 1, eq_ix2 y⟩
  rw [place, ref_norm]
  refine (pay _ _ p q).trans ?_
  exact congr (congr (congrArg NormGrad.nrm (funext fun k => row m c t p k)) (funext fun k => gain m c t k)) rfl

end Cert.Kernel26Ideal.NormIn

namespace Cert.Kernel28Ideal.NormMem

open Cert.Kernel28Ideal Cert.Kernel28Ideal.Gen

variable (m : (ℓ : Loc nD τ sig) → Buf (Elt Ideal) ℓ)

open Cert.Reference28Ideal.Read in
/-- The reference's normalised rows. -/
theorem ref_norm (x : FVec Ideal S256x2048 .f32) (g : FVec Ideal S1x2048 .f32) (p : Fin 256) (q : Fin 2048) :
    val_main_v12 (F := Ideal) x g (ix2 p q) = NormGrad.nrm (fun k => x (ix2 p k)) (fun k => g (ix2 0 k)) q := by
  pointwise [val_main_v12, val_main_v11, val_main_v10, val_main_v9, val_main_v8,
    val_main_v7, val_main_v6, val_main_v5, val_main_v4, val_main_v3, val_main_v2, val_main_v1, val_main_v0, val_main_cst, val_main_cst_0, val_main_cst_1]
  rfl

/-- The kernel's normalised rows. -/
theorem pay (x : FVec Ideal S256x2048 .f32) (g : FVec Ideal S1x2048 .f32) (p : Fin 256) (q : Fin 2048) :
    k0_pay1 (F := Ideal) x g (ix2 p q) = NormGrad.nrm (fun k => x (ix2 p k)) (fun k => g (ix2 0 k)) q := by
  pointwise [k0_pay1]
  rfl

/-- Every window's block index at a grid point. -/
theorem idx : ∀ t : Fin cfg0.N, win0_0.index t = ![t.val, 0] ∧ win0_1.index t = ![0, 0]
    ∧ win0_2.index t = ![t.val, 0] := (by decide +kernel : ∀ t : Fin grid0.N, _)

/-- The place of a block's entry in the array. -/
theorem place (t : Fin cfg0.N) (p : Fin 256) (q : Fin 2048) : (win0_2.blk t).view.emb (ix2 p q) = ix2 p q := by
  blk_ext [idx t]

/-- The rows at a point. -/
theorem row (c : Dev nD) (t : Fin cfg0.N) (p : Fin 256) (k : Fin 2048) :
    (show FVec Ideal S256x2048 .f32 from iblk m c 0 t) (ix2 p k) = m ((c : Thread nD τ).loc main_arg0) (ix2 p k) := by
  blk_point [iblk, V, idx t]

/-- The gain at a point. -/
theorem gain (c : Dev nD) (t : Fin cfg0.N) (k : Fin 2048) :
    (show FVec Ideal S1x2048 .f32 from iblk m c 1 t) (ix2 0 k) = m ((c : Thread nD τ).loc main_arg1) (ix2 0 k) := by
  blk_point [iblk, V, idx t]

/-- The result array after the run. -/
theorem final (c : Dev nD) : (dats m 0 c).arrAt 2 cfg0.N = Cert.Reference28Ideal.Read.val_main_v12 (F := Ideal)
    (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨p, q, rfl⟩ : ∃ (p : Fin 256) (q : Fin 2048), y = ix2 p q := ⟨y 0, y 1, eq_ix2 y⟩
  rw [place, ref_norm]
  refine (pay _ _ p q).trans ?_
  exact congr (congr (congrArg NormGrad.nrm (funext fun k => row m c t p k)) (funext fun k => gain m c t k)) rfl

end Cert.Kernel28Ideal.NormMem

namespace Cert.Kernel27Ideal.NormMemBack

open Cert.Kernel27Ideal Cert.Kernel27Ideal.Gen

variable (m : (ℓ : Loc nD τ sig) → Buf (Elt Ideal) ℓ)

open Cert.Reference27Ideal.Read in
/-- The gain's gradient: the kernel's sum over the rows is the reference's. -/
theorem pay (x ct : FVec Ideal S256x2048 .f32) (p : Fin 1) (q : Fin 2048) :
    k0_pay1 (F := Ideal) x ct (ix2 p q) = val_main_v14 (F := Ideal) x ct (ix2 p q) := by
  pointwise [k0_pay1, val_main_v14, val_main_v13, val_main_v12, val_main_v9, val_main_v8,
    val_main_v7, val_main_v6, val_main_v5, val_main_v4, val_main_v3, val_main_v2, val_main_v1, val_main_v0, val_main_cst, val_main_cst_0, val_main_cst_1, val_main_cst_2]
  exact Fin.sum_univ_one _

/-- Every window's block index at a grid point. -/
theorem idx : ∀ t : Fin cfg0.N, win0_0.index t = ![0, 0] ∧ win0_2.index t = ![0, 0]
    ∧ win0_3.index t = ![0, 0] := (by decide +kernel : ∀ t : Fin grid0.N, _)

/-- The result array after the run. -/
theorem final (c : Dev nD) : (dats m 0 c).arrAt 3 cfg0.N = Cert.Reference27Ideal.Read.val_main_v14 (F := Ideal)
    (m ((c : Thread nD τ).loc main_arg0)) (m ((c : Thread nD τ).loc main_arg2)) := by
  refine (dats m 0 c).arrAt_eq_of_covers 3 _ (by decide +kernel) fun t _ y => ?_
  blk_simp
  rw [after0_3]
  unfold outsAt0
  frame_out
  obtain ⟨p, q, rfl⟩ : ∃ (p : Fin 1) (q : Fin 2048), y = ix2 p q := ⟨y 0, y 1, eq_ix2 y⟩
  have e : (win0_3.blk t).view.emb (ix2 p q) = ix2 p q := by blk_ext [idx t]
  have e0 : (show FVec Ideal S256x2048 .f32 from iblk m c 0 t) = m ((c : Thread nD τ).loc main_arg0) :=
    funext fun i => by rw [eq_ix2 i]; blk_point [iblk, V, idx t]
  have e2 : (show FVec Ideal S256x2048 .f32 from iblk m c 2 t) = m ((c : Thread nD τ).loc main_arg2) :=
    funext fun i => by rw [eq_ix2 i]; blk_point [iblk, V, idx t]
  rw [e]
  exact (pay _ _ p q).trans (congrArg₂ (fun x ct => Cert.Reference27Ideal.Read.val_main_v14 (F := Ideal) x ct (ix2 p q)) e0 e2)

end Cert.Kernel27Ideal.NormMemBack

end
-- ==== Proof.Ends3.lean ====
/- The pairing with their references of the products around the cross attention and of the norms that stand alone, and the references' frames. -/
module

public import proofs.«01_k».proof.Defs
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Products2
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Proof

theorem dw_co_grad : Cert.algebraic_Kernel18Ideal_Reference18Ideal := by
  pair_intro
  · run_from Cert.Kernel18Ideal.Value.run_blocks m g
  · run_from Cert.Reference18Ideal.Value.run m' g'
    rw [Cert.Kernel18Ideal.DwCo.final m c]
    rfl

theorem dw_co_frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem d_oc_grad : Cert.algebraic_Kernel19Ideal_Reference19Ideal := by
  pair_intro
  · run_from Cert.Kernel19Ideal.Value.run_blocks m g
  · run_from Cert.Reference19Ideal.Value.run m' g'
    rw [Cert.Kernel19Ideal.DOc.final m c]
    rfl

theorem d_oc_frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem dw_cq_grad : Cert.algebraic_Kernel20Ideal_Reference20Ideal := by
  pair_intro
  · run_from Cert.Kernel20Ideal.Value.run_blocks m g
  · run_from Cert.Reference20Ideal.Value.run m' g'
    rw [Cert.Kernel20Ideal.DwCq.final m c]
    rfl

theorem dw_cq_frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem dw_ckv_grad : Cert.algebraic_Kernel21Ideal_Reference21Ideal := by
  pair_intro
  · run_from Cert.Kernel21Ideal.Value.run_blocks m g
  · run_from Cert.Reference21Ideal.Value.run m' g'
    rw [Cert.Kernel21Ideal.DwCkv.final m c]
    rfl

theorem dw_ckv_frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem d_memh_grad : Cert.algebraic_Kernel22Ideal_Reference22Ideal := by
  pair_intro
  · run_from Cert.Kernel22Ideal.Value.run_blocks m g
  · run_from Cert.Reference22Ideal.Value.run m' g'
    rw [Cert.Kernel22Ideal.DMemh.final m c]
    rfl

theorem d_memh_frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem cq_proj_value : Cert.algebraic_Kernel23Ideal_Reference23Ideal := by
  pair_intro
  · run_from Cert.Kernel23Ideal.Value.run_blocks m g
  · run_from Cert.Reference23Ideal.Value.run m' g'
    rw [Cert.Kernel23Ideal.CqProj.final m c]
    rfl

theorem cq_proj_frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem ckv_proj_value : Cert.algebraic_Kernel24Ideal_Reference24Ideal := by
  pair_intro
  · run_from Cert.Kernel24Ideal.Value.run_blocks m g
  · run_from Cert.Reference24Ideal.Value.run m' g'
    rw [Cert.Kernel24Ideal.CkvProj.final m c]
    rfl

theorem ckv_proj_frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem co_proj_value : Cert.algebraic_Kernel25Ideal_Reference25Ideal := by
  pair_intro
  · run_from Cert.Kernel25Ideal.Value.run_blocks m g
  · run_from Cert.Reference25Ideal.Value.run m' g'
    · rw [Cert.Kernel25Ideal.CoProj.final_x1 m c]
      rfl
    · rw [Cert.Kernel25Ideal.CoProj.final_hm m c]
      rfl

theorem co_proj_frame_reference : Cert.quiescent_Reference25Ideal := fun m ρ _ =>
  (θ_run Cert.Reference25Ideal.defs _ _).mono (fun r h => ⟨fun c => (h c).2.2, sem_eq_zero_of_no_sems (by decide) r.2⟩)
    (Cert.Reference25Ideal.Value.run (F := Ideal) m ρ)

theorem norm_in_value : Cert.algebraic_Kernel26Ideal_Reference26Ideal := by
  pair_intro
  · run_from Cert.Kernel26Ideal.Value.run_blocks m g
  · run_from Cert.Reference26Ideal.Value.run m' g'
    rw [Cert.Kernel26Ideal.NormIn.final m c]
    rfl

theorem norm_in_frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem norm_mem_grad : Cert.algebraic_Kernel27Ideal_Reference27Ideal := fun m g m' g' _ hm =>
  ⟨_, (θ_run Cert.Kernel27Ideal.defs _ _).mono (fun r h c => ⟨(h c).1.trans (Cert.Kernel27Ideal.NormMemBack.final m c), (h c).2⟩) (Cert.Kernel27Ideal.Value.run_blocks m g),
    (θ_run Cert.Reference27Ideal.defs _ _).mono (fun r h c => by
      obtain ⟨m0, m1, m2⟩ := hm c
      obtain ⟨r0, r'⟩ := h c
      refine ⟨r0.trans ?_, r'⟩
      rw [Cert.Reference27Ideal.Read.val_main_v14_eq, m0, m2])
      (Cert.Reference27Ideal.Value.run (F := Ideal) m' g')⟩

theorem norm_mem_back_frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

theorem norm_mem_value : Cert.algebraic_Kernel28Ideal_Reference28Ideal := by
  pair_intro
  · run_from Cert.Kernel28Ideal.Value.run_blocks m g
  · run_from Cert.Reference28Ideal.Value.run m' g'
    rw [Cert.Kernel28Ideal.NormMem.final m c]
    rfl

theorem norm_mem_frame_reference : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

end Cert.Proof

end
-- ==== Proof.AttnRef.lean ====
/- The reference's gradient of the attention branch over the reals: every operation of the printed reference read
   at an index, of real arrays. -/
module

public import proofs.«01_k».proof.Proof.Gen.Reference2Ideal.Read
public import Idealize.ShloMosaic.Lib.Pipeline.ValueKit
public import Idealize.ShloMosaic.Lib.Claim

@[expose] public section

set_option maxRecDepth 16384

noncomputable section

namespace Cert.Reference2Ideal.AttnRef

open Idealize.ShloMosaic Idealize.ShloMosaic.TcCoe
open Cert.Reference2Ideal Cert.Reference2Ideal.Gen Cert.Reference2Ideal.Read

/-- A real array. -/
abbrev Arr := Fin 2048 → Fin 1024 → ℝ

/-- It as extended reals. -/
def arr (X : Arr) : FVec Ideal S2048x1024 .f32 := fun y => ((X (y 0) (y 1) : ℝ) : EReal)

/-- Residue `r`, head `h` of an array: row `i`, lane `d`. -/
def part (X : Arr) (r h : Fin 16) (i : Fin 128) (d : Fin 64) : ℝ := X ⟨i.val * 16 + r.val, by omega⟩ ⟨h.val * 64 + d.val, by omega⟩

theorem sum_up {ι : Type} (s : Finset ι) (f : ι → ℝ) : ∑ i ∈ s, ((f i : ℝ) : EReal) = ((∑ i ∈ s, f i : ℝ) : EReal) := by
  classical
  induction s using Finset.induction_on with
  | empty => rfl
  | insert a s h ih => rw [Finset.sum_insert h, Finset.sum_insert h, ih, EReal.coe_add]

theorem div_up {y : ℝ} (h : y ≠ 0) (x : ℝ) : Ideal.div (x : EReal) (y : EReal) = ((x / y : ℝ) : EReal) := by
  rw [Ideal.div_coe h, ← EReal.coe_mul, mul_one_div]

variable (Q K V D G : Arr)

/-- The scores. -/
def score (r h : Fin 16) (i j : Fin 128) : ℝ := ∑ d, part Q r h i d * part K r h j d

theorem v3 (r h : Fin 16) (i j : Fin 128) : val_main_v3 (F := Ideal) (arr Q) (arr K) (ix4 r h i j) = ((score Q K r h i j : ℝ) : EReal) := by
  pointwise [val_main_v3, val_main_v0, val_main_v1, arr]
  simp only [← EReal.coe_mul, sum_up]
  rfl

theorem causal (i j : Fin 128) : IntOp.cmpi CmpIPredicate.sge (BitVec.ofNat 32 i.val) (BitVec.ofNat 32 j.val) = if j.val ≤ i.val then 1#1 else 0#1 :=
  (by decide +kernel : ∀ i j : Fin 128, IntOp.cmpi CmpIPredicate.sge (BitVec.ofNat 32 i.val) (BitVec.ofNat 32 j.val) = if j.val ≤ i.val then 1#1 else 0#1) i j

theorem select_if {α : Type} (p : Prop) [Decidable p] (x y : α) : Scalar.select (if p then 1#1 else 0#1) x y = if p then x else y := by
  by_cases h : p <;> simp only [h, if_true, if_false] <;> rfl

theorem negInf : Ideal.ofBits .f32 0xFF800000#32 = ⊥ := by simp [Ideal.ofBits, Ideal.ieee]

theorem v12 (r h : Fin 16) (i j : Fin 128) : val_main_v12_0 (F := Ideal) (arr Q) (arr K) (ix4 r h i j)
    = if j.val ≤ i.val then ((score Q K r h i j : ℝ) : EReal) else ⊥ := by
  pointwise [val_main_v12_0, val_main_v12_1, val_main_v11, val_main_v10, val_main_v9, val_main_v8, val_main_v7, val_main_v6, val_main_v5, val_main_v4, val_main_call0_v2, val_main_call0_v0, val_main_cst]
  rw [causal, select_if, v3]
  refine if_congr Iff.rfl rfl ?_
  exact negInf

theorem fold_max_mem {ι : Type} (b : EReal) (f : ι → EReal) (s : Finset ι) :
    Finset.fold max b f s = b ∨ ∃ x ∈ s, Finset.fold max b f s = f x := by
  classical
  induction s using Finset.induction_on with
  | empty => exact .inl rfl
  | insert a s h ih =>
    rw [Finset.fold_insert h]
    rcases max_choice (f a) (Finset.fold max b f s) with e | e
    · exact .inr ⟨a, Finset.mem_insert_self _ _, e⟩
    · rcases ih with ih | ⟨x, hx, ih⟩
      · exact .inl (e.trans ih)
      · exact .inr ⟨x, Finset.mem_insert_of_mem hx, e.trans ih⟩

theorem drop4 (a b : Fin 16) (c d : Fin 128) : reducesTo_S16x16x128x128_S16x16x128_d3.drop (ix4 a b c d) = ix3 a b c :=
  funext fun e => Fin.ext (by match e with | ⟨0, _⟩ => rfl | ⟨1, _⟩ => rfl | ⟨2, _⟩ => rfl)

/-- A row's maximum is one of its scores. -/
theorem max_attained (r h : Fin 16) (i : Fin 128) : ∃ j : Fin 128, j.val ≤ i.val
    ∧ val_main_v13 (F := Ideal) (arr Q) (arr K) (ix3 r h i) = ((score Q K r h i j : ℝ) : EReal) := by
  unfold val_main_v13
  rw [Host.reduce_eq_fold]
  have hb : val_main_cst_0 (F := Ideal) (Shape.Idx.first h_S_) = ⊥ := negInf
  rw [hb]
  show ∃ j : Fin 128, j.val ≤ i.val ∧ Finset.fold max ⊥ (val_main_v12_0 (F := Ideal) (arr Q) (arr K))
      (Finset.univ.filter fun x => reducesTo_S16x16x128x128_S16x16x128_d3.drop x = ix3 r h i) = _
  have h0 : ((score Q K r h i 0 : ℝ) : EReal) ≤ Finset.fold max ⊥ (val_main_v12_0 (F := Ideal) (arr Q) (arr K))
      (Finset.univ.filter fun x => reducesTo_S16x16x128x128_S16x16x128_d3.drop x = ix3 r h i) := by
    refine (Finset.le_fold_max _).mpr (.inr ⟨ix4 r h i 0, Finset.mem_filter.mpr ⟨Finset.mem_univ _, drop4 r h i 0⟩, ?_⟩)
    rw [v12]
    exact le_of_eq (if_pos (show (0 : Fin 128).val ≤ i.val from Nat.zero_le _)).symm
  rcases fold_max_mem ⊥ (val_main_v12_0 (F := Ideal) (arr Q) (arr K))
      (Finset.univ.filter fun x => reducesTo_S16x16x128x128_S16x16x128_d3.drop x = ix3 r h i) with e | ⟨x, hx, e⟩
  · rw [e] at h0
    exact absurd (le_bot_iff.mp h0) (EReal.coe_ne_bot _)
  · idx_vars x
    have hx' := (Finset.mem_filter.mp hx).2
    rw [drop4] at hx'
    have a0 : x0 = r := congrFun hx' 0
    have a1 : x1 = h := congrFun hx' 1
    have a2 : x2 = i := congrFun hx' 2
    subst a0 a1 a2
    rw [e] at h0 ⊢
    rw [v12] at h0 ⊢
    by_cases hj : x3.val ≤ x2.val
    · exact ⟨x3, hj, if_pos hj⟩
    · rw [if_neg hj] at h0
      exact absurd (le_bot_iff.mp h0) (EReal.coe_ne_bot _)

/-- The row's maximum. -/
def top (r h : Fin 16) (i : Fin 128) : ℝ := (val_main_v13 (F := Ideal) (arr Q) (arr K) (ix3 r h i)).toReal

theorem v13 (r h : Fin 16) (i : Fin 128) : val_main_v13 (F := Ideal) (arr Q) (arr K) (ix3 r h i) = ((top Q K r h i : ℝ) : EReal) := by
  obtain ⟨j, _, e⟩ := max_attained Q K r h i
  unfold top
  rw [e, EReal.toReal_coe]

/-- How many of a row's scores are its maximum: at least one. -/
theorem v18 (r h : Fin 16) (i : Fin 128) : ∃ n : ℝ, n ≠ 0 ∧ val_main_v18 (F := Ideal) (arr Q) (arr K) (ix3 r h i) = (n : EReal) := by
  refine ⟨∑ x : Fin 128, ((BitVec.ofBool (decide (val_main_v12_0 (F := Ideal) (arr Q) (arr K) (ix4 r h i x)
    = val_main_v13 (F := Ideal) (arr Q) (arr K) (ix3 r h i)))).toNat : ℝ), ne_of_gt ?_, ?_⟩
  · obtain ⟨j, hj, e⟩ := max_attained Q K r h i
    refine Finset.sum_pos' (fun _ _ => Nat.cast_nonneg _) ⟨j, Finset.mem_univ _, ?_⟩
    rw [e, v12, if_pos hj, decide_eq_true rfl]
    exact_mod_cast Nat.one_pos
  · pointwise [val_main_v18, val_main_v17, val_main_v16, val_main_v15, val_main_v14, val_main_cst_1]
    rw [← sum_up]
    rfl

/-- A row's weights against its maximum, -/
def e (r h : Fin 16) (i j : Fin 128) : ℝ := if j.val ≤ i.val then Real.exp (score Q K r h i j - top Q K r h i) else 0

theorem v22 (r h : Fin 16) (i j : Fin 128) : val_main_v22 (F := Ideal) (arr Q) (arr K) (ix4 r h i j) = ((e Q K r h i j : ℝ) : EReal) := by
  pointwise [val_main_v22, val_main_v21, val_main_v20, val_main_v19, v12, v13]
  unfold e
  split
  · rw [← EReal.coe_sub]; rfl
  · rfl

/-- and their sum. -/
def den (r h : Fin 16) (i : Fin 128) : ℝ := ∑ j, e Q K r h i j

theorem v23 (r h : Fin 16) (i : Fin 128) : val_main_v23 (F := Ideal) (arr Q) (arr K) (ix3 r h i) = ((den Q K r h i : ℝ) : EReal) := by
  pointwise [val_main_v23, val_main_cst_2, v22]
  rw [sum_up]
  rfl

theorem den_pos (r h : Fin 16) (i : Fin 128) : 0 < den Q K r h i := by
  refine Finset.sum_pos' (fun j _ => ?_) ⟨0, Finset.mem_univ _, ?_⟩
  · unfold e
    split
    · exact (Real.exp_pos _).le
    · exact le_rfl
  · unfold e
    rw [if_pos (show (0 : Fin 128).val ≤ i.val from Nat.zero_le _)]
    exact Real.exp_pos _

theorem v24 (r h : Fin 16) (i : Fin 128) : val_main_v24 (F := Ideal) (arr Q) (arr K) (ix3 r h i) = ((top Q K r h i : ℝ) : EReal) := by
  pointwise [val_main_v24, val_main_v19, v13]

theorem log_up {x : ℝ} (h : 0 < x) : Ideal.log (x : EReal) = ((Real.log x : ℝ) : EReal) :=
  (Ideal.log_coe x).trans (if_neg (not_le.mpr h))

/-- The saved log-sum, -/
def lse (r h : Fin 16) (i : Fin 128) : ℝ := top Q K r h i + Real.log (den Q K r h i)

theorem v26 (r h : Fin 16) (i : Fin 128) : val_main_v26 (F := Ideal) (arr Q) (arr K) (ix3 r h i) = ((lse Q K r h i : ℝ) : EReal) := by
  rw [val_main_v26_apply, v24, val_main_v25_apply, v23]
  exact (congrArg (fun z => ((top Q K r h i : ℝ) : EReal) + z) (log_up (den_pos Q K r h i))).trans (EReal.coe_add _ _).symm

/-- The weighted sum of the values, before it is divided. -/
def num (r h : Fin 16) (i : Fin 128) (d : Fin 64) : ℝ := ∑ j, part V r h j d * e Q K r h i j

theorem v28 (r h : Fin 16) (i : Fin 128) (d : Fin 64) : val_main_v28 (F := Ideal) (arr Q) (arr K) (arr V) (ix4 i r h d)
    = ((num Q K V r h i d : ℝ) : EReal) := by
  pointwise [val_main_v28, val_main_v27, val_main_v2, v22, arr]
  simp only [← EReal.coe_mul, sum_up]
  rfl

theorem v30 (r h : Fin 16) (i : Fin 128) (d : Fin 1) : val_main_v30 (F := Ideal) (arr Q) (arr K) (ix4 i r h d) = ((den Q K r h i : ℝ) : EReal) := by
  pointwise [val_main_v30, val_main_v29, v23]

/-- and the saved output. -/
def o (r h : Fin 16) (i : Fin 128) (d : Fin 64) : ℝ := num Q K V r h i d / den Q K r h i

/-- They lie in the arrays. -/
def oArr : Arr := fun n c => o Q K V ⟨n.val % 16, Nat.mod_lt _ (by decide)⟩ ⟨c.val / 64, by omega⟩ ⟨n.val / 16, by omega⟩ ⟨c.val % 64, Nat.mod_lt _ (by decide)⟩

def lArr : Arr := fun n c => lse Q K ⟨n.val % 16, Nat.mod_lt _ (by decide)⟩ ⟨c.val / 64, by omega⟩ ⟨n.val / 16, by omega⟩

theorem v38 : val_main_v38 (F := Ideal) (arr Q) (arr K) (arr V) = arr (oArr Q K V) := by
  funext y
  idx_vars y
  pointwise [val_main_v38, val_main_v32, val_main_v31, v30, v28]
  exact div_up (den_pos _ _ _ _ _).ne' _

theorem v40 : val_main_v40 (F := Ideal) (arr Q) (arr K) = arr (lArr Q K) := by
  funext y
  idx_vars y
  pointwise [val_main_v40, val_main_v39, val_main_v37, val_main_v36, v26]
  rfl

end Cert.Reference2Ideal.AttnRef

end
-- ==== Proof.Cross.lean ====
/- The gradient of a head's cross attention with normalised queries and keys, row by row: the kernel's form and the reference's, and that they
   are one for real arguments. -/
module

public import proofs.«01_k».proof.Proof.AttnRef
public import Idealize.ShloMosaic.Lib.Pipeline.ValueKit

@[expose] public section

set_option maxRecDepth 16384

noncomputable section

open Idealize.ShloMosaic

namespace Cert.Cross

abbrev Row := Fin 128 → EReal

/-- The mean of a row's squares, and the small constant. -/
def ms (x : Row) : EReal := Ideal.div (∑ k, x k * x k) (Ideal.ofBits .f32 0x43000000#32) + Ideal.ofBits .f32 0x358637BD#32

/-- The row divided by the root of its mean square. -/
def unit (x : Row) (q : Fin 128) : EReal := x q * Ideal.rsqrt (ms x)

/-- The normalised row with its gain: a key. -/
def key (x g : Row) (q : Fin 128) : EReal := unit x q * g q

/-- A query: a key and the scores' scale. -/
def qry (x g : Row) (q : Fin 128) : EReal := key x g q * Ideal.ofBits .f32 0x3DB504F3#32

/-- A query's scores. -/
def score (q : Row) (kn : Fin 256 → Row) (m : Fin 256) : EReal := ∑ d, q d * kn m d

/-- The largest score. -/
def top (s : Fin 256 → EReal) : EReal := Finset.fold max (Ideal.ofBits .f32 0xFF800000#32) s Finset.univ

/-- The weights before they are divided by their sum. -/
def e (s : Fin 256 → EReal) (m : Fin 256) : EReal := Ideal.exp (s m - top s)

/-- The weights' sum. -/
def Z (s : Fin 256 → EReal) : EReal := ∑ m, e s m

/-- The gradient of a query's scores as the kernel forms it. -/
def ds (s : Fin 256 → EReal) (v : Fin 256 → Row) (o : Row) (m : Fin 256) : EReal :=
  (∑ _ : Fin 1, (0 - (∑ d, (∑ m', e s m' * v m' d) * o d) * Ideal.div 1 (Z s * Z s)) + ∑ d, o d * Ideal.div 1 (Z s) * v m d) * e s m

/-- The gradient of a query's scores as the reference forms it. -/
def ds' (s : Fin 256 → EReal) (v : Fin 256 → Row) (o : Row) (m : Fin 256) : EReal :=
  (Ideal.div (∑ d, o d * v m d) (Z s) + ∑ _ : Fin 1, -(∑ m', (∑ d, o d * v m' d) * Ideal.div 1 (Z s * Z s) * e s m')) * e s m

/-- The factor of a row's own entries in its gradient: what passes through the mean square. -/
def back (x ct g : Row) : EReal :=
  ∑ _ : Fin 1, Ideal.div ((∑ k, x k * (ct k * g k)) * (Ideal.ofBits .f32 0xBF000000#32 * Ideal.div (Ideal.rsqrt (ms x)) (ms x)))
    (Ideal.ofBits .f32 0x43000000#32)

/-- The gradient of a row: `ct` the cotangent of the normalised row, `g` the gain. -/
def dx (x ct g : Row) (q : Fin 128) : EReal :=
  ct q * g q * Ideal.rsqrt (ms x) + x q * back x ct g + back x ct g * x q

/-! ## The gradient off the arrays -/

/-- A head's row of an array of four heads. -/
abbrev head {n : ℕ} (x : (⟨2, ![n, 512]⟩ : Shape).Idx → EReal) (h : Fin 4) (p : Fin n) : Row := fun d => x (ix2 p ⟨h.val * 128 + d.val, by omega⟩)

/-- A head's key: a row of the left half of an array. -/
abbrev keyRow (x : (⟨2, ![256, 1024]⟩ : Shape).Idx → EReal) (h : Fin 4) (p : Fin 256) : Row := fun d => x (ix2 p ⟨h.val * 128 + d.val, by omega⟩)

/-- A head's value: a row of the right half. -/
abbrev valRow (x : (⟨2, ![256, 1024]⟩ : Shape).Idx → EReal) (h : Fin 4) (p : Fin 256) : Row := fun d => x (ix2 p ⟨512 + (h.val * 128 + d.val), by omega⟩)

/-- The gain's row. -/
abbrev gain (x : (⟨2, ![1, 128]⟩ : Shape).Idx → EReal) : Row := fun d => x (ix2 0 d)

section
variable (x0 : (⟨2, ![2048, 512]⟩ : Shape).Idx → EReal) (x1 : (⟨2, ![256, 1024]⟩ : Shape).Idx → EReal) (x2 x3 : (⟨2, ![1, 128]⟩ : Shape).Idx → EReal)
  (x4 : (⟨2, ![2048, 512]⟩ : Shape).Idx → EReal)

/-- A query. -/
abbrev qs (h : Fin 4) (p : Fin 2048) : Row := qry (head x0 h p) (gain x2)

/-- A key. -/
abbrev ks (h : Fin 4) (m : Fin 256) : Row := key (keyRow x1 h m) (gain x3)

/-- A query's scores. -/
abbrev ss (h : Fin 4) (p : Fin 2048) : Fin 256 → EReal := score (qs x0 x2 h p) (ks x1 x3 h)

/-- The cotangent of a normalised key. -/
abbrev dkn (h : Fin 4) (m : Fin 256) : Row := fun d =>
  ∑ p : Fin 2048, ds' (ss x0 x1 x2 x3 h p) (valRow x1 h) (head x4 h p) m * qs x0 x2 h p d

/-- The cotangent of a normalised query. -/
abbrev dqn (h : Fin 4) (p : Fin 2048) : Row := fun d =>
  (∑ m : Fin 256, ds' (ss x0 x1 x2 x3 h p) (valRow x1 h) (head x4 h p) m * ks x1 x3 h m d) * Ideal.ofBits .f32 0x3DB504F3#32

/-- A row of a block of 1024 rows. -/
def at' (i : Fin 2) (p : Fin 1024) : Fin 2048 := ⟨i.val * 1024 + p.val, by omega⟩

/-- What a block of queries gives the cotangent of a normalised key, by the kernel. -/
def dknK (h : Fin 4) (i : Fin 2) (m : Fin 256) : Row := fun d =>
  ∑ p : Fin 1024, ds (ss x0 x1 x2 x3 h (at' i p)) (valRow x1 h) (head x4 h (at' i p)) m * qs x0 x2 h (at' i p) d

/-- The cotangent of a normalised query, by the kernel. -/
def dqnK (h : Fin 4) (p : Fin 2048) : Row := fun d =>
  (∑ m : Fin 256, ds (ss x0 x1 x2 x3 h p) (valRow x1 h) (head x4 h p) m * ks x1 x3 h m d) * Ideal.ofBits .f32 0x3DB504F3#32

/-- What a block of queries gives a value's gradient. -/
def dvK (h : Fin 4) (i : Fin 2) (m : Fin 256) : Row := fun d =>
  ∑ p : Fin 1024, head x4 h (at' i p) d * Ideal.div 1 (Z (ss x0 x1 x2 x3 h (at' i p))) * e (ss x0 x1 x2 x3 h (at' i p)) m

/-- What a block of queries gives a key's gradient. -/
def dkK (h : Fin 4) (i : Fin 2) (m : Fin 256) : Row := dx (keyRow x1 h m) (dknK x0 x1 x2 x3 x4 h i m) (gain x3)

/-- What a block of queries gives the gradient of the keys' gain. -/
def dgkK (h : Fin 4) (i : Fin 2) : Row := fun d => ∑ m : Fin 256, unit (keyRow x1 h m) d * dknK x0 x1 x2 x3 x4 h i m d

/-- A query's gradient. -/
def dqK (h : Fin 4) (p : Fin 2048) : Row := dx (head x0 h p) (dqnK x0 x1 x2 x3 x4 h p) (gain x2)

/-- What a block of queries gives the gradient of the queries' gain. -/
def dgqK (h : Fin 4) (i : Fin 2) : Row := fun d => ∑ p : Fin 1024, unit (head x0 h (at' i p)) d * dqnK x0 x1 x2 x3 x4 h (at' i p) d

end

/-! ## Real arguments -/

theorem sum_up {n : ℕ} (f : Fin n → ℝ) : ∑ i, ((f i : ℝ) : EReal) = ((∑ i, f i : ℝ) : EReal) := by
  induction (Finset.univ : Finset (Fin n)) using Finset.induction_on with
  | empty => rfl
  | insert a s h ih => rw [Finset.sum_insert h, Finset.sum_insert h, ih, EReal.coe_add]

theorem width : Ideal.ofBits .f32 0x43000000#32 = ((128 : ℝ) : EReal) := by simp [Ideal.ofBits, Ideal.ieee, -EReal.coe_mul]; try norm_num

theorem half : Ideal.ofBits .f32 0xBF000000#32 = ((-(1 / 2) : ℝ) : EReal) := by simp [Ideal.ofBits, Ideal.ieee, -EReal.coe_mul]; try norm_num

theorem small : ∃ r : ℝ, 0 < r ∧ Ideal.ofBits .f32 0x358637BD#32 = (r : EReal) := by
  refine ⟨_, ?_, by simp [Ideal.ofBits, Ideal.ieee, -EReal.coe_mul]; rfl⟩
  norm_num

theorem scale : ∃ r : ℝ, Ideal.ofBits .f32 0x3DB504F3#32 = (r : EReal) := ⟨_, by simp [Ideal.ofBits, Ideal.ieee, -EReal.coe_mul]; rfl⟩

theorem ms_real (x : Fin 128 → ℝ) : ∃ r : ℝ, 0 < r ∧ ms (fun k => (x k : EReal)) = (r : EReal) := by
  obtain ⟨a, ha, ea⟩ := small
  refine ⟨(∑ k, x k * x k) * (1 / 128) + a, ?_, ?_⟩
  · have : 0 ≤ ∑ k, x k * x k := Finset.sum_nonneg fun k _ => mul_self_nonneg _
    positivity
  · unfold ms
    rw [ea, width, Ideal.div_coe (by norm_num)]
    simp only [← EReal.coe_mul, sum_up, ← EReal.coe_add]

theorem rsqrt_real (x : Fin 128 → ℝ) : ∃ r : ℝ, Ideal.rsqrt (ms fun k => (x k : EReal)) = (r : EReal) := by
  obtain ⟨a, ha, ea⟩ := ms_real x
  exact ⟨(Real.sqrt a)⁻¹, by rw [ea, Ideal.rsqrt_coe, if_neg (not_lt.mpr ha.le), if_neg ha.ne']⟩

theorem unit_real (x : Fin 128 → ℝ) : ∃ u : Fin 128 → ℝ, ∀ q, unit (fun k => (x k : EReal)) q = (u q : EReal) := by
  obtain ⟨r, er⟩ := rsqrt_real x
  exact ⟨fun q => x q * r, fun q => by unfold unit; rw [er, ← EReal.coe_mul]⟩

theorem key_real (x g : Fin 128 → ℝ) : ∃ u : Fin 128 → ℝ, ∀ q, key (fun k => (x k : EReal)) (fun k => (g k : EReal)) q = (u q : EReal) := by
  obtain ⟨r, er⟩ := unit_real x
  exact ⟨fun q => r q * g q, fun q => by unfold key; rw [er, ← EReal.coe_mul]⟩

theorem qry_real (x g : Fin 128 → ℝ) : ∃ u : Fin 128 → ℝ, ∀ q, qry (fun k => (x k : EReal)) (fun k => (g k : EReal)) q = (u q : EReal) := by
  obtain ⟨r, er⟩ := key_real x g
  obtain ⟨a, ea⟩ := scale
  exact ⟨fun q => r q * a, fun q => by unfold qry; rw [er, ea, ← EReal.coe_mul]⟩

/-- The weights of real scores are positive reals. -/
theorem e_real (s : Fin 256 → ℝ) : ∃ w : Fin 256 → ℝ, (∀ m, 0 < w m) ∧ ∀ m, e (fun m => (s m : EReal)) m = (w m : EReal) := by
  have bot : Ideal.ofBits .f32 0xFF800000#32 = ⊥ := by simp [Ideal.ofBits, Ideal.ieee]
  obtain ⟨t, ht⟩ : ∃ t : ℝ, top (fun m => (s m : EReal)) = (t : EReal) := by
    rcases Cert.Reference2Ideal.AttnRef.fold_max_mem (Ideal.ofBits .f32 0xFF800000#32) (fun m => (s m : EReal)) Finset.univ with h | ⟨m, _, h⟩
    · have := (Finset.le_fold_max (s := Finset.univ) (f := fun m => (s m : EReal)) (b := Ideal.ofBits .f32 0xFF800000#32) ((s 0 : ℝ) : EReal)).mpr (.inr ⟨0, Finset.mem_univ _, le_rfl⟩)
      rw [h, bot] at this
      exact absurd (le_bot_iff.mp this) (EReal.coe_ne_bot _)
    · exact ⟨s m, h⟩
  exact ⟨fun m => Real.exp (s m - t), fun m => Real.exp_pos _, fun m => by unfold e; rw [ht, ← EReal.coe_sub, Ideal.exp_coe]⟩

theorem Z_real (s : Fin 256 → ℝ) : ∃ z : ℝ, 0 < z ∧ Z (fun m => (s m : EReal)) = (z : EReal) := by
  obtain ⟨w, hw, ew⟩ := e_real s
  exact ⟨∑ m, w m, Finset.sum_pos (fun m _ => hw m) ⟨0, Finset.mem_univ _⟩, by unfold Z; simp only [ew, sum_up]⟩

/-- The two forms of the scores' gradient are one real. -/
theorem ds_real (s : Fin 256 → ℝ) (v : Fin 256 → Fin 128 → ℝ) (o : Fin 128 → ℝ) : ∃ r : Fin 256 → ℝ, ∀ m,
    ds (fun m => (s m : EReal)) (fun m d => (v m d : EReal)) (fun d => (o d : EReal)) m = (r m : EReal)
    ∧ ds' (fun m => (s m : EReal)) (fun m d => (v m d : EReal)) (fun d => (o d : EReal)) m = (r m : EReal) := by
  obtain ⟨w, hw, ew⟩ := e_real s
  obtain ⟨z, hz, ez⟩ := Z_real s
  refine ⟨fun m => (0 - (∑ d, (∑ m', w m' * v m' d) * o d) * (1 / (z * z)) + ∑ d, o d * (1 / z) * v m d) * w m, fun m => ⟨?_, ?_⟩⟩
  · unfold ds
    rw [ez, ← EReal.coe_mul, Ideal.div_coe (mul_pos hz hz).ne', Ideal.div_coe hz.ne', one_mul, one_mul, Fin.sum_univ_one]
    simp only [ew, ← EReal.coe_mul, sum_up, ← EReal.coe_add, ← EReal.coe_zero, ← EReal.coe_sub]
  · unfold ds'
    rw [ez, ← EReal.coe_mul, Ideal.div_coe (mul_pos hz hz).ne', Ideal.div_coe hz.ne', one_mul, Fin.sum_univ_one]
    simp only [ew, ← EReal.coe_mul, sum_up, ← EReal.coe_add, ← EReal.coe_neg]
    refine congrArg Real.toEReal ?_
    have h1 : ∑ d, (∑ m', w m' * v m' d) * o d = ∑ m', (∑ d, o d * v m' d) * w m' := by
      simp only [Finset.sum_mul]
      rw [Finset.sum_comm]
      exact Finset.sum_congr rfl fun m' _ => Finset.sum_congr rfl fun d _ => by ring
    have h2 : ∑ m', (∑ d, o d * v m' d) * (1 / (z * z)) * w m' = (∑ m', (∑ d, o d * v m' d) * w m') * (1 / (z * z)) := by
      rw [Finset.sum_mul]
      exact Finset.sum_congr rfl fun m' _ => by ring
    have h3 : ∑ d, o d * (1 / z) * v m d = (∑ d, o d * v m d) * (1 / z) := by
      rw [Finset.sum_mul]
      exact Finset.sum_congr rfl fun d _ => by ring
    rw [h1, h2, h3]
    ring

/-- The two forms of a value's gradient from one query are one. -/
theorem dv_eq (s : Fin 256 → ℝ) (o : EReal) (m : Fin 256) :
    o * Ideal.div 1 (Z fun m => (s m : EReal)) * e (fun m => (s m : EReal)) m = o * Ideal.div (e (fun m => (s m : EReal)) m) (Z fun m => (s m : EReal)) := by
  obtain ⟨z, hz, ez⟩ := Z_real s
  rw [ez, Ideal.div_coe hz.ne', Ideal.div_coe hz.ne', one_mul, mul_assoc, mul_comm ((1 / z : ℝ) : EReal)]

/-- A row's gradient is linear in the cotangent. -/
theorem dx_real (x g : Fin 128 → ℝ) : ∃ a b : ℝ, ∀ (ct : Fin 128 → ℝ) q,
    dx (fun k => (x k : EReal)) (fun k => (ct k : EReal)) (fun k => (g k : EReal)) q
      = ((ct q * g q * a + x q * ((∑ k, x k * (ct k * g k)) * b) + (∑ k, x k * (ct k * g k)) * b * x q : ℝ) : EReal) := by
  obtain ⟨r, er⟩ := rsqrt_real x
  obtain ⟨u, hu, eu⟩ := ms_real x
  refine ⟨r, -(1 / 2) * (r * (1 / u)) * (1 / 128), fun ct q => ?_⟩
  unfold dx back
  rw [Fin.sum_univ_one, er, eu, half, width, Ideal.div_coe hu.ne', Ideal.div_coe (by norm_num)]
  simp only [← EReal.coe_mul, sum_up, ← EReal.coe_add]
  refine congrArg Real.toEReal ?_
  ring

/-- The gradient of a sum of two cotangents. -/
theorem dx_add (x g a b : Fin 128 → ℝ) (q : Fin 128) :
    dx (fun k => (x k : EReal)) (fun k => (a k : EReal)) (fun k => (g k : EReal)) q + dx (fun k => (x k : EReal)) (fun k => (b k : EReal)) (fun k => (g k : EReal)) q
      = dx (fun k => (x k : EReal)) (fun k => ((a k + b k : ℝ) : EReal)) (fun k => (g k : EReal)) q := by
  obtain ⟨r, t, h⟩ := dx_real x g
  rw [h, h, h, ← EReal.coe_add]
  refine congrArg Real.toEReal ?_
  simp only [add_mul, mul_add, Finset.sum_add_distrib]
  ring

end Cert.Cross

end
-- ==== Proof.CrossKernel.lean ====
/- The kernel's blocks of the cross attention's gradient, off the blocks it reads. -/
module

public import proofs.«01_k».proof.Defs
public import proofs.«01_k».proof.Proof.Gen.Kernel17Ideal.Frame
public import proofs.«01_k».proof.Proof.Cross
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel17Ideal.Cross

open Cert.Kernel17Ideal Cert.Kernel17Ideal.Gen Cert.Cross

/-- A row of an array. -/
abbrev row {n : ℕ} (x : (⟨2, ![n, 128]⟩ : Shape).Idx → EReal) (p : Fin n) : Row := fun d => x (ix2 p d)

theorem pay13 (q : FVec Ideal S1024x128 .f32) (g : FVec Ideal S1x128 .f32) (p : Fin 1024) (d : Fin 128) :
    k0_pay13 (F := Ideal) q g (ix2 p d) = qry (row q p) (row g 0) d := by
  unfold qry key unit ms
  pointwise [k0_pay13, k0_pay8, k0_pay6, k0_pay5]

theorem pay14 (k : FVec Ideal S256x128 .f32) (g : FVec Ideal S1x128 .f32) (p : Fin 256) (d : Fin 128) :
    k0_pay14 (F := Ideal) k g (ix2 p d) = key (row k p) (row g 0) d := by
  unfold key unit ms
  pointwise [k0_pay14, k0_pay12, k0_pay10, k0_pay9]

theorem pay15 (a : FVec Ideal S1024x128 .bf16) (b : FVec Ideal S256x128 .bf16) (p : Fin 1024) (q : Fin 256) :
    k0_pay15 (F := Ideal) a b (ix2 p q) = e (score (row a p) (row b)) q := by
  unfold e top score
  pointwise [k0_pay15]

theorem pay17 (a : FVec Ideal S1024x128 .bf16) (b : FVec Ideal S256x128 .bf16) (p : Fin 1024) :
    k0_pay17 (F := Ideal) a b (ix2 p 0) = Z (score (row a p) (row b)) := by
  unfold Z
  simp only [← pay15]
  pointwise [k0_pay17]

theorem pay20 (a : FVec Ideal S1024x128 .bf16) (b : FVec Ideal S256x128 .bf16) (o : FVec Ideal S1024x128 .bf16) (q : Fin 256) (d : Fin 128) :
    k0_pay20 (F := Ideal) a b o (ix2 q d)
      = ∑ p : Fin 1024, row o p d * Ideal.div 1 (Z (score (row a p) (row b))) * e (score (row a p) (row b)) q := by
  simp only [← pay15, ← pay17]
  pointwise [k0_pay20, k0_pay19, k0_pay18, k0_pay16]

theorem pay21 (v : FVec Ideal S256x128 .f32) (a : FVec Ideal S1024x128 .bf16) (b : FVec Ideal S256x128 .bf16) (o : FVec Ideal S1024x128 .bf16) (p : Fin 1024) (q : Fin 256) :
    k0_pay21 (F := Ideal) v a b o (ix2 p q) = ds (score (row a p) (row b)) (row v) (row o p) q := by
  unfold ds
  simp only [← pay15, ← pay17]
  pointwise [k0_pay21, k0_pay19, k0_pay18, k0_pay16]
  simp only [Fin.sum_univ_one]

theorem pay22 (v : FVec Ideal S256x128 .f32) (a : FVec Ideal S1024x128 .bf16) (b : FVec Ideal S256x128 .bf16) (o : FVec Ideal S1024x128 .bf16) (q : Fin 256) (d : Fin 128) :
    k0_pay22 (F := Ideal) v a b o (ix2 q d) = ∑ p : Fin 1024, ds (score (row a p) (row b)) (row v) (row o p) q * row a p d := by
  simp only [← pay21]
  pointwise [k0_pay22]

theorem pay23 (v : FVec Ideal S256x128 .f32) (a : FVec Ideal S1024x128 .bf16) (b : FVec Ideal S256x128 .bf16) (o : FVec Ideal S1024x128 .bf16) (p : Fin 1024) (d : Fin 128) :
    k0_pay23 (F := Ideal) v a b o (ix2 p d) = ∑ q : Fin 256, ds (score (row a p) (row b)) (row v) (row o p) q * row b q d := by
  simp only [← pay21]
  pointwise [k0_pay23]

theorem pay25 (k : FVec Ideal S256x128 .f32) (w : FVec Ideal S256x128 .bf16) (d : Fin 128) :
    k0_pay25 (F := Ideal) (k0_pay12 k) w (ix2 0 d) = ∑ q : Fin 256, unit (row k q) d * row w q d := by
  unfold unit ms
  pointwise [k0_pay25, k0_pay24, k0_pay12, k0_pay10, k0_pay9]

theorem pay26 (k : FVec Ideal S256x128 .f32) (g : FVec Ideal S1x128 .f32) (w : FVec Ideal S256x128 .bf16) (q : Fin 256) (d : Fin 128) :
    k0_pay26 (F := Ideal) k g (k0_pay10 k) (k0_pay11 k) w (ix2 q d) = dx (row k q) (row w q) (row g 0) d := by
  unfold dx back ms
  pointwise [k0_pay26, k0_pay24, k0_pay11, k0_pay10, k0_pay9]

theorem pay28 (x : FVec Ideal S1024x128 .f32) (w : FVec Ideal S1024x128 .bf16) (d : Fin 128) :
    k0_pay28 (F := Ideal) (k0_pay8 x) w (ix2 0 d) = ∑ p : Fin 1024, unit (row x p) d * (row w p d * Ideal.ofBits .f32 0x3DB504F3#32) := by
  unfold unit ms
  pointwise [k0_pay28, k0_pay27, k0_pay8, k0_pay6, k0_pay5]

theorem pay29 (x : FVec Ideal S1024x128 .f32) (g : FVec Ideal S1x128 .f32) (w : FVec Ideal S1024x128 .bf16) (p : Fin 1024) (d : Fin 128) :
    k0_pay29 (F := Ideal) x g (k0_pay6 x) (k0_pay7 x) w (ix2 p d)
      = dx (row x p) (fun d => row w p d * Ideal.ofBits .f32 0x3DB504F3#32) (row g 0) d := by
  unfold dx back ms
  pointwise [k0_pay29, k0_pay27, k0_pay7, k0_pay6, k0_pay5]

end Cert.Kernel17Ideal.Cross

end
-- ==== Proof.CrossRun.lean ====
/- What the run of the cross attention's gradient leaves in each result's block. -/
module

public import proofs.«01_k».proof.Proof.CrossKernel
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel17Ideal.Cross

open Cert.Kernel17Ideal Cert.Kernel17Ideal.Gen Cert.Cross

variable (m : (ℓ : Loc nD τ sig) → Buf (Elt Ideal) ℓ)

/-- Every window's block index at a grid point. -/
theorem idx : ∀ t : Fin cfg0.N, win0_0.index t = ![t.val % 2, t.val / 2] ∧ win0_1.index t = ![0, t.val / 2] ∧ win0_2.index t = ![0, 4 + t.val / 2]
    ∧ win0_3.index t = ![0, 0] ∧ win0_4.index t = ![0, 0] ∧ win0_5.index t = ![t.val % 2, t.val / 2] ∧ win0_6.index t = ![t.val % 2, t.val / 2]
    ∧ win0_7.index t = ![0, t.val / 2] ∧ win0_8.index t = ![0, t.val / 2] ∧ win0_9.index t = ![0, 0] ∧ win0_10.index t = ![0, 0] :=
  (by decide +kernel : ∀ t : Fin grid0.N, _)

/-- A point's head and block of queries. -/
def hd (t : Fin cfg0.N) : Fin 4 := ⟨t.val / 2, by have := lt_of_lt_of_eq t.isLt N_0; omega⟩
def part (t : Fin cfg0.N) : Fin 2 := ⟨t.val % 2, by omega⟩

abbrev a0 (c : Dev nD) : S2048x512.Idx → EReal := m ((c : Thread nD τ).loc main_arg0)
abbrev a1 (c : Dev nD) : S256x1024.Idx → EReal := m ((c : Thread nD τ).loc main_arg1)
abbrev a2 (c : Dev nD) : S1x128.Idx → EReal := m ((c : Thread nD τ).loc main_arg2)
abbrev a3 (c : Dev nD) : S1x128.Idx → EReal := m ((c : Thread nD τ).loc main_arg3)
abbrev a4 (c : Dev nD) : S2048x512.Idx → EReal := m ((c : Thread nD τ).loc main_arg4)

/-! ## The rows of a point's blocks -/

/-- The blocks a point reads. -/
def b0 (c : Dev nD) (t : Fin cfg0.N) : FVec Ideal S1024x128 .f32 := iblk m c 0 t
def b1 (c : Dev nD) (t : Fin cfg0.N) : FVec Ideal S256x128 .f32 := iblk m c 1 t
def b2 (c : Dev nD) (t : Fin cfg0.N) : FVec Ideal S256x128 .f32 := iblk m c 2 t
def b3 (c : Dev nD) (t : Fin cfg0.N) : FVec Ideal S1x128 .f32 := iblk m c 3 t
def b4 (c : Dev nD) (t : Fin cfg0.N) : FVec Ideal S1x128 .f32 := iblk m c 4 t
def b5 (c : Dev nD) (t : Fin cfg0.N) : FVec Ideal S1024x128 .bf16 := iblk m c 5 t

theorem row0 (c : Dev nD) (t : Fin cfg0.N) (p : Fin 1024) : row (b0 m c t) p = head (a0 m c) (hd t) (at' (part t) p) :=
  funext fun d => by
    unfold row head b0 a0
    blk_point [iblk, V, hd, part, at', idx t]

theorem row1 (c : Dev nD) (t : Fin cfg0.N) (p : Fin 256) : row (b1 m c t) p = keyRow (a1 m c) (hd t) p :=
  funext fun d => by
    unfold row keyRow b1 a1
    blk_point [iblk, V, hd, idx t]

theorem row2 (c : Dev nD) (t : Fin cfg0.N) (p : Fin 256) : row (b2 m c t) p = valRow (a1 m c) (hd t) p :=
  funext fun d => by
    unfold row valRow b2 a1
    blk_point [iblk, V, hd, idx t]

theorem row3 (c : Dev nD) (t : Fin cfg0.N) : row (b3 m c t) 0 = gain (a2 m c) :=
  funext fun d => by
    unfold row gain b3 a2
    blk_point [iblk, V, idx t]

theorem row4 (c : Dev nD) (t : Fin cfg0.N) : row (b4 m c t) 0 = gain (a3 m c) :=
  funext fun d => by
    unfold row gain b4 a3
    blk_point [iblk, V, idx t]

theorem row5 (c : Dev nD) (t : Fin cfg0.N) (p : Fin 1024) : row (b5 m c t) p = head (a4 m c) (hd t) (at' (part t) p) :=
  funext fun d => by
    unfold row head b5 a4
    blk_point [iblk, V, hd, part, at', idx t]

/-- A point's queries and keys. -/
def A (c : Dev nD) (t : Fin cfg0.N) : FVec Ideal S1024x128 .bf16 := k0_pay13 (F := Ideal) (b0 m c t) (b3 m c t)
def B (c : Dev nD) (t : Fin cfg0.N) : FVec Ideal S256x128 .bf16 := k0_pay14 (F := Ideal) (b1 m c t) (b4 m c t)

theorem rowA (c : Dev nD) (t : Fin cfg0.N) (p : Fin 1024) : row (A m c t) p = qs (a0 m c) (a2 m c) (hd t) (at' (part t) p) :=
  funext fun d => by
    refine (pay13 _ _ p d).trans ?_
    rw [row0 m c t p, row3 m c t]

theorem rowB (c : Dev nD) (t : Fin cfg0.N) (q : Fin 256) : row (B m c t) q = ks (a1 m c) (a3 m c) (hd t) q :=
  funext fun d => by
    refine (pay14 _ _ q d).trans ?_
    rw [row1 m c t q, row4 m c t]

theorem scores (c : Dev nD) (t : Fin cfg0.N) (p : Fin 1024) :
    score (row (A m c t) p) (row (B m c t)) = ss (a0 m c) (a1 m c) (a2 m c) (a3 m c) (hd t) (at' (part t) p) := by
  rw [rowA, show row (B m c t) = ks (a1 m c) (a3 m c) (hd t) from funext (rowB m c t)]

theorem vals (c : Dev nD) (t : Fin cfg0.N) : row (b2 m c t) = valRow (a1 m c) (hd t) := funext (row2 m c t)

/-- The cotangents of a point's normalised keys and queries. -/
def dK (c : Dev nD) (t : Fin cfg0.N) : FVec Ideal S256x128 .bf16 := k0_pay22 (F := Ideal) (b2 m c t) (A m c t) (B m c t) (b5 m c t)
def dQ (c : Dev nD) (t : Fin cfg0.N) : FVec Ideal S1024x128 .bf16 := k0_pay23 (F := Ideal) (b2 m c t) (A m c t) (B m c t) (b5 m c t)

theorem row_dK (c : Dev nD) (t : Fin cfg0.N) (q : Fin 256) :
    row (dK m c t) q = dknK (a0 m c) (a1 m c) (a2 m c) (a3 m c) (a4 m c) (hd t) (part t) q :=
  funext fun d => by
    refine (pay22 _ _ _ _ q d).trans (Finset.sum_congr (M := EReal) rfl fun p _ => ?_)
    rw [scores, vals, row5, rowA]

theorem row_dQ (c : Dev nD) (t : Fin cfg0.N) (p : Fin 1024) :
    (fun d => row (dQ m c t) p d * Ideal.ofBits .f32 0x3DB504F3#32) = dqnK (a0 m c) (a1 m c) (a2 m c) (a3 m c) (a4 m c) (hd t) (at' (part t) p) :=
  funext fun d => by
    refine congrArg (fun a : EReal => a * Ideal.ofBits .f32 0x3DB504F3#32) ((pay23 _ _ _ _ p d).trans (Finset.sum_congr (M := EReal) rfl fun q _ => ?_))
    rw [scores, vals, row5, rowB]

/-! ## What a point adds to each result -/

/-- The contributions to the gradients of the keys, the values and the two gains. -/
def toK (c : Dev nD) (t : Fin cfg0.N) : FVec Ideal S256x128 .f32 :=
  k0_pay26 (F := Ideal) (b1 m c t) (b4 m c t) (k0_pay10 (F := Ideal) (b1 m c t)) (k0_pay11 (F := Ideal) (b1 m c t)) (dK m c t)
def toV (c : Dev nD) (t : Fin cfg0.N) : FVec Ideal S256x128 .f32 := k0_pay20 (F := Ideal) (A m c t) (B m c t) (b5 m c t)
def toGq (c : Dev nD) (t : Fin cfg0.N) : FVec Ideal S1x128 .f32 := k0_pay28 (F := Ideal) (k0_pay8 (F := Ideal) (b0 m c t)) (dQ m c t)
def toGk (c : Dev nD) (t : Fin cfg0.N) : FVec Ideal S1x128 .f32 := k0_pay25 (F := Ideal) (k0_pay12 (F := Ideal) (b1 m c t)) (dK m c t)
def toQ (c : Dev nD) (t : Fin cfg0.N) : FVec Ideal S1024x128 .bf16 :=
  k0_pay29 (F := Ideal) (b0 m c t) (b3 m c t) (k0_pay6 (F := Ideal) (b0 m c t)) (k0_pay7 (F := Ideal) (b0 m c t)) (dQ m c t)

theorem toK_at (c : Dev nD) (t : Fin cfg0.N) (q : Fin 256) (d : Fin 128) :
    toK m c t (ix2 q d) = dkK (a0 m c) (a1 m c) (a2 m c) (a3 m c) (a4 m c) (hd t) (part t) q d := by
  refine (pay26 _ _ _ q d).trans ?_
  rw [row1 m c t q, row4 m c t, row_dK]
  rfl

theorem toV_at (c : Dev nD) (t : Fin cfg0.N) (q : Fin 256) (d : Fin 128) :
    toV m c t (ix2 q d) = dvK (a0 m c) (a1 m c) (a2 m c) (a3 m c) (a4 m c) (hd t) (part t) q d := by
  refine (pay20 _ _ _ q d).trans (Finset.sum_congr (M := EReal) rfl fun p _ => ?_)
  rw [scores, row5]

theorem toGk_at (c : Dev nD) (t : Fin cfg0.N) (d : Fin 128) :
    toGk m c t (ix2 0 d) = dgkK (a0 m c) (a1 m c) (a2 m c) (a3 m c) (a4 m c) (hd t) (part t) d := by
  refine (pay25 _ _ d).trans (Finset.sum_congr (M := EReal) rfl fun q _ => ?_)
  rw [row1, row_dK]

theorem toGq_at (c : Dev nD) (t : Fin cfg0.N) (d : Fin 128) :
    toGq m c t (ix2 0 d) = dgqK (a0 m c) (a1 m c) (a2 m c) (a3 m c) (a4 m c) (hd t) (part t) d := by
  refine (pay28 _ _ d).trans (Finset.sum_congr (M := EReal) rfl fun p _ => ?_)
  rw [row0 m c t p]
  exact congrArg _ (congrFun (row_dQ m c t p) d)

theorem toQ_at (c : Dev nD) (t : Fin cfg0.N) (p : Fin 1024) (d : Fin 128) :
    toQ m c t (ix2 p d) = dqK (a0 m c) (a1 m c) (a2 m c) (a3 m c) (a4 m c) (hd t) (at' (part t) p) d := by
  refine (pay29 _ _ _ p d).trans ?_
  rw [row0 m c t p, row3 m c t, row_dQ]
  rfl

/-! ## The results' blocks -/

theorem out_q (c : Dev nD) (t : Fin cfg0.N) : (outsAt0 m c t.val t.isLt).1 = toQ m c t := by
  have hN := lt_of_lt_of_eq t.isLt N_0
  by_cases h : t.val % 2 = 0
  · by_cases h8 : t.val % 8 = 0
    · rw [outsAt0_A m c t h (by omega) h (by omega) h8 (by omega) h8 (by omega)]; frame_out; rfl
    · rw [outsAt0_C m c t h (by omega) h (by omega) h8 (by omega) h8 (by omega)]; frame_out; rfl
  · rw [outsAt0_B m c t h (by omega) h (by omega) (by omega) (by omega) (by omega) (by omega)]; frame_out; rfl

theorem out_k (c : Dev nD) (t : Fin cfg0.N) (h : t.val % 2 = 1) (j : S256x128.Idx) :
    (outsAt0 m c t.val t.isLt).2.1 j = ∑ s : Fin 2, toK m c ⟨2 * (t.val / 2) + s.val, Pipeline.run_point_lt_of_flush t h s⟩ j := by
  have e := Pipeline.eq_sum_fin_of_reset_step_apply_of_flush (fun n h => (outsAt0 m c n h).2.1) 2 (fun _ => (0 : EReal)) (fun p j => toK m c p j)
    (fun t h j => by
      have hN := lt_of_lt_of_eq t.isLt N_0
      rw [zero_add]
      by_cases h8 : t.val % 8 = 0
      · rw [outsAt0_A m c t h (by omega) h (by omega) h8 (by omega) h8 (by omega)]; frame_out; rfl
      · rw [outsAt0_C m c t h (by omega) h (by omega) h8 (by omega) h8 (by omega)]; frame_out; rfl)
    (fun t h j => by
      rw [outsAt0_B m c t h (by omega) h (by omega) (by omega) (by omega) (by omega) (by omega)]; frame_out; pointwise [k0_pay1]; rfl) t h j
  rw [e, zero_add]

theorem out_v (c : Dev nD) (t : Fin cfg0.N) (h : t.val % 2 = 1) (j : S256x128.Idx) :
    (outsAt0 m c t.val t.isLt).2.2.1 j = ∑ s : Fin 2, toV m c ⟨2 * (t.val / 2) + s.val, Pipeline.run_point_lt_of_flush t h s⟩ j := by
  have e := Pipeline.eq_sum_fin_of_reset_step_apply_of_flush (fun n h => (outsAt0 m c n h).2.2.1) 2 (fun _ => (0 : EReal)) (fun p j => toV m c p j)
    (fun t h j => by
      have hN := lt_of_lt_of_eq t.isLt N_0
      rw [zero_add]
      by_cases h8 : t.val % 8 = 0
      · rw [outsAt0_A m c t h (by omega) h (by omega) h8 (by omega) h8 (by omega)]; frame_out; rfl
      · rw [outsAt0_C m c t h (by omega) h (by omega) h8 (by omega) h8 (by omega)]; frame_out; rfl)
    (fun t h j => by
      rw [outsAt0_B m c t h (by omega) h (by omega) (by omega) (by omega) (by omega) (by omega)]; frame_out; pointwise [k0_pay2]; rfl) t h j
  rw [e, zero_add]

theorem out_gq (c : Dev nD) (t : Fin cfg0.N) (h : t.val % 8 = 7) (j : S1x128.Idx) :
    (outsAt0 m c t.val t.isLt).2.2.2.1 j = ∑ s : Fin 8, toGq m c ⟨8 * (t.val / 8) + s.val, Pipeline.run_point_lt_of_flush t h s⟩ j := by
  have e := Pipeline.eq_sum_fin_of_reset_step_apply_of_flush (fun n h => (outsAt0 m c n h).2.2.2.1) 8 (fun _ => (0 : EReal)) (fun p j => toGq m c p j)
    (fun t h j => by
      have hN := lt_of_lt_of_eq t.isLt N_0
      rw [zero_add, outsAt0_A m c t (by omega) (by omega) (by omega) (by omega) h (by omega) h (by omega)]; frame_out; rfl)
    (fun t h j => by
      by_cases h2 : t.val % 2 = 0
      · rw [outsAt0_C m c t h2 (by omega) h2 (by omega) h (by omega) h (by omega)]; frame_out; pointwise [k0_pay3]; rfl
      · rw [outsAt0_B m c t h2 (by omega) h2 (by omega) h (by omega) h (by omega)]; frame_out; pointwise [k0_pay3]; rfl) t h j
  rw [e, zero_add]

theorem out_gk (c : Dev nD) (t : Fin cfg0.N) (h : t.val % 8 = 7) (j : S1x128.Idx) :
    (outsAt0 m c t.val t.isLt).2.2.2.2 j = ∑ s : Fin 8, toGk m c ⟨8 * (t.val / 8) + s.val, Pipeline.run_point_lt_of_flush t h s⟩ j := by
  have e := Pipeline.eq_sum_fin_of_reset_step_apply_of_flush (fun n h => (outsAt0 m c n h).2.2.2.2) 8 (fun _ => (0 : EReal)) (fun p j => toGk m c p j)
    (fun t h j => by
      have hN := lt_of_lt_of_eq t.isLt N_0
      rw [zero_add, outsAt0_A m c t (by omega) (by omega) (by omega) (by omega) h (by omega) h (by omega)]; frame_out; rfl)
    (fun t h j => by
      by_cases h2 : t.val % 2 = 0
      · rw [outsAt0_C m c t h2 (by omega) h2 (by omega) h (by omega) h (by omega)]; frame_out; pointwise [k0_pay4]; rfl
      · rw [outsAt0_B m c t h2 (by omega) h2 (by omega) h (by omega) h (by omega)]; frame_out; pointwise [k0_pay4]; rfl) t h j
  rw [e, zero_add]

end Cert.Kernel17Ideal.Cross

end
-- ==== Proof.CrossRef.lean ====
/- The reference's gradient of the cross attention at an index. -/
module

public import proofs.«01_k».proof.Defs
public import proofs.«01_k».proof.Proof.Gen.Reference17Ideal.Read
public import proofs.«01_k».proof.Proof.Cross
public import Idealize.ShloMosaic.Lib.Pipeline.ValueKit
public import Idealize.ShloMosaic.Lib.IdealHost

@[expose] public section

set_option maxRecDepth 16384

noncomputable section

open Idealize.ShloMosaic

namespace Cert.Reference17Ideal.Cross

open Cert.Reference17Ideal Cert.Reference17Ideal.Read Cert.Cross

/-! ## A sum over the first two of three axes -/

theorem reduce_lead {n0 n1 n2 : ℕ} (h : (⟨3, ![n0, n1, n2]⟩ : Shape).ReducesTo [0, 1] ⟨1, ![n2]⟩) (v : (⟨3, ![n0, n1, n2]⟩ : Shape).Idx → EReal) (init : EReal)
    (q : Fin n2) : Ideal.hostReduceAdd h v init (ix1 q) = init + ∑ a : Fin n0, ∑ b : Fin n1, v (ix3 a b q) := by
  refine congrArg (init + ·) ((Finset.sum_filter_eq_sum_of_fiber _ (fun k : Fin n0 × Fin n1 => ix3 k.1 k.2 q)
    (fun _ _ e => Prod.ext (congrFun e 0) (congrFun e 1)) (fun i => ⟨fun e => ⟨(i 0, i 1), ?_⟩, ?_⟩) v).trans ?_)
  · have e2 : (i 2).val = q.val := congrArg Fin.val (congrFun e 0)
    funext b
    match b with
    | ⟨0, _⟩ => rfl
    | ⟨1, _⟩ => rfl
    | ⟨2, _⟩ => exact Fin.ext e2.symm
  · rintro ⟨k, rfl⟩
    funext b
    match b with
    | ⟨0, _⟩ => rfl
  · simp only [Fintype.sum_prod_type]

/-! ## The reference's values -/

variable (x0 : FVec Ideal S2048x512 .f32) (x1 : FVec Ideal S256x1024 .f32) (x2 x3 : FVec Ideal S1x128 .f32) (x4 : FVec Ideal S2048x512 .bf16)

/-- The root of a query's mean square, and its derivative. -/
theorem r10 (p : Fin 2048) (h : Fin 4) : val_main_v10 (F := Ideal) x0 (ix3 p h 0) = ms (head x0 h p) := by
  unfold ms
  pointwise [val_main_v10, val_main_v9, val_main_v8, val_main_v7, val_main_v6, val_main_v5, val_main_v4, val_main_v2, val_main_cst, val_main_cst_0, val_main_cst_1]

theorem r14 (p : Fin 2048) (h : Fin 4) : val_main_v14 (F := Ideal) x0 (ix3 p h 0)
    = Ideal.ofBits .f32 0xBF000000#32 * Ideal.div (Ideal.rsqrt (ms (head x0 h p))) (ms (head x0 h p)) := by
  rw [← r10]
  pointwise [val_main_v14, val_main_v13, val_main_v12, val_main_v11, val_main_cst_2]

theorem r16 (p : Fin 2048) (h : Fin 4) (q : Fin 128) : val_main_v16 (F := Ideal) x0 (ix3 p h q) = unit (head x0 h p) q := by
  unfold unit
  rw [← r10]
  pointwise [val_main_v16, val_main_v15, val_main_v11, val_main_v2]

theorem r21 (p : Fin 2048) (h : Fin 4) (q : Fin 128) : val_main_v21 (F := Ideal) x0 x2 (ix3 p h q) = qs x0 x2 h p q := by
  unfold qs qry key
  rw [← r16]
  pointwise [val_main_v21, val_main_v20, val_main_v19, val_main_v18, val_main_v17, val_main_v3, val_main_cst_3]

/-- The same of a key. -/
theorem r30 (p : Fin 256) (h : Fin 4) : val_main_v30 (F := Ideal) x1 (ix3 p h 0) = ms (keyRow x1 h p) := by
  unfold ms
  pointwise [val_main_v30, val_main_v29, val_main_v28, val_main_v27, val_main_v26, val_main_v25, val_main_v24, val_main_v22, val_main_v0, val_main_cst_4, val_main_cst_5, val_main_cst_6]

theorem r34 (p : Fin 256) (h : Fin 4) : val_main_v34 (F := Ideal) x1 (ix3 p h 0)
    = Ideal.ofBits .f32 0xBF000000#32 * Ideal.div (Ideal.rsqrt (ms (keyRow x1 h p))) (ms (keyRow x1 h p)) := by
  rw [← r30]
  pointwise [val_main_v34, val_main_v33, val_main_v32, val_main_v31, val_main_cst_7]

theorem r36 (p : Fin 256) (h : Fin 4) (q : Fin 128) : val_main_v36 (F := Ideal) x1 (ix3 p h q) = unit (keyRow x1 h p) q := by
  unfold unit
  rw [← r30]
  pointwise [val_main_v36, val_main_v35, val_main_v31, val_main_v22, val_main_v0]

theorem r39 (p : Fin 256) (h : Fin 4) (q : Fin 128) : val_main_v39 (F := Ideal) x1 x3 (ix3 p h q) = ks x1 x3 h p q := by
  unfold ks key
  rw [← r36]
  pointwise [val_main_v39, val_main_v38, val_main_v37, val_main_v23]

theorem r40 (h : Fin 4) (p : Fin 2048) (m : Fin 256) : val_main_v40 (F := Ideal) x0 x1 x2 x3 (ix3 h p m) = ss x0 x1 x2 x3 h p m := by
  unfold ss score
  simp only [← r21, ← r39]
  pointwise [val_main_v40]

theorem r41 (h : Fin 4) (p : Fin 2048) : val_main_v41 (F := Ideal) x0 x1 x2 x3 (ix2 h p) = top (ss x0 x1 x2 x3 h p) := by
  unfold top
  simp only [← r40]
  pointwise [val_main_v41, val_main_cst_8]

/-- The largest of negative infinity and a value. -/
theorem max_least (y : FVec Ideal S4x2048 .f32) (i : S4x2048.Idx) : maximumf (F := Ideal) (val_main_v47 (F := Ideal)) y i = y i := by
  have e : val_main_v47 (F := Ideal) i = (⊥ : EReal) := by
    pointwise [val_main_v47, val_main_cst_10]
    simp [Ideal.ofBits, Ideal.ieee]
  show max (val_main_v47 (F := Ideal) i) (y i) = y i
  rw [e]
  exact max_eq_right bot_le

theorem r48 (h : Fin 4) (p : Fin 2048) : val_main_v48 (F := Ideal) x0 x1 x2 x3 (ix2 h p) = top (ss x0 x1 x2 x3 h p) :=
  (max_least _ _).trans (r41 _ _ _ _ h p)

theorem r61 (h : Fin 4) (p : Fin 2048) (m : Fin 256) : val_main_v61 (F := Ideal) x0 x1 x2 x3 (ix3 h p m) = e (ss x0 x1 x2 x3 h p) m := by
  unfold e
  rw [← r40, ← r48]
  pointwise [val_main_v61, val_main_v60, val_main_v59, val_main_v58]

theorem r62 (h : Fin 4) (p : Fin 2048) : val_main_v62 (F := Ideal) x0 x1 x2 x3 (ix2 h p) = Z (ss x0 x1 x2 x3 h p) := by
  unfold Z
  simp only [← r61]
  pointwise [val_main_v62, val_main_cst_16]

theorem r76 (h : Fin 4) (p : Fin 2048) (m : Fin 256) :
    val_main_v76 (F := Ideal) x1 x4 (ix3 h p m) = ∑ d : Fin 128, head x4 h p d * valRow x1 h m d := by
  pointwise [val_main_v76, val_main_v75, val_main_v74, val_main_v73, val_main_v69, val_main_v1]

theorem r79 (h : Fin 4) (m : Fin 256) (d : Fin 128) :
    val_main_v79 (F := Ideal) x0 x1 x2 x3 x4 (ix2 m ⟨h.val * 128 + d.val, by omega⟩)
      = ∑ p : Fin 2048, head x4 h p d * Ideal.div (e (ss x0 x1 x2 x3 h p) m) (Z (ss x0 x1 x2 x3 h p)) := by
  simp only [← r61, ← r62]
  pointwise [val_main_v79, val_main_v78, val_main_v77, val_main_v75, val_main_v74, val_main_v73, val_main_v65, val_main_v64, val_main_v63]

theorem r91 (h : Fin 4) (p : Fin 2048) (m : Fin 256) :
    val_main_v91 (F := Ideal) x0 x1 x2 x3 x4 (ix3 h p m) = ds' (ss x0 x1 x2 x3 h p) (valRow x1 h) (head x4 h p) m := by
  unfold ds'
  simp only [← r61, ← r62, ← r76]
  pointwise [val_main_v91, val_main_v90, val_main_v89, val_main_v88, val_main_v87, val_main_v86, val_main_v85, val_main_v84, val_main_v83, val_main_v82,
    val_main_v81, val_main_v80, val_main_v68, val_main_v67, val_main_v66, val_main_v63, val_main_cst_17, val_main_cst_18, val_main_cst_19]

theorem r93 (h : Fin 4) (m : Fin 256) (d : Fin 128) : val_main_v93 (F := Ideal) x0 x1 x2 x3 x4 (ix3 m h d) = dkn x0 x1 x2 x3 x4 h m d := by
  unfold dkn
  simp only [← r91, ← r21]
  pointwise [val_main_v93, val_main_v92]

theorem r119 (h : Fin 4) (p : Fin 2048) (d : Fin 128) : val_main_v119 (F := Ideal) x0 x1 x2 x3 x4 (ix3 p h d) = dqn x0 x1 x2 x3 x4 h p d := by
  unfold dqn
  simp only [← r91, ← r39]
  pointwise [val_main_v119, val_main_v118, val_main_v95, val_main_v94, val_main_cst_25]

theorem r110 (h : Fin 4) (m : Fin 256) : val_main_v110 (F := Ideal) x0 x1 x2 x3 x4 (ix2 m h) = back (keyRow x1 h m) (dkn x0 x1 x2 x3 x4 h m) (gain x3) := by
  unfold back
  simp only [← r93, ← r34]
  pointwise [val_main_v110, val_main_v109, val_main_v108, val_main_v107, val_main_v104, val_main_v103, val_main_v102, val_main_v100, val_main_v99, val_main_v37,
    val_main_v23, val_main_v22, val_main_v0, val_main_cst_22, val_main_cst_23, val_main_cst_24]
  try simp only [Fin.sum_univ_one]

theorem r117 (h : Fin 4) (m : Fin 256) (d : Fin 128) :
    val_main_v117 (F := Ideal) x0 x1 x2 x3 x4 (ix2 m ⟨h.val * 128 + d.val, by omega⟩)
      = dx (keyRow x1 h m) (dkn x0 x1 x2 x3 x4 h m) (gain x3) d := by
  unfold dx
  simp only [← r110, ← r93, ← r30]
  pointwise [val_main_v117, val_main_v115, val_main_v114, val_main_v113, val_main_v112, val_main_v111,
    val_main_v106, val_main_v105, val_main_v100, val_main_v99, val_main_v37, val_main_v31, val_main_v23, val_main_v22, val_main_v0]

theorem r134 (h : Fin 4) (p : Fin 2048) : val_main_v134 (F := Ideal) x0 x1 x2 x3 x4 (ix2 p h) = back (head x0 h p) (dqn x0 x1 x2 x3 x4 h p) (gain x2) := by
  unfold back
  simp only [← r119, ← r14]
  pointwise [val_main_v134, val_main_v133, val_main_v132, val_main_v131, val_main_v128, val_main_v127, val_main_v126, val_main_v124, val_main_v123, val_main_v17,
    val_main_v3, val_main_v2, val_main_cst_28, val_main_cst_29, val_main_cst_30]
  try simp only [Fin.sum_univ_one]

theorem r142 (h : Fin 4) (p : Fin 2048) (d : Fin 128) :
    val_main_v142 (F := Ideal) x0 x1 x2 x3 x4 (ix2 p ⟨h.val * 128 + d.val, by omega⟩)
      = dx (head x0 h p) (dqn x0 x1 x2 x3 x4 h p) (gain x2) d := by
  unfold dx
  simp only [← r134, ← r119, ← r10]
  pointwise [val_main_v142, val_main_v141, val_main_v139, val_main_v138, val_main_v137, val_main_v136, val_main_v135,
    val_main_v130, val_main_v129, val_main_v124, val_main_v123, val_main_v17, val_main_v11, val_main_v3, val_main_v2]

theorem r96 (h : Fin 4) (m : Fin 256) (d : Fin 128) :
    val_main_v96 (F := Ideal) x0 x1 x2 x3 x4 (ix3 m h d) = unit (keyRow x1 h m) d * dkn x0 x1 x2 x3 x4 h m d := by
  rw [← r36, ← r93]
  pointwise [val_main_v96]

theorem r120 (h : Fin 4) (p : Fin 2048) (d : Fin 128) :
    val_main_v120 (F := Ideal) x0 x1 x2 x3 x4 (ix3 p h d) = unit (head x0 h p) d * dqn x0 x1 x2 x3 x4 h p d := by
  rw [← r16, ← r119]
  pointwise [val_main_v120]

theorem r116 (d : Fin 128) : val_main_v116 (F := Ideal) x0 x1 x2 x3 x4 (ix2 0 d)
    = ∑ m : Fin 256, ∑ h : Fin 4, unit (keyRow x1 h m) d * dkn x0 x1 x2 x3 x4 h m d := by
  simp only [← r96]
  pointwise [val_main_v116, val_main_v101, val_main_v98, val_main_v97, val_main_cst_20, val_main_cst_21]
  rw [reduce_lead, Fin.sum_univ_one, Fin.sum_univ_one, zero_add]
  pointwise []
  rw [reduce_lead]
  pointwise []

theorem r140 (d : Fin 128) : val_main_v140 (F := Ideal) x0 x1 x2 x3 x4 (ix2 0 d)
    = ∑ p : Fin 2048, ∑ h : Fin 4, unit (head x0 h p) d * dqn x0 x1 x2 x3 x4 h p d := by
  simp only [← r120]
  pointwise [val_main_v140, val_main_v125, val_main_v122, val_main_v121, val_main_cst_26, val_main_cst_27]
  rw [reduce_lead, Fin.sum_univ_one, Fin.sum_univ_one, zero_add]
  pointwise []
  rw [reduce_lead]
  pointwise []

end Cert.Reference17Ideal.Cross

end
-- ==== Proof.CrossSum.lean ====
/- The kernel's contributions to the cross attention's gradient add up to the reference's for real arguments. -/
module

public import proofs.«01_k».proof.Proof.Cross
public import Idealize.ShloMosaic.Lib.Pipeline.ValueKit

@[expose] public section

set_option maxRecDepth 16384

noncomputable section

open Idealize.ShloMosaic

namespace Cert.Cross

/-- A head and a block of queries, eight in one row. -/
theorem sum_eight (f : Fin 4 → Fin 2 → EReal) :
    ∑ s : Fin 8, f ⟨s.val / 2, by omega⟩ ⟨s.val % 2, by omega⟩ = ∑ h : Fin 4, ∑ i : Fin 2, f h i := by
  refine (Fin.sum_mul_add_congr fun h i hl => ?_).symm
  exact congrArg₂ f (Fin.ext (by dsimp only; omega)) (Fin.ext (by dsimp only; omega))

/-- The two blocks of queries, in one row. -/
theorem sum_rows (f : Fin 2048 → EReal) : ∑ i : Fin 2, ∑ p : Fin 1024, f (at' i p) = ∑ p : Fin 2048, f p :=
  Fin.sum_mul_add_congr fun i p hl => rfl

variable (x0 : (⟨2, ![2048, 512]⟩ : Shape).Idx → EReal) (x1 : (⟨2, ![256, 1024]⟩ : Shape).Idx → EReal) (x2 x3 : (⟨2, ![1, 128]⟩ : Shape).Idx → EReal)
  (x4 : (⟨2, ![2048, 512]⟩ : Shape).Idx → EReal)

/-- Every argument is real. -/
structure Real : Prop where
  r0 : ∀ i, ∃ r : ℝ, x0 i = r
  r1 : ∀ i, ∃ r : ℝ, x1 i = r
  r2 : ∀ i, ∃ r : ℝ, x2 i = r
  r3 : ∀ i, ∃ r : ℝ, x3 i = r
  r4 : ∀ i, ∃ r : ℝ, x4 i = r

variable {x0 x1 x2 x3 x4} (R : Real x0 x1 x2 x3 x4)

/-- A function of real values is a real function. -/
theorem lift {ι : Type} (x : ι → EReal) (h : ∀ i, ∃ r : ℝ, x i = r) : ∃ r : ι → ℝ, x = fun i => (r i : EReal) := by
  choose r e using h
  exact ⟨r, funext e⟩

include R

theorem qs_real (h : Fin 4) (p : Fin 2048) : ∃ u : Fin 128 → ℝ, qs x0 x2 h p = fun d => (u d : EReal) := by
  obtain ⟨a, ea⟩ := lift x0 R.r0
  obtain ⟨g, eg⟩ := lift x2 R.r2
  subst ea eg
  exact lift _ fun d => ⟨_, (qry_real _ _).choose_spec d⟩

theorem ks_real (h : Fin 4) (m : Fin 256) : ∃ u : Fin 128 → ℝ, ks x1 x3 h m = fun d => (u d : EReal) := by
  obtain ⟨a, ea⟩ := lift x1 R.r1
  obtain ⟨g, eg⟩ := lift x3 R.r3
  subst ea eg
  exact lift _ fun d => ⟨_, (key_real _ _).choose_spec d⟩

theorem ss_real (h : Fin 4) (p : Fin 2048) : ∃ u : Fin 256 → ℝ, ss x0 x1 x2 x3 h p = fun d => (u d : EReal) := by
  obtain ⟨q, eq⟩ := qs_real R h p
  refine lift _ fun m => ?_
  obtain ⟨k, ek⟩ := ks_real R h m
  exact ⟨∑ d, q d * k d, by unfold ss score; rw [eq, ek]; simp only [← EReal.coe_mul, sum_up]⟩

theorem ds_same (h : Fin 4) (p : Fin 2048) (m : Fin 256) : ds (ss x0 x1 x2 x3 h p) (valRow x1 h) (head x4 h p) m = ds' (ss x0 x1 x2 x3 h p) (valRow x1 h) (head x4 h p) m
    ∧ ∃ r : ℝ, ds (ss x0 x1 x2 x3 h p) (valRow x1 h) (head x4 h p) m = r := by
  obtain ⟨s, es⟩ := ss_real R h p
  rw [es]
  obtain ⟨v, ev⟩ := lift x1 R.r1
  obtain ⟨o, eo⟩ := lift x4 R.r4
  subst ev eo
  obtain ⟨r, hr⟩ := ds_real s (fun m d => v (ix2 m ⟨512 + (h.val * 128 + d.val), by omega⟩)) (fun d => o (ix2 p ⟨h.val * 128 + d.val, by omega⟩))
  exact ⟨(hr m).1.trans (hr m).2.symm, r m, (hr m).1⟩

theorem dqnK_eq (h : Fin 4) (p : Fin 2048) : dqnK x0 x1 x2 x3 x4 h p = dqn x0 x1 x2 x3 x4 h p := by
  unfold dqnK dqn
  simp only [(ds_same R h p _).1]

theorem dqK_eq (h : Fin 4) (p : Fin 2048) (d : Fin 128) : dqK x0 x1 x2 x3 x4 h p d = dx (head x0 h p) (dqn x0 x1 x2 x3 x4 h p) (gain x2) d := by
  unfold dqK
  rw [dqnK_eq R]

theorem dgq_sum (d : Fin 128) : ∑ s : Fin 8, dgqK x0 x1 x2 x3 x4 ⟨s.val / 2, by omega⟩ ⟨s.val % 2, by omega⟩ d
    = ∑ p : Fin 2048, ∑ h : Fin 4, unit (head x0 h p) d * dqn x0 x1 x2 x3 x4 h p d := by
  rw [sum_eight (fun h i => dgqK x0 x1 x2 x3 x4 h i d), Finset.sum_comm (s := (Finset.univ : Finset (Fin 2048)))]
  refine Finset.sum_congr rfl fun h _ => ?_
  unfold dgqK
  simp only [dqnK_eq R]
  exact sum_rows (fun p => unit (head x0 h p) d * dqn x0 x1 x2 x3 x4 h p d)

theorem dv_sum (h : Fin 4) (m : Fin 256) (d : Fin 128) : ∑ i : Fin 2, dvK x0 x1 x2 x3 x4 h i m d
    = ∑ p : Fin 2048, head x4 h p d * Ideal.div (e (ss x0 x1 x2 x3 h p) m) (Z (ss x0 x1 x2 x3 h p)) := by
  rw [← sum_rows]
  unfold dvK
  refine Finset.sum_congr rfl fun i _ => Finset.sum_congr rfl fun p _ => ?_
  obtain ⟨s, es⟩ := ss_real R h (at' i p)
  rw [es]
  exact dv_eq s _ m

theorem dkn_split (h : Fin 4) (m : Fin 256) (d : Fin 128) : ∑ i : Fin 2, dknK x0 x1 x2 x3 x4 h i m d = dkn x0 x1 x2 x3 x4 h m d := by
  unfold dknK dkn
  simp only [(ds_same R h _ m).1]
  exact sum_rows (fun p => ds' (ss x0 x1 x2 x3 h p) (valRow x1 h) (head x4 h p) m * qs x0 x2 h p d)

theorem dknK_real (h : Fin 4) (i : Fin 2) (m : Fin 256) : ∃ u : Fin 128 → ℝ, dknK x0 x1 x2 x3 x4 h i m = fun d => (u d : EReal) := by
  choose q eq using fun p => qs_real R h p
  choose r er using fun p => (ds_same R h p m).2
  refine lift _ fun d => ⟨∑ p : Fin 1024, r (at' i p) * q (at' i p) d, ?_⟩
  unfold dknK
  simp only [er, eq, ← EReal.coe_mul, sum_up]

theorem dk_sum (h : Fin 4) (m : Fin 256) (d : Fin 128) : ∑ i : Fin 2, dkK x0 x1 x2 x3 x4 h i m d = dx (keyRow x1 h m) (dkn x0 x1 x2 x3 x4 h m) (gain x3) d := by
  choose u eu using fun i => dknK_real R h i m
  have ek : dkn x0 x1 x2 x3 x4 h m = fun d => ((u 0 d + u 1 d : ℝ) : EReal) := funext fun d => by
    rw [← dkn_split R h m d, Fin.sum_univ_two, eu, eu, EReal.coe_add]
  rw [ek, Fin.sum_univ_two]
  unfold dkK
  rw [eu, eu]
  obtain ⟨a, ea⟩ := lift x1 R.r1
  obtain ⟨g, eg⟩ := lift x3 R.r3
  rw [ea, eg]
  exact dx_add _ _ _ _ d

theorem dgk_sum (d : Fin 128) : ∑ s : Fin 8, dgkK x0 x1 x2 x3 x4 ⟨s.val / 2, by omega⟩ ⟨s.val % 2, by omega⟩ d
    = ∑ m : Fin 256, ∑ h : Fin 4, unit (keyRow x1 h m) d * dkn x0 x1 x2 x3 x4 h m d := by
  rw [sum_eight (fun h i => dgkK x0 x1 x2 x3 x4 h i d), Finset.sum_comm (s := (Finset.univ : Finset (Fin 256)))]
  refine Finset.sum_congr rfl fun h _ => ?_
  unfold dgkK
  rw [Finset.sum_comm]
  refine Finset.sum_congr rfl fun m _ => ?_
  obtain ⟨a, ea⟩ := lift x1 R.r1
  obtain ⟨w, ew⟩ : ∃ w : ℝ, unit (keyRow x1 h m) d = w := by
    rw [ea]
    exact ⟨_, (unit_real _).choose_spec d⟩
  choose u eu using fun i => dknK_real R h i m
  rw [← dkn_split R h m d, Fin.sum_univ_two, Fin.sum_univ_two, ew, eu, eu]
  simp only [← EReal.coe_add, ← EReal.coe_mul, mul_add]

end Cert.Cross

end
-- ==== Proof.AttnBody.lean ====
/- The attention gradient at dilation 16: the kernel's body as sixteen runs of ONE residue's program, and
   that program's triple. A residue reads its 128 rows (a stride of 16) of every operand, writes its rows of
   `dq`, and adds its rows of `dk` and `dv`, which the body's head has set to zero. -/
module

public import proofs.«01_k».proof.Proof.Gen.Kernel2Ideal.Skeleton
public import proofs.«01_k».proof.Proof.Gen.Kernel2Ideal.Frame
public import Idealize.ShloMosaic.Lib.Claim

@[expose] public section

set_option maxRecDepth 65536

noncomputable section

namespace Cert.Kernel2Ideal.AttnBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄" => MT nD τ sig Unit (Elt F) ℕ (UR sig nD τ) ℕ

/-- A residue's rows of a block. -/
abbrev Rows (F : FTy → Type) := Vec F S128x128 .f32

/-- A whole block. -/
abbrev Block (F : FTy → Type) := Vec F S2048x128 .f32

/-! ## One residue's values -/

/-- The lane numbers. -/
def lanes : IVec S1x128 32 := iota .tc S1x128 32 [1] iota_S1x128_d1_w32

/-- The scores' gradient of a residue, both heads one above the other. -/
def ds (q k v o lse do_ dl : Rows F) : FVec F S256x128 .f32 :=
  k0_pay14 k v (k0_pay5 o) (k0_pay6 lse) do_ dl k0_pay7 k0_pay8 lanes k0_pay9 (k0_pay10 q) (k0_pay11 do_)

/-- A residue's rows of the gradient of the queries, -/
def dq (q k v o lse do_ dl : Rows F) : FVec F S128x128 .f32 :=
  k0_pay18 k0_pay8
    (k0_pay16 k v (k0_pay5 o) (k0_pay6 lse) do_ dl k0_pay7 k0_pay8 lanes k0_pay9 (k0_pay10 q) (k0_pay11 do_))
    (k0_pay17 k v (k0_pay5 o) (k0_pay6 lse) do_ dl k0_pay7 k0_pay8 lanes k0_pay9 (k0_pay10 q) (k0_pay11 do_))

/-- its rows of the gradient of the keys, added to what they were, -/
def dk (q k v o lse do_ dl old : Rows F) : FVec F S128x128 .f32 :=
  k0_pay19 (k0_pay10 q) (ds q k v o lse do_ dl) old

/-- and its rows of the gradient of the values, added to what they were. -/
def dv (q k v o lse do_ dl old : Rows F) : FVec F S128x128 .f32 :=
  k0_pay20 (k0_pay12 do_ k0_pay8 (k0_pay11 do_)) (k0_pay13 k (k0_pay6 lse) lanes k0_pay9 (k0_pay10 q)) old

/-! ## One residue's rectangle and program -/

theorem rows_inb (r : Fin 16) : ∀ a, S128x128.size a = 0 ∨
    (![r.val, 0] : Fin 2 → Nat) a + (![16, 1] : Fin 2 → Nat) a * (S128x128.size a - 1) < S2048x128.size a := by
  intro a; right; have := r.isLt
  fin_cases a <;> simp <;> omega

/-- Residue `r`'s rows, read, -/
abbrev rowsL (r : Fin 16) : LoadRect S2048x128 := ⟨![r.val, 0], S128x128.size, ![16, 1], rows_inb r⟩

/-- and written; -/
abbrev rows (r : Fin 16) : Rect S2048x128 := ⟨rowsL r, spos_16_1⟩

/-- the same at an offset. -/
abbrev atL (off : Fin 2 → ℕ) (inb : ∀ a, S128x128.size a = 0 ∨ off a + (![16, 1] : Fin 2 → Nat) a * (S128x128.size a - 1) < S2048x128.size a) :
    LoadRect S2048x128 :=
  ⟨off, S128x128.size, ![16, 1], inb⟩

/-- One residue of the body, its rows of `dk` and `dv` at an offset. -/
def residueAt (off : Fin 2 → ℕ) (inb : ∀ a, S128x128.size a = 0 ∨ off a + (![16, 1] : Fin 2 → Nat) a * (S128x128.size a - 1) < S2048x128.size a)
    (arg2 arg3 arg4 arg5 arg6 arg7 arg8 arg9 arg10 arg11 : Memref sig .tc .vmem S2048x128 .f32) (r : Fin 16) :
    Prog (TpuEff nD τ sig (Elt F) Λ₀ .tc) PUnit := do
  let q : Rows F ← Prog.lift (.load arg2 (rowsL r) (View.loadsAt_vmem h_S128x128))
  let k : Rows F ← Prog.lift (.load arg3 (rowsL r) (View.loadsAt_vmem h_S128x128))
  let v : Rows F ← Prog.lift (.load arg4 (rowsL r) (View.loadsAt_vmem h_S128x128))
  let o : Rows F ← Prog.lift (.load arg5 (rowsL r) (View.loadsAt_vmem h_S128x128))
  let lse : Rows F ← Prog.lift (.load arg6 (rowsL r) (View.loadsAt_vmem h_S128x128))
  let do_ : Rows F ← Prog.lift (.load arg7 (rowsL r) (View.loadsAt_vmem h_S128x128))
  let dl : Rows F ← Prog.lift (.load arg8 (rowsL r) (View.loadsAt_vmem h_S128x128))
  let _ : Rows F ← Prog.lift (.load arg9 (rowsL r) (View.loadsAt_vmem h_S128x128))
  Prog.lift (.store arg9 (rows r) (dq q k v o lse do_ dl) Finset.univ (View.stores_vmem_bits_univ h_S128x128 rfl) (.inl rfl))
  let old10 : Rows F ← Prog.lift (.load arg10 (atL off inb) (View.loadsAt_vmem h_S128x128))
  let _ : Rows F ← Prog.lift (.load arg10 (atL off inb) (View.loadsAt_vmem h_S128x128))
  Prog.lift (.store arg10 ⟨atL off inb, spos_16_1⟩ (dk q k v o lse do_ dl old10) Finset.univ (View.stores_vmem_bits_univ h_S128x128 rfl) (.inl rfl))
  let old11 : Rows F ← Prog.lift (.load arg11 (atL off inb) (View.loadsAt_vmem h_S128x128))
  let _ : Rows F ← Prog.lift (.load arg11 (atL off inb) (View.loadsAt_vmem h_S128x128))
  Prog.lift (.store arg11 ⟨atL off inb, spos_16_1⟩ (dv q k v o lse do_ dl old11) Finset.univ (View.stores_vmem_bits_univ h_S128x128 rfl) (.inl rfl))

/-- One residue of the body: the offset as the kernel computes it. -/
def residue (i : grid0.Coords) (arg2 arg3 arg4 arg5 arg6 arg7 arg8 arg9 arg10 arg11 : Memref sig .tc .vmem S2048x128 .f32) (r : Fin 16) :
    Prog (TpuEff nD τ sig (Elt F) Λ₀ .tc) PUnit :=
  residueAt (k0_off1 i (BitVec.ofNat 32 r.val)) (k0_off1_inb i r) arg2 arg3 arg4 arg5 arg6 arg7 arg8 arg9 arg10 arg11 r

/-- Some residues of the body, in order. -/
def residues (i : grid0.Coords) (arg2 arg3 arg4 arg5 arg6 arg7 arg8 arg9 arg10 arg11 : Memref sig .tc .vmem S2048x128 .f32) :
    List (Fin 16) → Prog (TpuEff nD τ sig (Elt F) Λ₀ .tc) PUnit
  | [] => pure ⟨⟩
  | r :: rs => do
    residue i arg2 arg3 arg4 arg5 arg6 arg7 arg8 arg9 arg10 arg11 r
    residues i arg2 arg3 arg4 arg5 arg6 arg7 arg8 arg9 arg10 arg11 rs

/-- The whole block. -/
abbrev wholeR : Rect S2048x128 := Rect.unit (s := S2048x128) ![0, 0] S2048x128.size inb_S2048x128_S2048x128_0_0

/-- The body's head: the gradients of the keys and of the values start at zero. -/
def zeros (arg10 arg11 : Memref sig .tc .vmem S2048x128 .f32) : Prog (TpuEff nD τ sig (Elt F) Λ₀ .tc) PUnit := do
  let _ : Block F ← Prog.lift (.load arg10 wholeR.toLoadRect (View.loadsAt_vmem h_S2048x128))
  Prog.lift (.store arg10 wholeR (k0_pay3 (F := F)) Finset.univ (View.stores_vmem_bits_univ h_S2048x128 rfl) (.inl rfl))
  let _ : Block F ← Prog.lift (.load arg11 wholeR.toLoadRect (View.loadsAt_vmem h_S2048x128))
  Prog.lift (.store arg11 wholeR (k0_pay4 (F := F)) Finset.univ (View.stores_vmem_bits_univ h_S2048x128 rfl) (.inl rfl))

/-- The word the kernel tests before its head: its second coordinate is zero at every point. -/
theorem first (i : grid0.Coords) :
    Scalar.cmpi .ne (Scalar.extui (Scalar.cmpi .eq (BitVec.ofNat 32 (i 1).val) 0#32) : BitVec 32) 0#32 = 1#1 := by
  have h : (i 1).val = 0 := by have := (i 1).isLt; simpa [grid0] using this
  rw [h]; rfl

/-- The body, residue by residue. -/
def body (i : grid0.Coords) (arg2 arg3 arg4 arg5 arg6 arg7 arg8 arg9 arg10 arg11 : Memref sig .tc .vmem S2048x128 .f32) :
    Prog (TpuEff nD τ sig (Elt F) Λ₀ .tc) PUnit := do
  zeros arg10 arg11
  residues i arg2 arg3 arg4 arg5 arg6 arg7 arg8 arg9 arg10 arg11 [0, 1, 2, 3, 4, 5, 6, 7, 8, 9, 10, 11, 12, 13, 14, 15]

set_option maxHeartbeats 4000000 in
/-- The printed body is that. -/
theorem body_eq (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) :
    cc0_attn_bwd_16 (F := F) i arg2 harg2 arg3 harg3 arg4 harg4 arg5 harg5 arg6 harg6 arg7 harg7 arg8 harg8 arg9 harg9 arg10 harg10 arg11 harg11
      = body i arg2 arg3 arg4 arg5 arg6 arg7 arg8 arg9 arg10 arg11 := by
  rw [cc0_attn_bwd_16_eq_skeleton]; unfold cc0_attn_bwd_16_skel
  rw [k0_part39_eq_skeleton]; unfold k0_part39_skel
  rw [k0_part1_eq_skeleton]; unfold k0_part1_skel
  rw [dif_pos (first i)]
  rfl

end Cert.Kernel2Ideal.AttnBody

end
-- ==== Proof.AttnRun.lean ====
/- The triple of the attention gradient's body: what a residue leaves in each output's buffer, as a function of
   what the buffers held, and all sixteen one after the other. -/
module

public import proofs.«01_k».proof.Proof.AttnBody
public import Idealize.ShloMosaic.Lib.Pipeline.ValueKit
public import Idealize.ShloMosaic.Lib.VecWindow

@[expose] public section

set_option maxRecDepth 16384

noncomputable section

namespace Cert.Kernel2Ideal.AttnBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄" => MT nD τ sig Unit (Elt F) ℕ (UR sig nD τ) ℕ

/-! ## Rows read and rows written -/

/-- A place's residue, -/
def res (y : S2048x128.Idx) : Fin 16 := ⟨(y 0).val % 16, Nat.mod_lt _ (by decide)⟩

/-- and where it stands among the residue's rows. -/
def pos (y : S2048x128.Idx) : S128x128.Idx :=
  ix2 ⟨(y 0).val / 16, by have : (y 0).val < 2048 := (y 0).isLt; simp; omega⟩ (y 1)

/-- Residue `r`'s rows of a block, -/
def get (r : Fin 16) (x : Block F) : Rows F :=
  fun j => x (ix2 ⟨r.val + 16 * (j 0).val, by have : (j 0).val < 128 := (j 0).isLt; have := r.isLt; simp; omega⟩ (j 1))

/-- and a block with them put in. -/
def put (r : Fin 16) (x : Block F) (p : Rows F) : Block F :=
  fun y => if res y = r then p (pos y) else x y

/-- Another residue's rows are left alone. -/
theorem get_put {r r' : Fin 16} (h : r' ≠ r) (x : Block F) (p : Rows F) : get r' (put r x p) = get r' x := by
  funext j
  unfold get put
  rw [if_neg]
  intro e
  have e' : (r'.val + 16 * (j 0).val) % 16 = r.val := congrArg Fin.val e
  exact h (Fin.ext (by have := r'.isLt; omega))

theorem read_rows (v : View sig .tc .vmem S2048x128 .f32) (f : v.ty.Contents (Elt F)) (r : Fin 16) :
    v.readAt (Elt F) (rowsL r) f = get r (v.read (Elt F) f) := by
  funext j
  refine congrArg (v.read (Elt F) f) (funext fun a => Fin.ext ?_)
  fin_cases a
  · rfl
  · show 0 + 1 * (j 1).val = (j 1).val
    omega

theorem write_rows (v : View sig .tc .vmem S2048x128 .f32) (f : v.ty.Contents (Elt F)) (r : Fin 16) (p : Rows F) :
    v.read (Elt F) (v.writes (Elt F) f [⟨rows r, p⟩]) = put r (v.read (Elt F) f) p := by
  funext y
  have hy0 : (y 0).val < 2048 := (y 0).isLt
  unfold put
  split
  · rename_i h
    have h' : (y 0).val % 16 = r.val := congrArg Fin.val h
    refine View.read_writes_cons_hit_of_coords v f (rows r) p [] _ y fun a => ?_
    fin_cases a
    · show (y 0).val = r.val + 16 * ((y 0).val / 16)
      omega
    · show (y 1).val = 0 + 1 * (y 1).val
      omega
  · rename_i h
    refine View.read_writes_cons_miss v f _ [] y fun hy => h (Fin.ext ?_)
    show (y 0).val % 16 = r.val
    obtain ⟨j, hj, hy'⟩ := (rows r).mem_set.mp hy 0
    have : (y 0).val = r.val + 16 * j := hy'
    have := r.isLt
    omega

/-- The offset the kernel computes for a residue is the residue. -/
theorem dyn_eq (i : grid0.Coords) (r : Fin 16) : k0_off1 i (BitVec.ofNat 32 r.val) = ![r.val, 0] := by
  have h : (i 1).val = 0 := by have := (i 1).isLt; simpa [grid0] using this
  unfold k0_off1
  rw [h]
  revert r
  decide +kernel

/-! ## What a residue leaves -/

/-- The blocks the body reads, -/
structure Ins (F : FTy → Type) where
  (q k v o lse do_ dl : Block F)

/-- and those it writes. -/
structure Outs (F : FTy → Type) where
  (dq dk dv : Block F)

/-- What residue `r` leaves. -/
def step (X : Ins F) (Y : Outs F) (r : Fin 16) : Outs F where
  dq := put r Y.dq (dq (get r X.q) (get r X.k) (get r X.v) (get r X.o) (get r X.lse) (get r X.do_) (get r X.dl))
  dk := put r Y.dk (dk (get r X.q) (get r X.k) (get r X.v) (get r X.o) (get r X.lse) (get r X.do_) (get r X.dl) (get r Y.dk))
  dv := put r Y.dv (dv (get r X.q) (get r X.k) (get r X.v) (get r X.o) (get r X.lse) (get r X.do_) (get r X.dl) (get r Y.dv))

variable (c : Dev nD) (i : grid0.Coords)
  (arg2 arg3 arg4 arg5 arg6 arg7 arg8 arg9 arg10 arg11 : Memref sig .tc .vmem S2048x128 .f32)

/-- The body's buffers, held whole. -/
def held (X : Ins F) (Y : Outs F) : sProp 𝕄 :=
  iprop(owns (c : Thread nD τ) arg2 fullShare X.q ∗ owns (c : Thread nD τ) arg3 fullShare X.k
    ∗ owns (c : Thread nD τ) arg4 fullShare X.v ∗ owns (c : Thread nD τ) arg5 fullShare X.o
    ∗ owns (c : Thread nD τ) arg6 fullShare X.lse ∗ owns (c : Thread nD τ) arg7 fullShare X.do_
    ∗ owns (c : Thread nD τ) arg8 fullShare X.dl ∗ owns (c : Thread nD τ) arg9 fullShare Y.dq
    ∗ owns (c : Thread nD τ) arg10 fullShare Y.dk ∗ owns (c : Thread nD τ) arg11 fullShare Y.dv)

set_option maxHeartbeats 1000000 in
/-- One residue's triple. -/
theorem residue_run (X : Ins F) (Y : Outs F) (r : Fin 16) (E : Set ℕ) (K : PUnit → sProp 𝕄) :
    iprop(held c arg2 arg3 arg4 arg5 arg6 arg7 arg8 arg9 arg10 arg11 X Y
        ∗ (held c arg2 arg3 arg4 arg5 arg6 arg7 arg8 arg9 arg10 arg11 X (step X Y r) -∗ K ⟨⟩))
      ⊢ wp frame (wpE (defs₀ (F := F)) Variants.none c none) E (residue i arg2 arg3 arg4 arg5 arg6 arg7 arg8 arg9 arg10 arg11 r) K := by
  unfold residue
  generalize k0_off1_inb i r = hin
  have hoff := dyn_eq i r
  generalize k0_off1 i (BitVec.ofNat 32 r.val) = off at hin hoff
  subst hoff
  unfold held owns residueAt
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩, Hk⟩
  sl_exec
  sl_step
  iapply Hk
  isplitl [H2]; · iexists _; isplitr; · ipureintro; exact h2
                  iexact H2
  isplitl [H3]; · iexists _; isplitr; · ipureintro; exact h3
                  iexact H3
  isplitl [H4]; · iexists _; isplitr; · ipureintro; exact h4
                  iexact H4
  isplitl [H5]; · iexists _; isplitr; · ipureintro; exact h5
                  iexact H5
  isplitl [H6]; · iexists _; isplitr; · ipureintro; exact h6
                  iexact H6
  isplitl [H7]; · iexists _; isplitr; · ipureintro; exact h7
                  iexact H7
  isplitl [H8]; · iexists _; isplitr; · ipureintro; exact h8
                  iexact H8
  isplitl [H9]
  · iexists _; isplitr; swap; · iexact H9
    ipureintro
    refine (write_rows arg9.view f9 r _).trans ?_
    simp only [read_rows, h2, h3, h4, h5, h6, h7, h8, h9]; rfl
  isplitl [H10]
  · iexists _; isplitr; swap; · iexact H10
    ipureintro
    refine (write_rows arg10.view f10 r _).trans ?_
    simp only [read_rows, h2, h3, h4, h5, h6, h7, h8, h10]; rfl
  · iexists _; isplitr; swap; · iexact H11
    ipureintro
    refine (write_rows arg11.view f11 r _).trans ?_
    simp only [read_rows, h2, h3, h4, h5, h6, h7, h8, h11]; rfl

/-- Some residues' triple, -/
theorem residues_run (X : Ins F) (E : Set ℕ) (K : PUnit → sProp 𝕄) : ∀ (l : List (Fin 16)) (Y : Outs F),
    iprop(held c arg2 arg3 arg4 arg5 arg6 arg7 arg8 arg9 arg10 arg11 X Y
        ∗ (held c arg2 arg3 arg4 arg5 arg6 arg7 arg8 arg9 arg10 arg11 X (l.foldl (step X) Y) -∗ K ⟨⟩))
      ⊢ wp frame (wpE (defs₀ (F := F)) Variants.none c none) E (residues i arg2 arg3 arg4 arg5 arg6 arg7 arg8 arg9 arg10 arg11 l) K
  | [], Y => by
    unfold residues
    rw [List.foldl_nil]
    iintro ⟨H, Hk⟩
    sl_step
    iapply Hk
    iexact H
  | r :: rs, Y => by
    unfold residues
    rw [wp_bind, List.foldl_cons]
    iintro ⟨H, Hk⟩
    iapply (residue_run c i arg2 arg3 arg4 arg5 arg6 arg7 arg8 arg9 arg10 arg11 X Y r E _)
    isplitl [H]; · iexact H
    iintro H
    iapply (residues_run X E K rs (step X Y r))
    isplitl [H]; · iexact H
    iexact Hk

set_option maxHeartbeats 1000000 in
/-- and the head's. -/
theorem zeros_run (X : Ins F) (Y : Outs F) (E : Set ℕ) (K : PUnit → sProp 𝕄) :
    iprop(held c arg2 arg3 arg4 arg5 arg6 arg7 arg8 arg9 arg10 arg11 X Y
        ∗ (held c arg2 arg3 arg4 arg5 arg6 arg7 arg8 arg9 arg10 arg11 X ⟨Y.dq, k0_pay3, k0_pay4⟩ -∗ K ⟨⟩))
      ⊢ wp frame (wpE (defs₀ (F := F)) Variants.none c none) E (zeros arg10 arg11) K := by
  unfold held owns zeros
  iintro ⟨⟨H2, H3, H4, H5, H6, H7, H8, H9, ⟨%f10, %h10, H10⟩, ⟨%f11, %h11, H11⟩⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro
    exact View.read_writes_full _ _ _ _ _
  · iexists _; isplitr; swap; · iexact H11
    ipureintro
    exact View.read_writes_full _ _ _ _ _

/-! ## All of it in closed form -/

/-- The order in which the body takes the residues. -/
abbrev order : List (Fin 16) := [0, 1, 2, 3, 4, 5, 6, 7, 8, 9, 10, 11, 12, 13, 14, 15]

/-- What the body leaves: at each place the value of the place's residue. -/
def out (X : Ins F) : Outs F where
  dq y := dq (get (res y) X.q) (get (res y) X.k) (get (res y) X.v) (get (res y) X.o) (get (res y) X.lse) (get (res y) X.do_) (get (res y) X.dl) (pos y)
  dk y := dk (get (res y) X.q) (get (res y) X.k) (get (res y) X.v) (get (res y) X.o) (get (res y) X.lse) (get (res y) X.do_) (get (res y) X.dl)
    (get (res y) k0_pay3) (pos y)
  dv y := dv (get (res y) X.q) (get (res y) X.k) (get (res y) X.v) (get (res y) X.o) (get (res y) X.lse) (get (res y) X.do_) (get (res y) X.dl)
    (get (res y) k0_pay4) (pos y)

theorem foldl_dq (X : Ins F) (y : S2048x128.Idx) : ∀ (l : List (Fin 16)) (Y : Outs F),
    (l.foldl (step X) Y).dq y = if res y ∈ l then (out X).dq y else Y.dq y
  | [], Y => by simp
  | r :: rs, Y => by
    rw [List.foldl_cons, foldl_dq X y rs]
    by_cases h : res y ∈ rs
    · simp [h]
    · by_cases h' : res y = r
      · subst h'; simp [h, step, put, out]
      · simp [h, h', step, put]

theorem foldl_dk (X : Ins F) (y : S2048x128.Idx) : ∀ (l : List (Fin 16)) (Y : Outs F), l.Nodup →
    (l.foldl (step X) Y).dk y = if res y ∈ l then
      dk (get (res y) X.q) (get (res y) X.k) (get (res y) X.v) (get (res y) X.o) (get (res y) X.lse) (get (res y) X.do_) (get (res y) X.dl)
        (get (res y) Y.dk) (pos y) else Y.dk y
  | [], Y, _ => by simp
  | r :: rs, Y, hl => by
    obtain ⟨hr, hrs⟩ := List.nodup_cons.mp hl
    rw [List.foldl_cons, foldl_dk X y rs _ hrs]
    by_cases h : res y ∈ rs
    · have hne : res y ≠ r := fun e => hr (e ▸ h)
      simp [h, step, get_put hne]
    · by_cases h' : res y = r
      · subst h'; simp [h, step, put]
      · simp [h, h', step, put]

theorem foldl_dv (X : Ins F) (y : S2048x128.Idx) : ∀ (l : List (Fin 16)) (Y : Outs F), l.Nodup →
    (l.foldl (step X) Y).dv y = if res y ∈ l then
      dv (get (res y) X.q) (get (res y) X.k) (get (res y) X.v) (get (res y) X.o) (get (res y) X.lse) (get (res y) X.do_) (get (res y) X.dl)
        (get (res y) Y.dv) (pos y) else Y.dv y
  | [], Y, _ => by simp
  | r :: rs, Y, hl => by
    obtain ⟨hr, hrs⟩ := List.nodup_cons.mp hl
    rw [List.foldl_cons, foldl_dv X y rs _ hrs]
    by_cases h : res y ∈ rs
    · have hne : res y ≠ r := fun e => hr (e ▸ h)
      simp [h, step, get_put hne]
    · by_cases h' : res y = r
      · subst h'; simp [h, step, put]
      · simp [h, h', step, put]

theorem mem_order : ∀ r : Fin 16, r ∈ order := by decide

theorem foldl_eq (X : Ins F) (a : Block F) : order.foldl (step X) ⟨a, k0_pay3, k0_pay4⟩ = out X := by
  have e1 : (order.foldl (step X) ⟨a, k0_pay3, k0_pay4⟩).dq = (out X).dq := funext fun y => by
    rw [foldl_dq, if_pos (mem_order _)]
  have e2 : (order.foldl (step X) ⟨a, k0_pay3, k0_pay4⟩).dk = (out X).dk := funext fun y => by
    rw [foldl_dk X y order _ (by decide), if_pos (mem_order _)]; rfl
  have e3 : (order.foldl (step X) ⟨a, k0_pay3, k0_pay4⟩).dv = (out X).dv := funext fun y => by
    rw [foldl_dv X y order _ (by decide), if_pos (mem_order _)]; rfl
  generalize order.foldl (step X) ⟨a, k0_pay3, k0_pay4⟩ = Z at e1 e2 e3
  cases Z
  simp only at e1 e2 e3
  subst e1 e2 e3
  rfl

/-- The body's triple. -/
theorem body_run (X : Ins F) (Y : Outs F) (E : Set ℕ) (K : PUnit → sProp 𝕄) :
    iprop(held c arg2 arg3 arg4 arg5 arg6 arg7 arg8 arg9 arg10 arg11 X Y
        ∗ (held c arg2 arg3 arg4 arg5 arg6 arg7 arg8 arg9 arg10 arg11 X (out X) -∗ K ⟨⟩))
      ⊢ wp frame (wpE (defs₀ (F := F)) Variants.none c none) E (body i arg2 arg3 arg4 arg5 arg6 arg7 arg8 arg9 arg10 arg11) K := by
  unfold body
  rw [wp_bind, ← foldl_eq X Y.dq]
  iintro ⟨H, Hk⟩
  iapply (zeros_run c arg2 arg3 arg4 arg5 arg6 arg7 arg8 arg9 arg10 arg11 X Y E _)
  isplitl [H]; · iexact H
  iintro H
  iapply (residues_run c i arg2 arg3 arg4 arg5 arg6 arg7 arg8 arg9 arg10 arg11 X E K order _)
  isplitl [H]; · iexact H
  iexact Hk

end Cert.Kernel2Ideal.AttnBody

end
-- ==== Proof.AttnValue.lean ====
/- One residue of the attention gradient over the reals: what the payloads compute of real rows. -/
module

public import proofs.«01_k».proof.Proof.AttnRun
public import Idealize.ShloMosaic.Lib.Pipeline.ValueKit
public import Idealize.ShloMosaic.Lib.Claim

@[expose] public section

set_option maxRecDepth 16384

noncomputable section

namespace Cert.Kernel2Ideal.AttnValue

open Idealize.ShloMosaic Idealize.ShloMosaic.TcCoe
open Cert.Kernel2Ideal.Gen Cert.Kernel2Ideal.AttnBody

/-- Real rows as extended reals, -/
def up (X : Fin 128 → Fin 128 → ℝ) : Rows Ideal := fun y => ((X (y 0) (y 1) : ℝ) : EReal)

/-- and the rows of both heads, one above the other. -/
def up2 (X : Fin 2 → Fin 128 → Fin 128 → ℝ) : Vec Ideal S256x128 .f32 := fun y =>
  ((X ⟨(y 0).val / 128, by have : (y 0).val < 256 := (y 0).isLt; omega⟩ ⟨(y 0).val % 128, Nat.mod_lt _ (by decide)⟩ (y 1) : ℝ) : EReal)

/-- A row with the lanes of one head kept. -/
def keep (X : Fin 128 → Fin 128 → ℝ) (a : Fin 2) (i c : Fin 128) : ℝ := if c.val / 64 = a.val then X i c else 0

variable (Q K V O L D G : Fin 128 → Fin 128 → ℝ)

/-! ## The lanes' words -/

theorem sitofp_word (w : BitVec 32) (p : Prop) [Decidable p] (h : w = if p then 1#32 else 0#32) :
    FloatOps.sitofp (F := Ideal) FTy.f32 w = ((if p then 1 else 0 : ℝ) : EReal) := by
  subst h
  split
  · show (((1#32).toInt : ℝ) : EReal) = _
    norm_num
  · show (((0#32).toInt : ℝ) : EReal) = _
    norm_num

theorem low (c : Fin 128) : FloatOps.sitofp (F := Ideal) FTy.f32 (BitVec.setWidth 32 (IntOp.cmpi CmpIPredicate.slt (BitVec.ofNat 32 c.val) 64#32))
    = ((if c.val / 64 = 0 then 1 else 0 : ℝ) : EReal) :=
  sitofp_word _ _ ((by decide +kernel : ∀ c : Fin 128, BitVec.setWidth 32 (IntOp.cmpi CmpIPredicate.slt (BitVec.ofNat 32 c.val) 64#32)
    = if c.val / 64 = 0 then 1#32 else 0#32) c)

theorem high (c : Fin 128) : FloatOps.sitofp (F := Ideal) FTy.f32 (BitVec.setWidth 32 (IntOp.cmpi CmpIPredicate.sge (BitVec.ofNat 32 c.val) 64#32))
    = ((if c.val / 64 = 1 then 1 else 0 : ℝ) : EReal) :=
  sitofp_word _ _ ((by decide +kernel : ∀ c : Fin 128, BitVec.setWidth 32 (IntOp.cmpi CmpIPredicate.sge (BitVec.ofNat 32 c.val) 64#32)
    = if c.val / 64 = 1 then 1#32 else 0#32) c)

theorem lane0 (c : Fin 128) : FloatOps.sitofp (F := Ideal) FTy.f32 (BitVec.setWidth 32 (IntOp.cmpi CmpIPredicate.eq (BitVec.ofNat 32 c.val) 0#32))
    = ((if c = 0 then 1 else 0 : ℝ) : EReal) :=
  sitofp_word _ _ ((by decide +kernel : ∀ c : Fin 128, BitVec.setWidth 32 (IntOp.cmpi CmpIPredicate.eq (BitVec.ofNat 32 c.val) 0#32)
    = if c = 0 then 1#32 else 0#32) c)

theorem lane64 (c : Fin 128) : FloatOps.sitofp (F := Ideal) FTy.f32 (BitVec.setWidth 32 (IntOp.cmpi CmpIPredicate.eq (BitVec.ofNat 32 c.val) 64#32))
    = ((if c = 64 then 1 else 0 : ℝ) : EReal) :=
  sitofp_word _ _ ((by decide +kernel : ∀ c : Fin 128, BitVec.setWidth 32 (IntOp.cmpi CmpIPredicate.eq (BitVec.ofNat 32 c.val) 64#32)
    = if c = 64 then 1#32 else 0#32) c)

theorem sum_up {ι : Type} (s : Finset ι) (f : ι → ℝ) : ∑ i ∈ s, ((f i : ℝ) : EReal) = ((∑ i ∈ s, f i : ℝ) : EReal) := by
  classical
  induction s using Finset.induction_on with
  | empty => rfl
  | insert a s h ih => rw [Finset.sum_insert h, Finset.sum_insert h, ih, EReal.coe_add]

/-! ## The payloads -/

/-- The rows of both heads at an index, the head and the row told by the place. -/
theorem up2_lo (X : Fin 2 → Fin 128 → Fin 128 → ℝ) {n : Fin 256} (h : n.val < 128) (c : Fin 128) :
    up2 X (ix2 n c) = ((X 0 ⟨n.val, h⟩ c : ℝ) : EReal) := by
  have e0 : (⟨n.val / 128, by omega⟩ : Fin 2) = 0 := Fin.ext (by show n.val / 128 = 0; omega)
  have e1 : (⟨n.val % 128, Nat.mod_lt _ (by decide)⟩ : Fin 128) = ⟨n.val, h⟩ := Fin.ext (by show n.val % 128 = n.val; omega)
  show ((X ⟨n.val / 128, _⟩ ⟨n.val % 128, _⟩ c : ℝ) : EReal) = _
  rw [e0, e1]

theorem up2_hi (X : Fin 2 → Fin 128 → Fin 128 → ℝ) {n : Fin 256} (h : ¬ n.val < 128) (c : Fin 128) :
    up2 X (ix2 n c) = ((X 1 ⟨n.val - 128, by omega⟩ c : ℝ) : EReal) := by
  have e0 : (⟨n.val / 128, by omega⟩ : Fin 2) = 1 := Fin.ext (by show n.val / 128 = 1; omega)
  have e1 : (⟨n.val % 128, Nat.mod_lt _ (by decide)⟩ : Fin 128) = ⟨n.val - 128, by omega⟩ := Fin.ext (by show n.val % 128 = n.val - 128; omega)
  show ((X ⟨n.val / 128, _⟩ ⟨n.val % 128, _⟩ c : ℝ) : EReal) = _
  rw [e0, e1]

theorem pay10 : k0_pay10 (up Q) = up2 (keep Q) := by
  funext y
  idx_vars y
  pointwise [k0_pay10, k0_pay7, k0_pay8, up]
  simp only [low, high, ← EReal.coe_mul]
  split
  · rename_i h; rw [up2_lo _ h]; simp [keep]
  · rename_i h; rw [up2_hi _ h]; simp [keep]

theorem pay12 : k0_pay12 (up Q) k0_pay8 (k0_pay11 (up Q)) = up2 (keep Q) := by
  funext y
  idx_vars y
  pointwise [k0_pay12, k0_pay11, k0_pay7, k0_pay8, up]
  simp only [low, high, ← EReal.coe_mul]
  split
  · rename_i h; rw [up2_lo _ h]; simp [keep]
  · rename_i h; rw [up2_hi _ h]; simp [keep]

theorem pay9 (n : Fin 256) (c : Fin 128) : k0_pay9 (ix2 n c) = if c.val ≤ n.val % 128 then 1#1 else 0#1 := by
  pointwise [k0_pay9]
  exact (by decide +kernel : ∀ (n : Fin 256) (c : Fin 128), IntOp.cmpi CmpIPredicate.sge (IntOp.andi (BitVec.ofNat 32 n.val) 127#32) (BitVec.ofNat 32 c.val)
    = if c.val ≤ n.val % 128 then 1#1 else 0#1) n c

theorem masked : (Named.named κ "mask" 0xF149F2CA#32 : Ideal .f32) = ⊥ := rfl

/-- A head's score. -/
def score (a : Fin 2) (i j : Fin 128) : ℝ := ∑ c, keep Q a i c * K j c

/-- The first lane of a head. -/
def lane (a : Fin 2) : Fin 128 := ⟨64 * a.val, by omega⟩

/-- A head's weights: the scores under the causal mask, against the saved log-sum. -/
def weight (a : Fin 2) (i j : Fin 128) : ℝ := if j.val ≤ i.val then Real.exp (score Q K a i j - L i (lane a)) else 0

theorem select_exp (p : Prop) [Decidable p] (s l : ℝ) :
    Ideal.exp (Scalar.select (if p then 1#1 else 0#1) (s : EReal) ⊥ - (l : EReal)) = ((if p then Real.exp (s - l) else 0 : ℝ) : EReal) := by
  by_cases h : p
  · simp only [h, if_true]
    show Ideal.exp ((s : EReal) - (l : EReal)) = _
    rw [← EReal.coe_sub]; rfl
  · simp only [h, if_false]
    show Ideal.exp ((⊥ : EReal) - (l : EReal)) = _
    rw [show (⊥ : EReal) - (l : EReal) = ⊥ from rfl]
    rfl

theorem pay13 : k0_pay13 (up K) (k0_pay6 (up L)) lanes k0_pay9 (up2 (keep Q)) = up2 (weight Q K L) := by
  funext y
  idx_vars y
  pointwise [k0_pay13, k0_pay6, lanes, pay9, up]
  simp only [lane0, lane64, masked, ← EReal.coe_mul, sum_up]
  by_cases h : y0.val < 128
  · rw [dif_pos (show _ from h)]
    simp only [up2_lo _ h, ← EReal.coe_mul, sum_up]
    rw [select_exp]
    simp [weight, score, lane, Nat.mod_eq_of_lt h]
  · rw [dif_neg (show ¬ _ from h)]
    simp only [up2_hi _ h, ← EReal.coe_mul, sum_up]
    rw [select_exp]
    simp [weight, score, lane, show y0.val % 128 = y0.val - 128 by omega]

/-- The scores' gradient. -/
def grad (a : Fin 2) (i j : Fin 128) : ℝ :=
  weight Q K L a i j * ((∑ c, keep D a i c * V j c) + ∑ c, (keep G a i c - keep D a i c * O i c))

theorem ds_eq : ds (up Q) (up K) (up V) (up O) (up L) (up D) (up G) = up2 (grad Q K V O L D G) := by
  unfold ds k0_pay14
  rw [pay10, pay12, pay13]
  funext y
  idx_vars y
  pointwise [k0_pay5, k0_pay7, k0_pay8, up]
  simp only [low, high, ← EReal.coe_mul]
  by_cases h : y0.val < 128
  · simp only [h, ↓reduceDIte, up2_lo _ h, ← EReal.coe_mul, ← EReal.coe_sub, sum_up, ← EReal.coe_add]
    simp [grad, keep]
  · simp only [h, ↓reduceDIte, up2_hi _ h, ← EReal.coe_mul, ← EReal.coe_sub, sum_up, ← EReal.coe_add]
    simp [grad, keep]

/-- A lane's head. -/
def head (c : Fin 128) : Fin 2 := ⟨c.val / 64, by omega⟩

theorem head_cases (c : Fin 128) : (c.val / 64 = 0 ∧ head c = 0) ∨ (c.val / 64 = 1 ∧ head c = 1) := by
  have : c.val / 64 = 0 ∨ c.val / 64 = 1 := by omega
  rcases this with h | h
  · exact .inl ⟨h, Fin.ext h⟩
  · exact .inr ⟨h, Fin.ext h⟩

theorem pay15 : k0_pay15 (up K) (up V) (k0_pay5 (up O)) (k0_pay6 (up L)) (up D) (up G) k0_pay7 k0_pay8 lanes k0_pay9 (k0_pay10 (up Q)) (k0_pay11 (up D))
    = up2 (fun a i c => ∑ j, grad Q K V O L D G a i j * K j c) := by
  unfold k0_pay15
  have e := ds_eq Q K V O L D G
  unfold ds at e
  rw [e]
  funext y
  idx_vars y
  pointwise [up]
  by_cases h : y0.val < 128
  · simp only [up2_lo _ h, ← EReal.coe_mul, sum_up]
  · simp only [up2_hi _ h, ← EReal.coe_mul, sum_up]

/-- A residue's rows of the gradient of the queries, -/
theorem dq_eq : dq (up Q) (up K) (up V) (up O) (up L) (up D) (up G)
    = up (fun i c => ∑ j, grad Q K V O L D G (head c) i j * K j c) := by
  unfold dq k0_pay16 k0_pay17
  rw [pay15]
  funext y
  idx_vars y
  pointwise [k0_pay18, k0_pay7, k0_pay8]
  simp only [low, high]
  rw [up2_lo _ (by exact y0.isLt), up2_hi _ (by simp)]
  simp only [up, ← EReal.coe_mul, ← EReal.coe_add]
  refine congrArg _ ?_
  show (if y1.val / 64 = 0 then (1 : ℝ) else 0) * (∑ x, grad Q K V O L D G 0 y0 x * K x y1)
      + (if y1.val / 64 = 1 then 1 else 0) * (∑ x, grad Q K V O L D G 1 ⟨128 + y0.val - 128, _⟩ x * K x y1)
    = ∑ j, grad Q K V O L D G (head y1) y0 j * K j y1
  rw [show (⟨128 + y0.val - 128, by omega⟩ : Fin 128) = y0 from Fin.ext (by simp)]
  rcases head_cases y1 with ⟨h, e⟩ | ⟨h, e⟩ <;> simp [h, e]

/-- A product over the rows of both heads is the two heads' products added. -/
theorem sum_both (X Y : Fin 2 → Fin 128 → Fin 128 → ℝ) (j c : Fin 128) :
    ∑ n : Fin 256, up2 X (ix2 n j) * up2 Y (ix2 n c) = ((∑ i, X 0 i j * Y 0 i c + ∑ i, X 1 i j * Y 1 i c : ℝ) : EReal) := by
  rw [Fin.sum_univ_two_halves 128 128 rfl, EReal.coe_add, ← sum_up, ← sum_up]
  refine congrArg₂ _ (Finset.sum_congr rfl fun i _ => ?_) (Finset.sum_congr rfl fun i _ => ?_)
  · rw [up2_lo _ (by exact i.isLt), up2_lo _ (by exact i.isLt), ← EReal.coe_mul]
  · rw [up2_hi _ (by simp), up2_hi _ (by simp), ← EReal.coe_mul]
    rw [show (⟨128 + i.val - 128, by omega⟩ : Fin 128) = i from Fin.ext (by simp)]

theorem zero3 (r : Fin 16) : Cert.Kernel2Ideal.AttnBody.get r (k0_pay3 (F := Ideal)) = up (fun _ _ => 0) := by
  funext y
  unfold Cert.Kernel2Ideal.AttnBody.get
  pointwise [k0_pay3, up]
  rfl

theorem zero4 (r : Fin 16) : Cert.Kernel2Ideal.AttnBody.get r (k0_pay4 (F := Ideal)) = up (fun _ _ => 0) := by
  funext y
  unfold Cert.Kernel2Ideal.AttnBody.get
  pointwise [k0_pay4, up]
  rfl

/-- its rows of the gradient of the keys, -/
theorem dk_eq : dk (up Q) (up K) (up V) (up O) (up L) (up D) (up G) (up fun _ _ => 0)
    = up (fun j c => ∑ i, grad Q K V O L D G (head c) i j * Q i c) := by
  unfold dk
  rw [pay10, ds_eq]
  funext y
  idx_vars y
  pointwise [k0_pay19, up]
  rw [sum_both, ← EReal.coe_add]
  refine congrArg _ ?_
  rcases head_cases y1 with ⟨h, e⟩ | ⟨h, e⟩ <;> simp [keep, h, e]

/-- and its rows of the gradient of the values. -/
theorem dv_eq : dv (up Q) (up K) (up V) (up O) (up L) (up D) (up G) (up fun _ _ => 0)
    = up (fun j c => ∑ i, weight Q K L (head c) i j * D i c) := by
  unfold dv
  rw [pay10, pay12, pay13]
  funext y
  idx_vars y
  pointwise [k0_pay20, up]
  rw [sum_both, ← EReal.coe_add]
  refine congrArg _ ?_
  rcases head_cases y1 with ⟨h, e⟩ | ⟨h, e⟩ <;> simp [keep, h, e]

end Cert.Kernel2Ideal.AttnValue

end
-- ==== Proof.AttnRefGrad.lean ====
/- The reference's gradient of the attention branch over the reals: the operations of its backward pass. -/
module

public import proofs.«01_k».proof.Proof.AttnRef
public import Idealize.ShloMosaic.Lib.Pipeline.ValueKit
public import Idealize.ShloMosaic.Lib.Claim

@[expose] public section

set_option maxRecDepth 16384

noncomputable section

namespace Cert.Reference2Ideal.AttnRef

open Idealize.ShloMosaic Idealize.ShloMosaic.TcCoe
open Cert.Reference2Ideal Cert.Reference2Ideal.Gen Cert.Reference2Ideal.Read

variable (Q K V D G : Arr)

/-- The sum of a row's log-sum gradient. -/
def gsum (r h : Fin 16) (i : Fin 128) : ℝ := ∑ d, part G r h i d

theorem v42 (r h : Fin 16) (i : Fin 128) : val_main_v42 (F := Ideal) (arr G) (ix3 i r h) = ((gsum G r h i : ℝ) : EReal) := by
  pointwise [val_main_v42, val_main_v41, val_main_cst_4, arr]
  rw [sum_up]
  rfl

theorem v46 (r h : Fin 16) (i : Fin 128) : val_main_v46 (F := Ideal) (arr G) (ix3 r h i) = ((gsum G r h i : ℝ) : EReal) := by
  pointwise [val_main_v46, val_main_v45, val_main_v43, val_main_cst_5, v42]
  exact Fin.sum_univ_one _

theorem v35 (r h : Fin 16) (i : Fin 128) (z : Fin 1) : val_main_v35 (F := Ideal) (arr Q) (arr K) (ix4 i r h z)
    = ((1 / (den Q K r h i * den Q K r h i) : ℝ) : EReal) := by
  pointwise [val_main_v35, val_main_v34, val_main_v33, val_main_cst_3, v30]
  rw [← EReal.coe_mul]
  exact div_up (mul_pos (den_pos Q K r h i) (den_pos Q K r h i)).ne' _

/-- The part of the gradient a row shares. -/
def share (r h : Fin 16) (i : Fin 128) : ℝ := -∑ d, part D r h i d * (1 / (den Q K r h i * den Q K r h i)) * num Q K V r h i d

theorem v56 (r h : Fin 16) (i : Fin 128) : val_main_v56 (F := Ideal) (arr Q) (arr K) (arr V) (arr D) (ix3 r h i) = ((share Q K V D r h i : ℝ) : EReal) := by
  pointwise [val_main_v56, val_main_v55, val_main_v52, val_main_v51, val_main_v50, val_main_v49, val_main_v48, val_main_v47, val_main_v44, val_main_cst_6, val_main_cst_7, v35, v28, arr]
  simp only [← EReal.coe_mul, sum_up, ← EReal.coe_neg]
  exact congrArg _ (Fin.sum_univ_one _)

theorem v57 (r h : Fin 16) (i : Fin 128) (d : Fin 64) : val_main_v57 (F := Ideal) (arr Q) (arr K) (arr D) (ix4 r h d i)
    = ((part D r h i d / den Q K r h i : ℝ) : EReal) := by
  pointwise [val_main_v57, val_main_v54, val_main_v53, val_main_v44, v30, arr]
  exact div_up (den_pos Q K r h i).ne' _

theorem v58 (r h : Fin 16) (i j : Fin 128) : val_main_v58 (F := Ideal) (arr Q) (arr K) (arr V) (arr D) (ix4 r h i j)
    = ((∑ d, part D r h i d / den Q K r h i * part V r h j d : ℝ) : EReal) := by
  pointwise [val_main_v58, val_main_v2, v57, arr]
  simp only [← EReal.coe_mul, sum_up]
  rfl

theorem v62 (r h : Fin 16) (i : Fin 128) : val_main_v62 (F := Ideal) (arr Q) (arr K) (arr V) (arr D) (arr G) (ix3 r h i)
    = ((share Q K V D r h i + gsum G r h i / den Q K r h i : ℝ) : EReal) := by
  pointwise [val_main_v62, val_main_v61, v56, v46, v23]
  rw [EReal.coe_add]
  exact congrArg _ (div_up (den_pos Q K r h i).ne' _)

/-- The gradient with respect to a row's exponentials, times them. -/
def back (r h : Fin 16) (i j : Fin 128) : ℝ :=
  ((∑ d, part D r h i d / den Q K r h i * part V r h j d) + (share Q K V D r h i + gsum G r h i / den Q K r h i)) * e Q K r h i j

theorem v66 (r h : Fin 16) (i j : Fin 128) : val_main_v66 (F := Ideal) (arr Q) (arr K) (arr V) (arr D) (arr G) (ix4 r h i j)
    = ((back Q K V D G r h i j : ℝ) : EReal) := by
  pointwise [val_main_v66, val_main_v65, val_main_v64, v62, v58, v22]
  simp only [← EReal.coe_mul, ← EReal.coe_add]
  rfl

/-- Over a row it sums to the log-sum's gradient, so that nothing flows back through the maximum. -/
theorem back_sum (r h : Fin 16) (i : Fin 128) : ∑ j, back Q K V D G r h i j = gsum G r h i := by
  have hd := (den_pos Q K r h i).ne'
  have e1 : ∑ j, (∑ d, part D r h i d / den Q K r h i * part V r h j d) * e Q K r h i j
      = ∑ d, part D r h i d / den Q K r h i * num Q K V r h i d := by
    simp only [Finset.sum_mul, num, Finset.mul_sum]
    rw [Finset.sum_comm]
    simp only [mul_assoc]
  simp only [back, add_mul, Finset.sum_add_distrib]
  rw [e1, ← Finset.mul_sum, ← Finset.mul_sum]
  change _ + (_ * den Q K r h i + _ * den Q K r h i) = _
  rw [div_mul_cancel₀ _ hd, share, neg_mul, Finset.sum_mul, ← add_assoc, ← sub_eq_add_neg, ← Finset.sum_sub_distrib, Finset.sum_eq_zero, zero_add]
  intro d _
  field_simp
  ring

theorem v71 (r h : Fin 16) (i : Fin 128) : val_main_v71 (F := Ideal) (arr Q) (arr K) (arr V) (arr D) (arr G) (ix3 r h i) = ((0 : ℝ) : EReal) := by
  pointwise [val_main_v71, val_main_v70, val_main_v69, val_main_v68, val_main_v67, val_main_v63, val_main_cst_8, val_main_cst_9, v46, v66]
  simp only [← EReal.coe_neg, sum_up, ← EReal.coe_add]
  rw [Finset.sum_neg_distrib, back_sum, add_neg_cancel]
  exact congrArg _ (Fin.sum_univ_one _)

theorem v72 (r h : Fin 16) (i : Fin 128) : val_main_v72 (F := Ideal) (arr Q) (arr K) (arr V) (arr D) (arr G) (ix3 r h i) = 0 := by
  obtain ⟨n, hn, e⟩ := v18 Q K r h i
  rw [val_main_v72_apply, v71, e]
  exact (div_up hn 0).trans (by rw [zero_div, EReal.coe_zero])

theorem v75 (r h : Fin 16) (i j : Fin 128) : val_main_v75 (F := Ideal) (arr Q) (arr K) (arr V) (arr D) (arr G) (ix4 r h i j)
    = ((back Q K V D G r h i j : ℝ) : EReal) := by
  pointwise [val_main_v75, val_main_v74, val_main_v73, v66, v72]
  rw [zero_mul, add_zero]

/-- Of one residue and head. -/
def grad (r h : Fin 16) (i j : Fin 128) : ℝ := if j.val ≤ i.val then back Q K V D G r h i j else 0

theorem v76 (r h : Fin 16) (i j : Fin 128) : val_main_v76 (F := Ideal) (arr Q) (arr K) (arr V) (arr D) (arr G) (ix4 r h i j)
    = ((grad Q K V D G r h i j : ℝ) : EReal) := by
  pointwise [val_main_v76, val_main_v12_1, val_main_v11, val_main_v10, val_main_v9, val_main_v8, val_main_v7, val_main_v6, val_main_v5, val_main_v4, val_main_call1_v0, val_main_call1_cst, v75]
  rw [causal, select_if]
  unfold grad
  split <;> rfl

theorem v80 (r h : Fin 16) (i : Fin 128) (d : Fin 64) : val_main_v80 (F := Ideal) (arr Q) (arr K) (arr V) (arr D) (arr G) (ix4 i r h d)
    = ((∑ j, grad Q K V D G r h i j * part K r h j d : ℝ) : EReal) := by
  pointwise [val_main_v80, val_main_v79, val_main_v1, v76, arr]
  simp only [← EReal.coe_mul, sum_up]
  rfl

theorem v78 (r h : Fin 16) (j : Fin 128) (d : Fin 64) : val_main_v78 (F := Ideal) (arr Q) (arr K) (arr V) (arr D) (arr G) (ix4 j r h d)
    = ((∑ i, grad Q K V D G r h i j * part Q r h i d : ℝ) : EReal) := by
  pointwise [val_main_v78, val_main_v77, val_main_v0, v76, arr]
  simp only [← EReal.coe_mul, sum_up]
  rfl

theorem v60 (r h : Fin 16) (j : Fin 128) (d : Fin 64) : val_main_v60 (F := Ideal) (arr Q) (arr K) (arr D) (ix4 j r h d)
    = ((∑ i, part D r h i d / den Q K r h i * e Q K r h i j : ℝ) : EReal) := by
  pointwise [val_main_v60, val_main_v59, v57, v22]
  simp only [← EReal.coe_mul, sum_up]

/-- The three results as arrays. -/
def dqArr : Arr := fun n c => ∑ j, grad Q K V D G ⟨n.val % 16, Nat.mod_lt _ (by decide)⟩ ⟨c.val / 64, by omega⟩ ⟨n.val / 16, by omega⟩ j
  * part K ⟨n.val % 16, Nat.mod_lt _ (by decide)⟩ ⟨c.val / 64, by omega⟩ j ⟨c.val % 64, Nat.mod_lt _ (by decide)⟩

def dkArr : Arr := fun n c => ∑ i, grad Q K V D G ⟨n.val % 16, Nat.mod_lt _ (by decide)⟩ ⟨c.val / 64, by omega⟩ i ⟨n.val / 16, by omega⟩
  * part Q ⟨n.val % 16, Nat.mod_lt _ (by decide)⟩ ⟨c.val / 64, by omega⟩ i ⟨c.val % 64, Nat.mod_lt _ (by decide)⟩

def dvArr : Arr := fun n c => ∑ i, part D ⟨n.val % 16, Nat.mod_lt _ (by decide)⟩ ⟨c.val / 64, by omega⟩ i ⟨c.val % 64, Nat.mod_lt _ (by decide)⟩
  / den Q K ⟨n.val % 16, Nat.mod_lt _ (by decide)⟩ ⟨c.val / 64, by omega⟩ i
  * e Q K ⟨n.val % 16, Nat.mod_lt _ (by decide)⟩ ⟨c.val / 64, by omega⟩ i ⟨n.val / 16, by omega⟩

theorem v83 : val_main_v83 (F := Ideal) (arr Q) (arr K) (arr V) (arr D) (arr G) = arr (dqArr Q K V D G) := by
  funext y
  idx_vars y
  pointwise [val_main_v83, v80]
  rfl

theorem v82 : val_main_v82 (F := Ideal) (arr Q) (arr K) (arr V) (arr D) (arr G) = arr (dkArr Q K V D G) := by
  funext y
  idx_vars y
  pointwise [val_main_v82, v78]
  rfl

theorem v81 : val_main_v81 (F := Ideal) (arr Q) (arr K) (arr D) = arr (dvArr Q K D) := by
  funext y
  idx_vars y
  pointwise [val_main_v81, v60]
  rfl

end Cert.Reference2Ideal.AttnRef
-- ==== Proof.AttnJoin.lean ====
/- The kernel's residues and the reference's parts of the attention branch are the same numbers. -/
module

public import proofs.«01_k».proof.Proof.AttnValue
public import proofs.«01_k».proof.Proof.AttnRefGrad

@[expose] public section

set_option maxRecDepth 16384

noncomputable section

namespace Cert.AttnJoin

open Idealize.ShloMosaic
open Cert.Reference2Ideal.AttnRef (Arr part lse oArr lArr dqArr dkArr dvArr num den top e share gsum back den_pos)
open Cert.Kernel2Ideal.AttnValue (keep lane head head_cases)

/-- Residue `r` of the two heads of point `t`. -/
def rows (X : Arr) (t : Fin 8) (r : Fin 16) (i c : Fin 128) : ℝ := X ⟨r.val + 16 * i.val, by omega⟩ ⟨128 * t.val + c.val, by omega⟩

/-- Head `a` of point `t`. -/
def hd (t : Fin 8) (a : Fin 2) : Fin 16 := ⟨2 * t.val + a.val, by omega⟩

/-- Lane `d` of head `a`. -/
def at_ (a : Fin 2) (d : Fin 64) : Fin 128 := ⟨64 * a.val + d.val, by omega⟩

variable (Q K V D G X : Arr) (t : Fin 8) (r : Fin 16) (a : Fin 2)

theorem rows_at (i : Fin 128) (d : Fin 64) : rows X t r i (at_ a d) = part X r (hd t a) i d := by
  exact congrArg₂ X (Fin.ext (by show r.val + 16 * i.val = i.val * 16 + r.val; omega))
    (Fin.ext (by show 128 * t.val + (64 * a.val + d.val) = (2 * t.val + a.val) * 64 + d.val; omega))

/-- A sum over the lanes that keeps a head is over the head's lanes. -/
theorem sum_head (f : Fin 128 → ℝ) : (∑ c, if c.val / 64 = a.val then f c else 0) = ∑ d, f (at_ a d) := by
  rw [Fin.sum_univ_two_halves 64 64 rfl]
  have h0 : ∀ d : Fin 64, d.val / 64 = 0 := fun d => by omega
  have h1 : ∀ d : Fin 64, (64 + d.val) / 64 = 1 := fun d => by omega
  rcases (show a = 0 ∨ a = 1 by omega) with h | h <;> subst h
  · simp [h0, h1, at_]
  · simp [h0, h1, at_]

theorem keep_mul (A : Fin 128 → Fin 128 → ℝ) (i c : Fin 128) (y : ℝ) : keep A a i c * y = if c.val / 64 = a.val then A i c * y else 0 := by
  unfold keep
  split
  · rfl
  · rw [zero_mul]

theorem score_eq (i j : Fin 128) : Cert.Kernel2Ideal.AttnValue.score (rows Q t r) (rows K t r) a i j = Cert.Reference2Ideal.AttnRef.score Q K r (hd t a) i j := by
  unfold Cert.Kernel2Ideal.AttnValue.score Cert.Reference2Ideal.AttnRef.score
  simp only [keep_mul]
  rw [sum_head a fun c => rows Q t r i c * rows K t r j c]
  simp only [rows_at]

theorem part_lArr (i : Fin 128) (d : Fin 64) : part (lArr Q K) r (hd t a) i d = lse Q K r (hd t a) i := by
  unfold part lArr
  congr 1
  · exact Fin.ext (by show (i.val * 16 + r.val) % 16 = r.val; omega)
  · exact Fin.ext (by show ((hd t a).val * 64 + d.val) / 64 = (hd t a).val; omega)
  · exact Fin.ext (by show (i.val * 16 + r.val) / 16 = i.val; omega)

theorem part_oArr (h : Fin 16) (i : Fin 128) (d : Fin 64) : part (oArr Q K V) r h i d = Cert.Reference2Ideal.AttnRef.o Q K V r h i d := by
  unfold part oArr
  congr 1
  · exact Fin.ext (by show (i.val * 16 + r.val) % 16 = r.val; omega)
  · exact Fin.ext (by show (h.val * 64 + d.val) / 64 = h.val; omega)
  · exact Fin.ext (by show (i.val * 16 + r.val) / 16 = i.val; omega)
  · exact Fin.ext (by show (h.val * 64 + d.val) % 64 = d.val; omega)

/-- The weights are the exponentials over their sum. -/
theorem weight_eq (i j : Fin 128) : Cert.Kernel2Ideal.AttnValue.weight (rows Q t r) (rows K t r) (rows (lArr Q K) t r) a i j
    = e Q K r (hd t a) i j / den Q K r (hd t a) i := by
  unfold Cert.Kernel2Ideal.AttnValue.weight e
  rw [score_eq, show lane a = at_ a 0 from rfl, rows_at, part_lArr]
  split
  · unfold lse
    rw [← sub_sub, Real.exp_sub, Real.exp_log (den_pos Q K r (hd t a) i)]
  · rw [zero_div]

theorem grad_eq (i j : Fin 128) : Cert.Kernel2Ideal.AttnValue.grad (rows Q t r) (rows K t r) (rows V t r) (rows (oArr Q K V) t r) (rows (lArr Q K) t r)
      (rows D t r) (rows G t r) a i j = Cert.Reference2Ideal.AttnRef.grad Q K V D G r (hd t a) i j := by
  have hd' := (den_pos Q K r (hd t a) i).ne'
  have e1 : ∀ c, keep (rows G t r) a i c - keep (rows D t r) a i c * rows (oArr Q K V) t r i c
      = if c.val / 64 = a.val then rows G t r i c - rows D t r i c * rows (oArr Q K V) t r i c else 0 := fun c => by
    unfold keep
    split
    · rfl
    · ring
  unfold Cert.Kernel2Ideal.AttnValue.grad Cert.Reference2Ideal.AttnRef.grad back
  simp only [e1]
  simp only [keep_mul]
  rw [weight_eq, sum_head a fun c => rows D t r i c * rows V t r j c,
    sum_head a fun c => rows G t r i c - rows D t r i c * rows (oArr Q K V) t r i c]
  simp only [rows_at, part_oArr]
  have e2 : (∑ d, part D r (hd t a) i d / den Q K r (hd t a) i * part V r (hd t a) j d)
      = (∑ d, part D r (hd t a) i d * part V r (hd t a) j d) / den Q K r (hd t a) i := by
    rw [Finset.sum_div]
    exact Finset.sum_congr rfl fun d _ => by ring
  have e3 : share Q K V D r (hd t a) i = -(∑ d, part D r (hd t a) i d * Cert.Reference2Ideal.AttnRef.o Q K V r (hd t a) i d) / den Q K r (hd t a) i := by
    unfold share Cert.Reference2Ideal.AttnRef.o
    rw [neg_div, Finset.sum_div]
    refine congrArg _ (Finset.sum_congr rfl fun d _ => ?_)
    field_simp
  rw [e2, e3, Finset.sum_sub_distrib]
  unfold gsum
  by_cases h : j.val ≤ i.val
  · rw [if_pos h]
    ring
  · rw [if_neg h]
    unfold e
    rw [if_neg h]
    ring

/-- A column's head, lane and place. -/
theorem col_eq (c : Fin 128) (h : 128 * t.val + c.val < 1024) : (⟨(128 * t.val + c.val) / 64, by omega⟩ : Fin 16) = hd t (head c) :=
  Fin.ext (by show (128 * t.val + c.val) / 64 = 2 * t.val + c.val / 64; omega)

theorem lane_eq (c : Fin 128) : c = at_ (head c) ⟨(128 * t.val + c.val) % 64, Nat.mod_lt _ (by decide)⟩ :=
  Fin.ext (by show c.val = 64 * (c.val / 64) + (128 * t.val + c.val) % 64; omega)

theorem rows_col (c i : Fin 128) : rows X t r i c = part X r (hd t (head c)) i ⟨(128 * t.val + c.val) % 64, Nat.mod_lt _ (by decide)⟩ :=
  (congrArg (rows X t r i) (lane_eq t c)).trans (rows_at X t r (head c) i _)

theorem dq_join (n : Fin 2048) (c : Fin 128) (h : 128 * t.val + c.val < 1024) :
    dqArr Q K V D G n ⟨128 * t.val + c.val, h⟩ = ∑ j, Cert.Kernel2Ideal.AttnValue.grad (rows Q t ⟨n.val % 16, by omega⟩) (rows K t ⟨n.val % 16, by omega⟩)
      (rows V t ⟨n.val % 16, by omega⟩) (rows (oArr Q K V) t ⟨n.val % 16, by omega⟩) (rows (lArr Q K) t ⟨n.val % 16, by omega⟩)
      (rows D t ⟨n.val % 16, by omega⟩) (rows G t ⟨n.val % 16, by omega⟩) (head c) ⟨n.val / 16, by omega⟩ j
      * rows K t ⟨n.val % 16, by omega⟩ j c := by
  unfold dqArr
  simp only [grad_eq, rows_col, col_eq t c h]

theorem dk_join (n : Fin 2048) (c : Fin 128) (h : 128 * t.val + c.val < 1024) :
    dkArr Q K V D G n ⟨128 * t.val + c.val, h⟩ = ∑ i, Cert.Kernel2Ideal.AttnValue.grad (rows Q t ⟨n.val % 16, by omega⟩) (rows K t ⟨n.val % 16, by omega⟩)
      (rows V t ⟨n.val % 16, by omega⟩) (rows (oArr Q K V) t ⟨n.val % 16, by omega⟩) (rows (lArr Q K) t ⟨n.val % 16, by omega⟩)
      (rows D t ⟨n.val % 16, by omega⟩) (rows G t ⟨n.val % 16, by omega⟩) (head c) i ⟨n.val / 16, by omega⟩
      * rows Q t ⟨n.val % 16, by omega⟩ i c := by
  unfold dkArr
  simp only [grad_eq, rows_col, col_eq t c h]

theorem dv_join (n : Fin 2048) (c : Fin 128) (h : 128 * t.val + c.val < 1024) :
    dvArr Q K D n ⟨128 * t.val + c.val, h⟩ = ∑ i, Cert.Kernel2Ideal.AttnValue.weight (rows Q t ⟨n.val % 16, by omega⟩) (rows K t ⟨n.val % 16, by omega⟩)
      (rows (lArr Q K) t ⟨n.val % 16, by omega⟩) (head c) i ⟨n.val / 16, by omega⟩
      * rows D t ⟨n.val % 16, by omega⟩ i c := by
  unfold dvArr
  simp only [weight_eq, rows_col, col_eq t c h]
  exact Finset.sum_congr rfl fun i _ => by ring

end Cert.AttnJoin

end
-- ==== Proof.AttnFrame.lean ====
/- The attention gradient's frame: the proof data of its one launch (after the body at a point each output's
   buffer holds `AttnBody.out` of the point's blocks), the body obligation, the run. -/
module

public import proofs.«01_k».proof.Proof.AttnRun

@[expose] public section

set_option maxRecDepth 16384

noncomputable section

namespace Cert.Kernel2Ideal.AttnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen Cert.Kernel2Ideal.AttnBody

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks point `t` reads. -/
def ins (c : Dev nD) (t : Fin cfg0.N) : Ins F where
  q := iblk m c 0 t
  k := iblk m c 1 t
  v := iblk m c 2 t
  o := iblk m c 3 t
  lse := iblk m c 4 t
  do_ := iblk m c 5 t
  dl := iblk m c 6 t

theorem ins_q (c : Dev nD) (t : Fin cfg0.N) : (ins m c t).q = iblk m c 0 t := rfl
theorem ins_k (c : Dev nD) (t : Fin cfg0.N) : (ins m c t).k = iblk m c 1 t := rfl
theorem ins_v (c : Dev nD) (t : Fin cfg0.N) : (ins m c t).v = iblk m c 2 t := rfl
theorem ins_o (c : Dev nD) (t : Fin cfg0.N) : (ins m c t).o = iblk m c 3 t := rfl
theorem ins_lse (c : Dev nD) (t : Fin cfg0.N) : (ins m c t).lse = iblk m c 4 t := rfl
theorem ins_do_ (c : Dev nD) (t : Fin cfg0.N) : (ins m c t).do_ = iblk m c 5 t := rfl
theorem ins_dl (c : Dev nD) (t : Fin cfg0.N) : (ins m c t).dl = iblk m c 6 t := rfl

/-- The proof data: the arrays as the launch finds them; after the body at point `t` each input's buffer at its
    block and the outputs' at `out`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (out (ins m c t)).dq
    | ⟨8, _⟩ => (out (ins m c t)).dk
    | ⟨9, _⟩ => (out (ins m c t)).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (out (ins m c t)).dq := by dsimp only [dats]
theorem after8 (c : Dev nD) (t : Fin cfg0.N) : (dats m 0 c).after 8 t = (out (ins m c t)).dk := by dsimp only [dats]
theorem after9 (c : Dev nD) (t : Fin cfg0.N) : (dats m 0 c).after 9 t = (out (ins m c t)).dv := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation -/

/-- The staging buffers of point `t`. -/
abbrev st0 (t : Fin cfg0.N) : Memref sig .tc .vmem S2048x128 .f32 := win0_0.stage (cfg0.slots t 0)
abbrev st1 (t : Fin cfg0.N) : Memref sig .tc .vmem S2048x128 .f32 := win0_1.stage (cfg0.slots t 1)
abbrev st2 (t : Fin cfg0.N) : Memref sig .tc .vmem S2048x128 .f32 := win0_2.stage (cfg0.slots t 2)
abbrev st3 (t : Fin cfg0.N) : Memref sig .tc .vmem S2048x128 .f32 := win0_3.stage (cfg0.slots t 3)
abbrev st4 (t : Fin cfg0.N) : Memref sig .tc .vmem S2048x128 .f32 := win0_4.stage (cfg0.slots t 4)
abbrev st5 (t : Fin cfg0.N) : Memref sig .tc .vmem S2048x128 .f32 := win0_5.stage (cfg0.slots t 5)
abbrev st6 (t : Fin cfg0.N) : Memref sig .tc .vmem S2048x128 .f32 := win0_6.stage (cfg0.slots t 6)
abbrev st7 (t : Fin cfg0.N) : Memref sig .tc .vmem S2048x128 .f32 := win0_7.stage (cfg0.slots t 7)
abbrev st8 (t : Fin cfg0.N) : Memref sig .tc .vmem S2048x128 .f32 := win0_8.stage (cfg0.slots t 8)
abbrev st9 (t : Fin cfg0.N) : Memref sig .tc .vmem S2048x128 .f32 := win0_9.stage (cfg0.slots t 9)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, body_eq]
  have run := fun a b d K => body_run c (grid0.coords t) (st0 t) (st1 t) (st2 t) (st3 t) (st4 t) (st5 t) (st6 t) (st7 t) (st8 t) (st9 t)
    (ins m c t) ⟨a, b, d⟩ Set.univ K
  unfold held at run
  simp only [ins_q, ins_k, ins_v, ins_o, ins_lse, ins_do_, ins_dl] at run
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run ((dats m 0 c).before 7 t d7) ((dats m 0 c).before 8 t d8) ((dats m 0 c).before 9 t d9) _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro H
  isplitl [HΦ]; · iexact HΦ
  isplitl [Ho]; · iexact Ho
  iexact H

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every semaphore counter of the machine at zero at every final state. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the launch at what the proof data says. -/
theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.Kernel2Ideal.AttnFrame

end
-- ==== Proof.AttnFinal.lean ====
/- The attention gradient: the kernel's three result arrays are the reference's. -/
module

public import proofs.«01_k».proof.Proof.AttnJoin
public import proofs.«01_k».proof.Proof.AttnFrame
public import proofs.«01_k».proof.Pre_finite
public import Idealize.ShloMosaic.Lib.ReduceAll

@[expose] public section

set_option maxRecDepth 16384

noncomputable section

namespace Cert.Kernel2Ideal.AttnFinal

open Idealize.ShloMosaic Idealize.ShloMosaic.TcCoe
open Cert.Kernel2Ideal.Gen Cert.Kernel2Ideal.AttnBody Cert.Kernel2Ideal.AttnFrame Cert.Kernel2Ideal.AttnValue
open Cert.Reference2Ideal.AttnRef (Arr arr oArr lArr dqArr dkArr dvArr)
open Cert.AttnJoin (rows)

variable (m : (ℓ : Loc nD τ sig) → Buf (Elt Ideal) ℓ) (c : Dev nD)

theorem V30 : V m c main_v30 = Cert.Reference2Ideal.Read.val_main_v38 (F := Ideal) (m ((c : Thread nD τ).loc main_arg0))
    (m ((c : Thread nD τ).loc main_arg1)) (m ((c : Thread nD τ).loc main_arg2)) := by
  unfold_abbrev_sides
  simp only [hostOps0, hostOps0_1, hostOps0_2, List.flatten_cons, List.flatten_nil, List.append_nil, List.cons_append, List.nil_append]
  simp only [StableHlo.after_cons, StableHlo.after_nil]
  after_results_simp
  rfl

theorem V32 : V m c main_v32 = Cert.Reference2Ideal.Read.val_main_v40 (F := Ideal) (m ((c : Thread nD τ).loc main_arg0))
    (m ((c : Thread nD τ).loc main_arg1)) := by
  unfold_abbrev_sides
  simp only [hostOps0, hostOps0_1, hostOps0_2, List.flatten_cons, List.flatten_nil, List.append_nil, List.cons_append, List.nil_append]
  simp only [StableHlo.after_cons, StableHlo.after_nil]
  after_results_simp
  rfl

theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] ∧ win0_9.index t = ![0, t.val] :=
  (by decide +kernel : ∀ t : Fin grid0.N, _)

theorem N_eq : cfg0.N = 8 := by decide +kernel

/-- A block's residue, its array given as real numbers and its block index as the point's. -/
theorem get_up (X : Arr) (t : Fin 8) (r : Fin 16) (b : Vec Ideal S2048x128 .f32) (emb : S2048x128.Idx → S2048x1024.Idx)
    (hb : ∀ y, b y = arr X (emb y)) (h0 : ∀ y, (emb y 0).val = (y 0).val) (h1 : ∀ y, (emb y 1).val = 128 * t.val + (y 1).val) :
    Cert.Kernel2Ideal.AttnBody.get r b = up (rows X t r) := by
  funext y
  unfold Cert.Kernel2Ideal.AttnBody.get
  rw [hb]
  show ((X _ _ : ℝ) : EReal) = ((X _ _ : ℝ) : EReal)
  exact congrArg Real.toEReal (congrArg₂ X (Fin.ext (h0 _)) (Fin.ext (h1 _)))

/-! ## Real arguments -/

/-- An array all of whose magnitudes are below infinity is real. -/
theorem real_of_lt (x : FVec Ideal S2048x1024 .f32) (h : ∀ i, FloatOps.cmpf .olt (FloatOps.hostAbsf (x i)) (FloatOps.ofBits (F := Ideal) .f32 0x7F800000#32) = 1#1) :
    ∃ X : Arr, x = arr X := by
  have top : FloatOps.ofBits (F := Ideal) .f32 0x7F800000#32 = (⊤ : EReal) := by
    show Ideal.ofBits .f32 0x7F800000#32 = ⊤
    simp [Ideal.ofBits, Ideal.ieee]
  refine ⟨fun a b => (x (ix2 a b)).toReal, funext fun y => ?_⟩
  have e : x y = x (ix2 (y 0) (y 1)) := congrArg x (funext fun a => by match a with | ⟨0, _⟩ => rfl | ⟨1, _⟩ => rfl)
  have hy := h (ix2 (y 0) (y 1))
  rw [e]
  show x (ix2 (y 0) (y 1)) = (((x (ix2 (y 0) (y 1))).toReal : ℝ) : EReal)
  generalize x (ix2 (y 0) (y 1)) = z at hy ⊢
  rw [top] at hy
  have lt : max (z : EReal) (-z) < ⊤ := of_decide_eq_true ((BitVec.ofBool_eq_iff_eq).mp hy)
  refine (EReal.coe_toReal ?_ ?_).symm
  · rintro rfl
    exact absurd lt (by simp)
  · rintro rfl
    exact absurd lt (by simp)

theorem real_args [Cert.Pre_finite.Facts] (x0 x1 x2 x3 x4 : FVec Ideal S2048x1024 .f32) (h : Cert.Pre_finite.fn (F := Ideal) x0 x1 x2 x3 x4 = fun _ => 1#1) :
    (∃ X : Arr, x0 = arr X) ∧ (∃ X : Arr, x1 = arr X) ∧ (∃ X : Arr, x2 = arr X) ∧ (∃ X : Arr, x3 = arr X) ∧ (∃ X : Arr, x4 = arr X) := by
  have h := congrFun h ix0
  unfold Cert.Pre_finite.fn Cert.Pre_finite.fn_part1 at h
  simp only [WordCmp.andi_at, IntOp.andi_eq_one] at h
  obtain ⟨⟨⟨⟨h0, h1⟩, h2⟩, h3⟩, h4⟩ := h
  exact ⟨real_of_lt _ fun i => Host.reduce_andi_all _ _ _ _ _ h0 i, real_of_lt _ fun i => Host.reduce_andi_all _ _ _ _ _ h1 i,
    real_of_lt _ fun i => Host.reduce_andi_all _ _ _ _ _ h2 i, real_of_lt _ fun i => Host.reduce_andi_all _ _ _ _ _ h3 i,
    real_of_lt _ fun i => Host.reduce_andi_all _ _ _ _ _ h4 i⟩

/-! ## The blocks -/

variable (Q K V' D G : Arr)

/-- The device's arguments are these real arrays. -/
structure Args : Prop where
  q : m ((c : Thread nD τ).loc main_arg0) = arr Q
  k : m ((c : Thread nD τ).loc main_arg1) = arr K
  v : m ((c : Thread nD τ).loc main_arg2) = arr V'
  d : m ((c : Thread nD τ).loc main_arg3) = arr D
  g : m ((c : Thread nD τ).loc main_arg4) = arr G

variable (h : Args m c Q K V' D G)
include h

set_option maxHeartbeats 2000000 in
/-- The residues of the blocks that a point reads. -/
theorem ins_up (t : Fin cfg0.N) (r : Fin 16) : Cert.Kernel2Ideal.AttnBody.get r (ins m c t).q = up (rows Q (t.cast N_eq) r)
    ∧ Cert.Kernel2Ideal.AttnBody.get r (ins m c t).k = up (rows K (t.cast N_eq) r)
    ∧ Cert.Kernel2Ideal.AttnBody.get r (ins m c t).v = up (rows V' (t.cast N_eq) r)
    ∧ Cert.Kernel2Ideal.AttnBody.get r (ins m c t).o = up (rows (oArr Q K V') (t.cast N_eq) r)
    ∧ Cert.Kernel2Ideal.AttnBody.get r (ins m c t).lse = up (rows (lArr Q K) (t.cast N_eq) r)
    ∧ Cert.Kernel2Ideal.AttnBody.get r (ins m c t).do_ = up (rows D (t.cast N_eq) r)
    ∧ Cert.Kernel2Ideal.AttnBody.get r (ins m c t).dl = up (rows G (t.cast N_eq) r) := by
  have a0 : V m c (Pipeline.arrRef spec0 0) = arr Q := (V_main_arg0 m c).trans h.q
  have a1 : V m c (Pipeline.arrRef spec0 1) = arr K := (V_main_arg1 m c).trans h.k
  have a2 : V m c (Pipeline.arrRef spec0 2) = arr V' := (V_main_arg2 m c).trans h.v
  have a3 : V m c (Pipeline.arrRef spec0 3) = arr (oArr Q K V') := (V30 m c).trans (by rw [h.q, h.k, h.v, Cert.Reference2Ideal.AttnRef.v38])
  have a4 : V m c (Pipeline.arrRef spec0 4) = arr (lArr Q K) := (V32 m c).trans (by rw [h.q, h.k, Cert.Reference2Ideal.AttnRef.v40])
  have a5 : V m c (Pipeline.arrRef spec0 5) = arr D := (V_main_arg3 m c).trans h.d
  have a6 : V m c (Pipeline.arrRef spec0 6) = arr G := (V_main_arg4 m c).trans h.g
  rw [ins_q, ins_k, ins_v, ins_o, ins_lse, ins_do_, ins_dl]
  unfold iblk
  rw [a0, a1, a2, a3, a4, a5, a6]
  refine ⟨get_up Q _ r _ ((cfg0.win 0).blk t).view.emb (fun _ => rfl) ?_ ?_, get_up K _ r _ ((cfg0.win 1).blk t).view.emb (fun _ => rfl) ?_ ?_,
    get_up V' _ r _ ((cfg0.win 2).blk t).view.emb (fun _ => rfl) ?_ ?_, get_up (oArr Q K V') _ r _ ((cfg0.win 3).blk t).view.emb (fun _ => rfl) ?_ ?_,
    get_up (lArr Q K) _ r _ ((cfg0.win 4).blk t).view.emb (fun _ => rfl) ?_ ?_, get_up D _ r _ ((cfg0.win 5).blk t).view.emb (fun _ => rfl) ?_ ?_,
    get_up G _ r _ ((cfg0.win 6).blk t).view.emb (fun _ => rfl) ?_ ?_⟩
  all_goals
    intro y
    blk_simp [idx t]
    try exact congrArg (· + _) (Nat.mul_comm _ _)

/-- What the point leaves in the three results' blocks. -/
theorem out_eq (t : Fin cfg0.N) (y : S2048x128.Idx) (hc : 128 * t.val + (y 1).val < 1024) :
    (out (ins m c t)).dq y = ((dqArr Q K V' D G (y 0) ⟨128 * t.val + (y 1).val, hc⟩ : ℝ) : EReal)
    ∧ (out (ins m c t)).dk y = ((dkArr Q K V' D G (y 0) ⟨128 * t.val + (y 1).val, hc⟩ : ℝ) : EReal)
    ∧ (out (ins m c t)).dv y = ((dvArr Q K D (y 0) ⟨128 * t.val + (y 1).val, hc⟩ : ℝ) : EReal) := by
  obtain ⟨eq, ek, ev, eo, el, ed, eg⟩ := ins_up m c Q K V' D G h t (res y)
  unfold out
  dsimp only
  rw [eq, ek, ev, eo, el, ed, eg, zero3, zero4, dq_eq, dk_eq, dv_eq]
  exact ⟨congrArg Real.toEReal (Cert.AttnJoin.dq_join Q K V' D G (t.cast N_eq) (y 0) (y 1) hc).symm,
    congrArg Real.toEReal (Cert.AttnJoin.dk_join Q K V' D G (t.cast N_eq) (y 0) (y 1) hc).symm,
    congrArg Real.toEReal (Cert.AttnJoin.dv_join Q K D (t.cast N_eq) (y 0) (y 1) hc).symm⟩

omit h in
/-- A block's place in a result array. -/
theorem arr_emb (X : Arr) (t : Fin cfg0.N) (z : S2048x1024.Idx) (y : S2048x128.Idx) (h0 : (z 0).val = (y 0).val) (h1 : (z 1).val = 128 * t.val + (y 1).val)
    (hc : 128 * t.val + (y 1).val < 1024) : ((X (y 0) ⟨128 * t.val + (y 1).val, hc⟩ : ℝ) : EReal) = arr X z :=
  congrArg Real.toEReal (congrArg₂ X (Fin.ext h0.symm) (Fin.ext h1.symm))

omit h in
theorem col_lt (t : Fin cfg0.N) (y : S2048x128.Idx) : 128 * t.val + (y 1).val < 1024 := by
  have h1 : (y 1).val < 128 := (y 1).isLt
  have h2 : t.val < 8 := (t.cast N_eq).isLt
  omega

/-- The three result arrays after the run. -/
theorem final_dq : (dats m 0 c).arrAt 7 cfg0.N = arr (dqArr Q K V' D G) := by
  refine (dats m 0 c).arrAt_eq_of_covers 7 _ (by decide +kernel) fun t _ y => ?_
  blk_simp
  rw [after7]
  refine (out_eq m c Q K V' D G h t y (col_lt t y)).1.trans (arr_emb _ t _ y ?_ ?_ _)
  · blk_simp [idx t]
  · blk_simp [idx t]
    exact congrArg (· + _) (Nat.mul_comm _ _)

theorem final_dk : (dats m 0 c).arrAt 8 cfg0.N = arr (dkArr Q K V' D G) := by
  refine (dats m 0 c).arrAt_eq_of_covers 8 _ (by decide +kernel) fun t _ y => ?_
  blk_simp
  rw [after8]
  refine (out_eq m c Q K V' D G h t y (col_lt t y)).2.1.trans (arr_emb _ t _ y ?_ ?_ _)
  · blk_simp [idx t]
  · blk_simp [idx t]
    exact congrArg (· + _) (Nat.mul_comm _ _)

theorem final_dv : (dats m 0 c).arrAt 9 cfg0.N = arr (dvArr Q K D) := by
  refine (dats m 0 c).arrAt_eq_of_covers 9 _ (by decide +kernel) fun t _ y => ?_
  blk_simp
  rw [after9]
  refine (out_eq m c Q K V' D G h t y (col_lt t y)).2.2.trans (arr_emb _ t _ y ?_ ?_ _)
  · blk_simp [idx t]
  · blk_simp [idx t]
    exact congrArg (· + _) (Nat.mul_comm _ _)

omit h in
open Idealize.SL.Sem in
/-- The kernel's run, with the three result arrays named and the arguments unchanged. -/
theorem run_values (ρ : Dev nD → PrngReg) : θ_run defs (onTc (τ := τ) (main (F := Ideal))) ⟨m, fun _ => 0, ρ⟩ fun r => ∀ c : Dev nD,
      r.2.mem ((c.tc : Thread nD τ).loc main_v33_0) = (dats m 0 c).arrAt 7 cfg0.N
      ∧ r.2.mem ((c.tc : Thread nD τ).loc main_v33_1) = (dats m 0 c).arrAt 8 cfg0.N
      ∧ r.2.mem ((c.tc : Thread nD τ).loc main_v33_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 7, (h.1 c).1 8, (h.1 c).1 9, h.2 c⟩)
    (θ_run_and (run m ρ) (frame_of m ρ (dats m) (A_eq m) (run m ρ)))

end Cert.Kernel2Ideal.AttnFinal

end
-- ==== Proof.ConvBack.lean ====
module

public import proofs.«01_k».proof.Defs
public import proofs.«01_k».proof.Pre_finite_conv
public import proofs.«01_k».proof.Proof.Gen.Kernel16Ideal.Frame
public import proofs.«01_k».proof.Proof.Gen.Reference16Ideal.Read
public import proofs.«01_k».proof.Proof.Gen.Reference16Ideal.Run
public import proofs.«01_k».proof.Proof.AttnFinal
public import Idealize.ShloMosaic.Lib.Pipeline.ValueKit
public import Idealize.ShloMosaic.Lib.Pipeline.ReadBack
public import Idealize.ShloMosaic.Lib.Claim

@[expose] public section

/-! # The backward pass of the gated convolution

Each of the 2048 channels is convolved with its own four weights along the sequence and gated by the
logistic function. A column of the result depends on one column of the arguments, so all statements are
about one column: `X` the input, `W` the four weights, `B` the bias, `D` the gradient that comes in. -/

set_option maxRecDepth 16384

noncomputable section

open Idealize.ShloMosaic Idealize.ShloMosaic.TcCoe Idealize.SL.Sem
open Idealize.ShloMosaic.Pipeline (Dat)

namespace Cert.ConvColumn

/-- A column delayed by `s` rows, zeros moving in. -/
def back (X : Fin 2048 → EReal) (s : ℕ) (p : Fin 2048) : EReal := if s ≤ p.val then X ⟨p.val - s, by omega⟩ else 0

/-- A column advanced by `s` rows, zeros moving in. -/
def ahead (D : Fin 2048 → EReal) (s : ℕ) (p : Fin 2048) : EReal := if h : p.val + s < 2048 then D ⟨p.val + s, h⟩ else 0

/-- What the gate is applied to. -/
def pre (X : Fin 2048 → EReal) (W : Fin 4 → EReal) (B : EReal) (p : Fin 2048) : EReal :=
  B + W 3 * X p + W 0 * back X 3 p + W 1 * back X 2 p + W 2 * back X 1 p

/-- The gradient before the gate. -/
def grad (X : Fin 2048 → EReal) (W : Fin 4 → EReal) (B : EReal) (D : Fin 2048 → EReal) (p : Fin 2048) : EReal :=
  D p * (Ideal.logistic (pre X W B p) * (1 + pre X W B p * (1 - Ideal.logistic (pre X W B p))))

/-- The gradient of the input from the gradient before the gate. -/
def input (W : Fin 4 → EReal) (G : Fin 2048 → EReal) (p : Fin 2048) : EReal :=
  W 3 * G p + W 0 * ahead G 3 p + W 1 * ahead G 2 p + W 2 * ahead G 1 p

/-- The gradient of the four weights from the gradient before the gate. -/
def weight (X : Fin 2048 → EReal) (G : Fin 2048 → EReal) (k : Fin 4) : EReal :=
  ∑ p : Fin 2048, G p * back X (3 - k.val) p

theorem back_zero (X : Fin 2048 → EReal) (p : Fin 2048) : back X 0 p = X p := by simp [back]

/-- The two ways of writing the gate's derivative agree on a real gradient. -/
theorem gate (d : ℝ) (z : EReal) :
    (d : EReal) * Ideal.logistic z + z * d * (Ideal.logistic z * (1 - Ideal.logistic z))
      = d * (Ideal.logistic z * (1 + z * (1 - Ideal.logistic z))) := by
  induction z with
  | bot => simp
  | top =>
    have e : (1 : EReal) - 1 = 0 := EReal.sub_self (EReal.coe_ne_top 1) (EReal.coe_ne_bot 1)
    simp [e]
  | coe r =>
    simp only [Ideal.logistic_coe]
    norm_cast
    ring

end Cert.ConvColumn

namespace Cert.Kernel16Ideal.Conv

open Cert.Kernel16Ideal Cert.Kernel16Ideal.Gen Cert.ConvColumn

/-! ## The stages of the kernel at an index -/

theorem sge_select {n : ℕ} (hn : n < 2048) (p : Fin 2048) (a b : EReal) :
    Scalar.select (IntOp.cmpi CmpIPredicate.sge (BitVec.ofNat 32 p.val) (BitVec.ofNat 32 n)) a b = if n ≤ p.val then a else b := by
  rw [WordCmp.cmpi_sge_ofNat (by have := p.isLt; omega) (by omega)]
  by_cases h : n ≤ p.val <;> simp [Scalar.select, h]

theorem slt_select {n : ℕ} (hn : n < 2048) (p : Fin 2048) (a b : EReal) :
    Scalar.select (IntOp.cmpi CmpIPredicate.slt (BitVec.ofNat 32 p.val) (BitVec.ofNat 32 n)) a b = if p.val < n then a else b := by
  rw [WordCmp.cmpi_slt_ofNat (by have := p.isLt; omega) (by omega)]
  by_cases h : p.val < n <;> simp [Scalar.select, h]

theorem at_back (x : FVec Ideal S2048x256 .f32) {s : ℕ} (p : Fin 2048) (q : Fin 256) {h : (p.val + 2048 - s) % 2048 < 2048} (hs : s < 2048) :
    (if s ≤ p.val then x (ix2 ⟨(p.val + 2048 - s) % 2048, h⟩ q) else 0) = back (fun p => x (ix2 p q)) s p := by
  unfold back
  by_cases hp : s ≤ p.val
  · rw [if_pos hp, if_pos hp]
    exact congrArg (fun r => x (ix2 r q)) (Fin.ext (show (p.val + 2048 - s) % 2048 = p.val - s by omega))
  · rw [if_neg hp, if_neg hp]

theorem at_ahead (c : EReal) (x : Fin 2048 → EReal) {s n : ℕ} (p : Fin 2048) {h : (p.val + 2048 - n) % 2048 < 2048} (hs : s + n = 2048) :
    (if p.val < n then c * x ⟨(p.val + 2048 - n) % 2048, h⟩ else 0) = c * ahead x s p := by
  unfold ahead
  by_cases hp : p.val < n
  · rw [if_pos hp, dif_pos (by omega)]
    exact congrArg (fun r => c * x r) (Fin.ext (show (p.val + 2048 - n) % 2048 = p.val + s by omega))
  · rw [if_neg hp, dif_neg (by omega), mul_zero]

theorem delayed3 (x : FVec Ideal S2048x256 .f32) (p : Fin 2048) (q : Fin 256) :
    k0_pay2 (F := Ideal) x (ix2 p q) = back (fun p => x (ix2 p q)) 3 p := by
  pointwise [k0_pay2]
  exact (sge_select (by omega) p _ _).trans (at_back x p q (by omega))

theorem delayed2 (x : FVec Ideal S2048x256 .f32) (p : Fin 2048) (q : Fin 256) :
    k0_pay3 (F := Ideal) x (ix2 p q) = back (fun p => x (ix2 p q)) 2 p := by
  pointwise [k0_pay3]
  exact (sge_select (by omega) p _ _).trans (at_back x p q (by omega))

theorem delayed1 (x : FVec Ideal S2048x256 .f32) (p : Fin 2048) (q : Fin 256) :
    k0_pay4 (F := Ideal) x (ix2 p q) = back (fun p => x (ix2 p q)) 1 p := by
  pointwise [k0_pay4]
  exact (sge_select (by omega) p _ _).trans (at_back x p q (by omega))

/-- A row of the block of weights. -/
abbrev row (k : ℕ) (h : ∀ a : Fin 2, (![k, 0] : Fin 2 → ℕ) a + (![1, 256] : Fin 2 → ℕ) a ≤ S4x256.size a) (w : FVec Ideal S4x256 .f32) : FVec Ideal S1x256 .f32 :=
  View.ld (Val := Elt Ideal) (S := S4x256) (e' := .f32) w (Rect.unit ![k, 0] ![1, 256] h)

/-- The gradient before the gate, as the kernel computes it from the blocks of a point. -/
abbrev gradOf (d x : FVec Ideal S2048x256 .f32) (w : FVec Ideal S4x256 .f32) (b : FVec Ideal S1x256 .f32) : FVec Ideal S2048x256 .f32 :=
  k0_pay7 (F := Ideal) d (k0_pay2 x) (k0_pay3 x) (k0_pay4 x) (k0_pay5 x b (row 3 inb_S4x256_S1x256_3_0 w))
    (k0_pay6 (row 0 inb_S4x256_S1x256_0_0 w)) (row 1 inb_S4x256_S1x256_1_0 w) (row 2 inb_S4x256_S1x256_2_0 w)

theorem gradOf_apply (d x : FVec Ideal S2048x256 .f32) (w : FVec Ideal S4x256 .f32) (b : FVec Ideal S1x256 .f32) (p : Fin 2048) (q : Fin 256) :
    gradOf d x w b (ix2 p q) = grad (fun p => x (ix2 p q)) (fun k => w (ix2 k q)) (b (ix2 0 q)) (fun p => d (ix2 p q)) p := by
  pointwise [gradOf, k0_pay7, k0_pay5, k0_pay6, row]
  simp only [delayed3, delayed2, delayed1]
  rfl

variable (d x : FVec Ideal S2048x256 .f32) (w : FVec Ideal S4x256 .f32) (b : FVec Ideal S1x256 .f32)

theorem bias_apply (q : Fin 256) :
    k0_pay8 (F := Ideal) d (k0_pay2 x) (k0_pay3 x) (k0_pay4 x) (k0_pay5 x b (row 3 inb_S4x256_S1x256_3_0 w))
        (k0_pay6 (row 0 inb_S4x256_S1x256_0_0 w)) (row 1 inb_S4x256_S1x256_1_0 w) (row 2 inb_S4x256_S1x256_2_0 w) (ix2 0 q)
      = ∑ p : Fin 2048, grad (fun p => x (ix2 p q)) (fun k => w (ix2 k q)) (b (ix2 0 q)) (fun p => d (ix2 p q)) p := by
  pointwise [k0_pay8]
  exact Finset.sum_congr (M := EReal) rfl fun p _ => gradOf_apply d x w b p q

theorem weight3_apply (q : Fin 256) :
    k0_pay9 (F := Ideal) d x (k0_pay2 x) (k0_pay3 x) (k0_pay4 x) (k0_pay5 x b (row 3 inb_S4x256_S1x256_3_0 w))
        (k0_pay6 (row 0 inb_S4x256_S1x256_0_0 w)) (row 1 inb_S4x256_S1x256_1_0 w) (row 2 inb_S4x256_S1x256_2_0 w) (ix2 0 q)
      = weight (fun p => x (ix2 p q)) (grad (fun p => x (ix2 p q)) (fun k => w (ix2 k q)) (b (ix2 0 q)) (fun p => d (ix2 p q))) 3 := by
  pointwise [k0_pay9]
  refine Finset.sum_congr (M := EReal) rfl fun p _ => ?_
  exact congrArg₂ (fun a b : EReal => a * b) (gradOf_apply d x w b p q) (back_zero (fun p => x (ix2 p q)) p).symm

theorem weight0_apply (q : Fin 256) :
    k0_pay12 (F := Ideal) (k0_pay11 (F := Ideal) d (k0_pay2 x) (k0_pay3 x) (k0_pay4 x) (k0_pay5 x b (row 3 inb_S4x256_S1x256_3_0 w))
        (k0_pay6 (row 0 inb_S4x256_S1x256_0_0 w)) (row 1 inb_S4x256_S1x256_1_0 w) (row 2 inb_S4x256_S1x256_2_0 w)) (ix2 0 q)
      = weight (fun p => x (ix2 p q)) (grad (fun p => x (ix2 p q)) (fun k => w (ix2 k q)) (b (ix2 0 q)) (fun p => d (ix2 p q))) 0 := by
  pointwise [k0_pay12, k0_pay11]
  refine Finset.sum_congr (M := EReal) rfl fun p _ => ?_
  exact congrArg₂ (fun a b : EReal => a * b) (gradOf_apply d x w b p q) (delayed3 x p q)

theorem weight1_apply (q : Fin 256) : k0_pay13 (F := Ideal) (k0_pay3 x) (gradOf d x w b) (ix2 0 q)
      = weight (fun p => x (ix2 p q)) (grad (fun p => x (ix2 p q)) (fun k => w (ix2 k q)) (b (ix2 0 q)) (fun p => d (ix2 p q))) 1 := by
  pointwise [k0_pay13]
  refine Finset.sum_congr (M := EReal) rfl fun p _ => ?_
  exact congrArg₂ (fun a b : EReal => a * b) (gradOf_apply d x w b p q) (delayed2 x p q)

theorem weight2_apply (q : Fin 256) : k0_pay14 (F := Ideal) (k0_pay4 x) (gradOf d x w b) (ix2 0 q)
      = weight (fun p => x (ix2 p q)) (grad (fun p => x (ix2 p q)) (fun k => w (ix2 k q)) (b (ix2 0 q)) (fun p => d (ix2 p q))) 2 := by
  pointwise [k0_pay14]
  refine Finset.sum_congr (M := EReal) rfl fun p _ => ?_
  exact congrArg₂ (fun a b : EReal => a * b) (gradOf_apply d x w b p q) (delayed1 x p q)

theorem input_apply (p : Fin 2048) (q : Fin 256) :
    k0_pay16 (F := Ideal) (gradOf d x w b) (k0_pay10 (F := Ideal) d (k0_pay2 x) (k0_pay3 x) (k0_pay4 x) (k0_pay5 x b (row 3 inb_S4x256_S1x256_3_0 w))
        (k0_pay6 (row 0 inb_S4x256_S1x256_0_0 w)) (row 1 inb_S4x256_S1x256_1_0 w) (row 2 inb_S4x256_S1x256_2_0 w)
        (row 3 inb_S4x256_S1x256_3_0 w) (row 0 inb_S4x256_S1x256_0_0 w))
        (row 1 inb_S4x256_S1x256_1_0 w) (row 2 inb_S4x256_S1x256_2_0 w) (ix2 p q)
      = input (fun k => w (ix2 k q)) (grad (fun p => x (ix2 p q)) (fun k => w (ix2 k q)) (b (ix2 0 q)) (fun p => d (ix2 p q))) p := by
  have e : (fun p => gradOf d x w b (ix2 p q)) = grad (fun p => x (ix2 p q)) (fun k => w (ix2 k q)) (b (ix2 0 q)) (fun p => d (ix2 p q)) :=
    funext fun p => gradOf_apply d x w b p q
  rw [← e]
  pointwise [k0_pay16, k0_pay10, row]
  exact congrArg₂ (fun a b : EReal => a + b) (congrArg₂ (fun a b : EReal => a + b) (congrArg₂ (fun a b : EReal => a + b) rfl
    ((slt_select (n := 2045) (by omega) p _ _).trans (at_ahead _ (fun p => gradOf d x w b (ix2 p q)) (s := 3) (n := 2045) p (by omega))))
    ((slt_select (n := 2046) (by omega) p _ _).trans (at_ahead _ (fun p => gradOf d x w b (ix2 p q)) (s := 2) (n := 2046) p (by omega))))
    ((slt_select (n := 2047) (by omega) p _ _).trans (at_ahead _ (fun p => gradOf d x w b (ix2 p q)) (s := 1) (n := 2047) p (by omega)))

end Cert.Kernel16Ideal.Conv

namespace Cert.Reference16Ideal.Conv

open Cert.Reference16Ideal Cert.Reference16Ideal.Read Cert.ConvColumn

/-! ## The stages of the reference at an index -/

variable (x : FVec Ideal S2048x6144 .f32) (w : FVec Ideal S4x2048 .f32) (b : FVec Ideal S1x2048 .f32)
  (d₀ : FVec Ideal S2048x1024 .f32) (d₁ d₂ : FVec Ideal S2048x512 .f32)

/-- The column of the projection the channel `q` reads. -/
def col (q : Fin 2048) (p : Fin 2048) : EReal := x (ix2 p ⟨4096 + q.val, by omega⟩)

theorem shifted (f : Fin 2048 → EReal) (s : ℕ) (p : Fin 2048) {m : ℕ} {H : ¬ m < 3 → m - 3 < 2048} (hm : m + s = 3 + p.val) :
    (if h : m < 3 then 0 else f ⟨m - 3, H h⟩) = back f s p := by
  unfold back
  by_cases h : m < 3
  · rw [dif_pos h, if_neg (by omega)]
  · rw [dif_neg h, if_pos (by omega)]
    exact congrArg f (Fin.ext (show m - 3 = p.val - s by omega))

theorem shift0 (p q : Fin 2048) : val_main_v5 (F := Ideal) x (ix2 p q) = back (col x q) 3 p := by
  pointwise [val_main_v5, val_main_v2, val_main_v1, val_main_cst, val_main_v0]
  exact shifted (col x q) 3 p (by omega)

theorem shift1 (p q : Fin 2048) : val_main_v11 (F := Ideal) x (ix2 p q) = back (col x q) 2 p := by
  pointwise [val_main_v11, val_main_v2, val_main_v1, val_main_cst, val_main_v0]
  exact shifted (col x q) 2 p (by omega)

theorem shift2 (p q : Fin 2048) : val_main_v16 (F := Ideal) x (ix2 p q) = back (col x q) 1 p := by
  pointwise [val_main_v16, val_main_v2, val_main_v1, val_main_cst, val_main_v0]
  exact shifted (col x q) 1 p (by omega)

theorem shift3 (p q : Fin 2048) : val_main_v21 (F := Ideal) x (ix2 p q) = col x q p := by
  pointwise [val_main_v21, val_main_v2, val_main_v1, val_main_cst, val_main_v0]
  rfl

/-- The gradient that comes in, by column. -/
def incoming (q p : Fin 2048) : EReal := val_main_v26 (F := Ideal) d₀ d₁ d₂ (ix2 p q)

/-- The gradient before the gate of a channel. -/
def gradAt (q : Fin 2048) : Fin 2048 → EReal := grad (col x q) (fun k => w (ix2 k q)) (b (ix2 0 q)) (incoming d₀ d₁ d₂ q)

theorem pre_apply (p q : Fin 2048) :
    val_main_v24 (F := Ideal) x w b (ix2 p q) = pre (col x q) (fun k => w (ix2 k q)) (b (ix2 0 q)) p := by
  pointwise [val_main_v24, val_main_v19, val_main_v14, val_main_v9, val_main_v8, val_main_v7, val_main_v6, val_main_v4, val_main_v13,
    val_main_v12, val_main_v10, val_main_v18, val_main_v17, val_main_v15, val_main_v23, val_main_v22, val_main_v20]
  simp only [shift0, shift1, shift2, shift3]
  unfold pre
  show (_ : EReal) = _
  abel

theorem gate_apply (p q : Fin 2048) :
    val_main_v25_2 (F := Ideal) x w b (ix2 p q) = Ideal.logistic (pre (col x q) (fun k => w (ix2 k q)) (b (ix2 0 q)) p) := by
  pointwise [val_main_v25_2, val_main_call0_v4, val_main_call0_cst_0, val_main_call0_v3, val_main_call0_v2, val_main_call0_cst,
    val_main_call0_v1, val_main_call0_v0]
  simp only [pre_apply]
  rfl

theorem grad_apply (p q : Fin 2048) (h : ∃ d : ℝ, incoming d₀ d₁ d₂ q p = d) :
    val_main_v27 (F := Ideal) x w b d₀ d₁ d₂ (ix2 p q) = gradAt x w b d₀ d₁ d₂ q p := by
  obtain ⟨d, hd⟩ := h
  have e : val_main_v26 (F := Ideal) d₀ d₁ d₂ (ix2 p q) = (d : EReal) := hd
  pointwise [val_main_v27, val_main_call1_v1, val_main_call1_v2, val_main_call1_v0, val_main_v25_1, val_main_call0_v7,
    val_main_call0_v6, val_main_call0_cst_1]
  simp only [pre_apply, gate_apply, e]
  refine (gate d _).trans ?_
  unfold gradAt grad
  rw [hd]

variable (h : ∀ p q : Fin 2048, ∃ d : ℝ, incoming d₀ d₁ d₂ q p = d)
include h

theorem bias_apply (q : Fin 2048) : val_main_v54 (F := Ideal) x w b d₀ d₁ d₂ (ix2 0 q) = ∑ p : Fin 2048, gradAt x w b d₀ d₁ d₂ q p := by
  pointwise [val_main_v54, val_main_v53, val_main_cst_10]
  exact Finset.sum_congr (M := EReal) rfl fun p _ => grad_apply x w b d₀ d₁ d₂ p q (h p q)

theorem weight3_apply (q : Fin 2048) : val_main_v32 (F := Ideal) x w b d₀ d₁ d₂ (ix2 0 q) = weight (col x q) (gradAt x w b d₀ d₁ d₂ q) 3 := by
  pointwise [val_main_v32, val_main_v31, val_main_cst_1, val_main_v30]
  exact Finset.sum_congr (M := EReal) rfl fun p _ => congrArg₂ (fun a b : EReal => a * b) (grad_apply x w b d₀ d₁ d₂ p q (h p q))
    ((shift3 x p q).trans (back_zero (col x q) p).symm)

theorem weight2_apply (q : Fin 2048) : val_main_v39 (F := Ideal) x w b d₀ d₁ d₂ (ix2 0 q) = weight (col x q) (gradAt x w b d₀ d₁ d₂ q) 2 := by
  pointwise [val_main_v39, val_main_v38, val_main_cst_4, val_main_v37]
  exact Finset.sum_congr (M := EReal) rfl fun p _ => congrArg₂ (fun a b : EReal => a * b) (grad_apply x w b d₀ d₁ d₂ p q (h p q)) (shift2 x p q)

theorem weight1_apply (q : Fin 2048) : val_main_v48 (F := Ideal) x w b d₀ d₁ d₂ (ix2 0 q) = weight (col x q) (gradAt x w b d₀ d₁ d₂ q) 1 := by
  pointwise [val_main_v48, val_main_v47, val_main_cst_7, val_main_v46]
  exact Finset.sum_congr (M := EReal) rfl fun p _ => congrArg₂ (fun a b : EReal => a * b) (grad_apply x w b d₀ d₁ d₂ p q (h p q)) (shift1 x p q)

theorem weight0_apply (q : Fin 2048) : val_main_v59 (F := Ideal) x w b d₀ d₁ d₂ (ix2 0 q) = weight (col x q) (gradAt x w b d₀ d₁ d₂ q) 0 := by
  pointwise [val_main_v59, val_main_v58, val_main_cst_11, val_main_v57]
  exact Finset.sum_congr (M := EReal) rfl fun p _ => congrArg₂ (fun a b : EReal => a * b) (grad_apply x w b d₀ d₁ d₂ p q (h p q)) (shift0 x p q)

theorem weight_apply (k : Fin 4) (q : Fin 2048) :
    val_main_v63 (F := Ideal) x w b d₀ d₁ d₂ (ix2 k q) = weight (col x q) (gradAt x w b d₀ d₁ d₂ q) k := by
  fin_cases k <;>
  pointwise [val_main_v63, val_main_v62, val_main_v52, val_main_v51, val_main_v43, val_main_v42, val_main_v34,
    val_main_cst_3, val_main_cst_6, val_main_cst_9, val_main_cst_13]
  · exact weight0_apply x w b d₀ d₁ d₂ h q
  · exact weight1_apply x w b d₀ d₁ d₂ h q
  · exact weight2_apply x w b d₀ d₁ d₂ h q
  · exact weight3_apply x w b d₀ d₁ d₂ h q

omit h in
theorem padded (F G : Fin 2048 → EReal) (c : EReal) (hF : ∀ r, F r = c * G r) (s : ℕ) (p : Fin 2048) {P : Prop} [Decidable P] {m : ℕ}
    {H : P → m < 2048} (hP : P ↔ p.val + s < 2048) (hm : m = p.val + s) : (if h : P then F ⟨m, H h⟩ else 0) = c * ahead G s p := by
  subst hm
  unfold ahead
  by_cases hp : P
  · rw [dif_pos hp, dif_pos (hP.mp hp)]
    exact hF _
  · rw [dif_neg hp, dif_neg (fun h => hp (hP.mpr h)), mul_zero]

theorem input_apply (p q : Fin 2048) :
    val_main_v66 (F := Ideal) x w b d₀ d₁ d₂ (ix2 p q) = input (fun k => w (ix2 k q)) (gradAt x w b d₀ d₁ d₂ q) p := by
  have g := fun p => grad_apply x w b d₀ d₁ d₂ p q (h p q)
  pointwise [val_main_v66, val_main_v65, val_main_v61, val_main_v60, val_main_v50, val_main_v41, val_main_v33, val_main_v49, val_main_v40,
    val_main_cst_2, val_main_cst_5, val_main_cst_8, val_main_cst_12]
  have e3 : val_main_v29 (F := Ideal) x w b d₀ d₁ d₂ (ix2 p q) = w (ix2 3 q) * gradAt x w b d₀ d₁ d₂ q p := by
    pointwise [val_main_v29, val_main_v28, val_main_v20]
    rw [g]
  have e2 : ∀ p, val_main_v36 (F := Ideal) x w b d₀ d₁ d₂ (ix2 p q) = w (ix2 2 q) * gradAt x w b d₀ d₁ d₂ q p := fun p => by
    pointwise [val_main_v36, val_main_v35, val_main_v15]
    rw [g]
  have e1 : ∀ p, val_main_v45 (F := Ideal) x w b d₀ d₁ d₂ (ix2 p q) = w (ix2 1 q) * gradAt x w b d₀ d₁ d₂ q p := fun p => by
    pointwise [val_main_v45, val_main_v44, val_main_v10]
    rw [g]
  have e0 : ∀ p, val_main_v56 (F := Ideal) x w b d₀ d₁ d₂ (ix2 p q) = w (ix2 0 q) * gradAt x w b d₀ d₁ d₂ q p := fun p => by
    pointwise [val_main_v56, val_main_v55, val_main_v4]
    rw [g]
  refine (congrArg₂ (fun a b : EReal => a + b) (congrArg₂ (fun a b : EReal => a + b) (congrArg₂ (fun a b : EReal => a + b) e3
    (padded _ _ _ e2 1 p (by omega) (by omega))) (padded _ _ _ e1 2 p (by omega) (by omega))) (padded _ _ _ e0 3 p (by omega) (by omega))).trans ?_
  unfold input
  show (_ : EReal) = _
  abel

end Cert.Reference16Ideal.Conv
-- ==== Proof.ConvBackFinal.lean ====
module

public import proofs.«01_k».proof.Proof.Gen.Pre_finite_conv
public import proofs.«01_k».proof.Proof.ConvBack

@[expose] public section

/-! # The backward pass of the gated convolution: the arrays after the run -/

set_option maxRecDepth 16384

noncomputable section

open Idealize.ShloMosaic Idealize.ShloMosaic.TcCoe Idealize.SL.Sem
open Idealize.ShloMosaic.Pipeline (Dat)

namespace Cert.Kernel16Ideal.Conv

open Cert.Kernel16Ideal Cert.Kernel16Ideal.Gen Cert.ConvColumn Cert.Reference16Ideal.Conv

/-! ## The gradients that come in are real -/

/-- A value whose magnitude is below infinity is real. -/
theorem real_at (z : EReal) (h : FloatOps.cmpf (F := Ideal) (φ := .f32) .olt (FloatOps.hostAbsf (F := Ideal) (φ := .f32) z) (FloatOps.ofBits (F := Ideal) .f32 0x7F800000#32) = 1#1) :
    ∃ r : ℝ, z = r := by
  have top : FloatOps.ofBits (F := Ideal) .f32 0x7F800000#32 = (⊤ : EReal) := by
    show Ideal.ofBits .f32 0x7F800000#32 = ⊤
    simp [Ideal.ofBits, Ideal.ieee]
  rw [top] at h
  have lt : max z (-z) < ⊤ := of_decide_eq_true ((BitVec.ofBool_eq_iff_eq).mp h)
  induction z with
  | bot => exact absurd lt (by simp)
  | top => exact absurd lt (by simp)
  | coe r => exact ⟨r, rfl⟩

theorem real_incoming [Cert.Pre_finite_conv.Facts] (x0 : FVec Ideal S2048x6144 .f32) (x1 : FVec Ideal S4x2048 .f32) (x2 : FVec Ideal S1x2048 .f32)
    (x3 : FVec Ideal S2048x1024 .f32) (x4 x5 : FVec Ideal S2048x512 .f32)
    (h : Cert.Pre_finite_conv.fn (F := Ideal) x0 x1 x2 x3 x4 x5 = fun _ => 1#1) (p q : Fin 2048) : ∃ d : ℝ, incoming x3 x4 x5 q p = d := by
  have h := congrFun h ix0
  unfold Cert.Pre_finite_conv.fn at h
  simp only [WordCmp.andi_at, IntOp.andi_eq_one] at h
  obtain ⟨⟨h3, h4⟩, h5⟩ := h
  have r3 : ∀ i, ∃ r : ℝ, x3 i = r := fun i => real_at _ (Host.reduce_andi_all _ _ _ _ _ h3 i)
  have r4 : ∀ i, ∃ r : ℝ, x4 i = r := fun i => real_at _ (Host.reduce_andi_all _ _ _ _ _ h4 i)
  have r5 : ∀ i, ∃ r : ℝ, x5 i = r := fun i => real_at _ (Host.reduce_andi_all _ _ _ _ _ h5 i)
  unfold incoming
  pointwise [Cert.Reference16Ideal.Read.val_main_v26]
  by_cases h1 : q.val < 1024
  · rw [dif_pos h1]
    exact r3 _
  · rw [dif_neg h1]
    by_cases h2 : q.val - 1024 < 512
    · rw [dif_pos h2]
      exact r4 _
    · rw [dif_neg h2]
      exact r5 _

variable (m : (ℓ : Loc nD τ sig) → Buf (Elt Ideal) ℓ)

/-! ## The blocks of a point -/

theorem idx : ∀ t : Fin cfg0.N, win0_0.index t = ![0, 16 + t.val] ∧ win0_1.index t = ![0, t.val] ∧ win0_2.index t = ![0, t.val]
    ∧ win0_3.index t = ![0, min t.val 3] ∧ win0_4.index t = ![0, min (t.val - 4) 1] ∧ win0_5.index t = ![0, min (t.val - 6) 1]
    ∧ win0_6.index t = ![0, t.val] ∧ win0_7.index t = ![0, t.val] ∧ win0_8.index t = ![0, t.val] := (by decide +kernel : ∀ t : Fin grid0.N, _)

/-- The channel that column `q` of a point's blocks is. -/
def chan (t : Fin cfg0.N) (q : Fin 256) : Fin 2048 := ⟨t.val * 256 + q.val, by have := lt_of_lt_of_eq t.isLt N_0; omega⟩

/-- Which of the three gradients a point reads. -/
theorem pick (t : Fin cfg0.N) (a b d : FVec Ideal S2048x256 .f32) :
    k0_pay1 (F := Ideal) (grid0.coords t) a b d = if t.val < 4 then a else if t.val < 6 then b else d := by
  have e : ((grid0.coords t) 0).val = t.val := (by decide +kernel : ∀ t : Fin grid0.N, ((grid0.coords t) 0).val = t.val) t
  have ht := lt_of_lt_of_eq t.isLt N_0
  unfold k0_pay1
  simp only [e]
  have s4 : Scalar.cmpi .slt (BitVec.ofNat 32 t.val) 4#32 = BitVec.ofBool (decide (t.val < 4)) := WordCmp.cmpi_slt_ofNat (by omega) (by omega)
  have s6 : Scalar.cmpi .slt (BitVec.ofNat 32 t.val) 6#32 = BitVec.ofBool (decide (t.val < 6)) := WordCmp.cmpi_slt_ofNat (by omega) (by omega)
  rw [s4, s6]
  by_cases h4 : t.val < 4 <;> by_cases h6 : t.val < 6 <;> simp [Scalar.select, h4, h6]

variable (c : Dev nD)

abbrev arg0 : FVec Ideal S2048x6144 .f32 := m ((c : Thread nD τ).loc main_arg0)
abbrev arg1 : FVec Ideal S4x2048 .f32 := m ((c : Thread nD τ).loc main_arg1)
abbrev arg2 : FVec Ideal S1x2048 .f32 := m ((c : Thread nD τ).loc main_arg2)
abbrev arg3 : FVec Ideal S2048x1024 .f32 := m ((c : Thread nD τ).loc main_arg3)
abbrev arg4 : FVec Ideal S2048x512 .f32 := m ((c : Thread nD τ).loc main_arg4)
abbrev arg5 : FVec Ideal S2048x512 .f32 := m ((c : Thread nD τ).loc main_arg5)

theorem blk_x (t : Fin cfg0.N) (p : Fin 2048) (q : Fin 256) :
    (show FVec Ideal S2048x256 .f32 from iblk m c 0 t) (ix2 p q) = col (arg0 m c) (chan t q) p := by
  unfold col
  blk_point [iblk, V, chan, idx t]

theorem blk_w (t : Fin cfg0.N) (k : Fin 4) (q : Fin 256) :
    (show FVec Ideal S4x256 .f32 from iblk m c 1 t) (ix2 k q) = arg1 m c (ix2 k (chan t q)) := by
  blk_point [iblk, V, chan, idx t]

theorem blk_b (t : Fin cfg0.N) (q : Fin 256) :
    (show FVec Ideal S1x256 .f32 from iblk m c 2 t) (ix2 0 q) = arg2 m c (ix2 0 (chan t q)) := by
  blk_point [iblk, V, chan, idx t]

theorem blk_d (t : Fin cfg0.N) (p : Fin 2048) (q : Fin 256) :
    k0_pay1 (F := Ideal) (grid0.coords t) (iblk m c 3 t) (iblk m c 4 t) (iblk m c 5 t) (ix2 p q)
      = incoming (arg3 m c) (arg4 m c) (arg5 m c) (chan t q) p := by
  have ht := lt_of_lt_of_eq t.isLt N_0
  have e3 : t.val < 4 → (show FVec Ideal S2048x256 .f32 from iblk m c 3 t) (ix2 p q) = arg3 m c (ix2 p ⟨min t.val 3 * 256 + q.val, by omega⟩) := fun h => by
    blk_point [iblk, V, idx t]
  have e4 : (show FVec Ideal S2048x256 .f32 from iblk m c 4 t) (ix2 p q) = arg4 m c (ix2 p ⟨min (t.val - 4) 1 * 256 + q.val, by omega⟩) := by
    blk_point [iblk, V, idx t]
  have e5 : (show FVec Ideal S2048x256 .f32 from iblk m c 5 t) (ix2 p q) = arg5 m c (ix2 p ⟨min (t.val - 6) 1 * 256 + q.val, by omega⟩) := by
    blk_point [iblk, V, idx t]
  rw [pick]
  unfold incoming
  pointwise [Cert.Reference16Ideal.Read.val_main_v26]
  have hq : (chan t q).val = t.val * 256 + q.val := rfl
  by_cases h4 : t.val < 4
  · rw [if_pos h4, dif_pos (by omega)]
    refine (e3 h4).trans (congrArg (fun r => arg3 m c (ix2 p r)) (Fin.ext ?_))
    show min t.val 3 * 256 + q.val = t.val * 256 + q.val
    omega
  · rw [if_neg h4, dif_neg (by omega)]
    by_cases h6 : t.val < 6
    · rw [if_pos h6, dif_pos (by omega)]
      refine e4.trans (congrArg (fun r => arg4 m c (ix2 p r)) (Fin.ext ?_))
      show min (t.val - 4) 1 * 256 + q.val = t.val * 256 + q.val - 1024
      omega
    · rw [if_neg h6, dif_neg (by omega)]
      refine e5.trans (congrArg (fun r => arg5 m c (ix2 p r)) (Fin.ext ?_))
      show min (t.val - 6) 1 * 256 + q.val = t.val * 256 + q.val - 1024 - 512
      omega

/-- The gradient before the gate of a column, off the arguments. -/
abbrev G (q : Fin 2048) : Fin 2048 → EReal := gradAt (arg0 m c) (arg1 m c) (arg2 m c) (arg3 m c) (arg4 m c) (arg5 m c) q

theorem grad_blk (t : Fin cfg0.N) (q : Fin 256) :
    grad (fun p => (show FVec Ideal S2048x256 .f32 from iblk m c 0 t) (ix2 p q)) (fun k => (show FVec Ideal S4x256 .f32 from iblk m c 1 t) (ix2 k q))
        ((show FVec Ideal S1x256 .f32 from iblk m c 2 t) (ix2 0 q))
        (fun p => k0_pay1 (F := Ideal) (grid0.coords t) (iblk m c 3 t) (iblk m c 4 t) (iblk m c 5 t) (ix2 p q))
      = G m c (chan t q) :=
  congr (congr (congr (congrArg grad (funext fun p => blk_x m c t p q)) (funext fun k => blk_w m c t k q)) (blk_b m c t q)) (funext fun p => blk_d m c t p q)

/-! ## The arrays after the run -/

/-- The gradient of the input. -/
theorem final_dx : (dats m 0 c).arrAt 6 cfg0.N = fun i => input (fun k => arg1 m c (ix2 k (i 1))) (G m c (i 1)) (i 0) := by
  refine (dats m 0 c).arrAt_eq_of_covers 6 _ (by decide +kernel) fun t _ y => ?_
  blk_simp
  rw [after0_6]
  unfold outsAt0
  frame_out
  obtain ⟨p, q, rfl⟩ : ∃ (p : Fin 2048) (q : Fin 256), y = ix2 p q := ⟨y 0, y 1, funext fun a => by match a with | ⟨0, _⟩ => rfl | ⟨1, _⟩ => rfl⟩
  refine (input_apply _ _ _ _ p q).trans ?_
  have e : (win0_6.blk t).view.emb (ix2 p q) = ix2 p (chan t q) := by blk_ext [chan, idx t]
  rw [e]
  exact congr (congr (congrArg input (funext fun k => blk_w m c t k q)) (grad_blk m c t q)) rfl

/-- The gradient of the bias. -/
theorem final_db : (dats m 0 c).arrAt 8 cfg0.N = fun i => ∑ p : Fin 2048, G m c (i 1) p := by
  refine (dats m 0 c).arrAt_eq_of_covers 8 _ (by decide +kernel) fun t _ y => ?_
  blk_simp
  rw [after0_8]
  unfold outsAt0
  frame_out
  obtain ⟨q, rfl⟩ : ∃ q : Fin 256, y = ix2 0 q := ⟨y 1, funext fun a => by match a with | ⟨0, _⟩ => exact Subsingleton.elim (α := Fin 1) _ _ | ⟨1, _⟩ => rfl⟩
  refine (bias_apply _ _ _ _ q).trans ?_
  have e : (win0_8.blk t).view.emb (ix2 0 q) = ix2 0 (chan t q) := by blk_ext [chan, idx t]
  rw [e]
  exact Finset.sum_congr (M := EReal) rfl fun p _ => congrFun (grad_blk m c t q) p

/-- The gradient of the weights: four rows, and four rows of zeros after them. -/
def tile : FVec Ideal S8x2048 .f32 := fun i => if h : (i 0).val < 4 then weight (col (arg0 m c) (i 1)) (G m c (i 1)) ⟨(i 0).val, h⟩ else 0

theorem weight_blk (t : Fin cfg0.N) (q : Fin 256) (k : Fin 4) :
    weight (fun p => (show FVec Ideal S2048x256 .f32 from iblk m c 0 t) (ix2 p q))
      (grad (fun p => (show FVec Ideal S2048x256 .f32 from iblk m c 0 t) (ix2 p q)) (fun k => (show FVec Ideal S4x256 .f32 from iblk m c 1 t) (ix2 k q))
        ((show FVec Ideal S1x256 .f32 from iblk m c 2 t) (ix2 0 q))
        (fun p => k0_pay1 (F := Ideal) (grid0.coords t) (iblk m c 3 t) (iblk m c 4 t) (iblk m c 5 t) (ix2 p q))) k
      = weight (col (arg0 m c) (chan t q)) (G m c (chan t q)) k :=
  congr (congr (congrArg weight (funext fun p => blk_x m c t p q)) (grad_blk m c t q)) rfl

theorem tile_row (q : Fin 2048) (k : Fin 4) (i : S8x2048.Idx) (h0 : (i 0).val = k.val) (h1 : (i 1).val = q.val) :
    tile m c i = weight (col (arg0 m c) q) (G m c q) k := by
  obtain rfl : i 1 = q := Fin.ext h1
  exact (dif_pos (by omega)).trans (congrArg (weight (col (arg0 m c) (i 1)) (G m c (i 1))) (Fin.ext h0))

theorem tile_rest (i : S8x2048.Idx) (h : 4 ≤ (i 0).val) : tile m c i = 0 := dif_neg (by omega)

theorem piece_row (t : Fin cfg0.N) (q : Fin 256) (k : Fin 4) (h : ∀ a, (![k.val, 0] : Fin 2 → ℕ) a + (![1, 256] : Fin 2 → ℕ) a ≤ S8x256.size a) :
    tile m c ((win0_7.blk t).view.emb ((Rect.unit (s := S8x256) ![k.val, 0] ![1, 256] h).emb (ix2 0 q))) = weight (col (arg0 m c) (chan t q)) (G m c (chan t q)) k := by
  refine tile_row m c (chan t q) k _ ?_ ?_
  · blk_simp [idx t]
    exact Nat.add_zero _
  · blk_simp [idx t, chan]

theorem rest_apply (x : S4x256.Idx) : k0_pay15 (F := Ideal) x = 0 := by pointwise [k0_pay15]

theorem single (x : S1x256.Idx) : ∃ q : Fin 256, x = ix2 0 q :=
  ⟨x 1, funext fun a => by match a with | ⟨0, _⟩ => exact Subsingleton.elim (α := Fin 1) _ _ | ⟨1, _⟩ => rfl⟩

theorem final_tile : (dats m 0 c).arrAt 7 cfg0.N = tile m c := by
  refine (dats m 0 c).arrAt_eq_of_covers 7 _ (by decide +kernel) fun t _ y => ?_
  blk_simp
  rw [after0_7]
  unfold outsAt0
  frame_out
  refine View.canon_apply_of_pieces (Val := Elt Ideal) (S := S8x256) (e := .f32) (fun y : S8x256.Idx => tile m c ((win0_7.blk t).view.emb y)) _ ?_ y ?_
  · refine List.forall_mem_cons.mpr ⟨fun x => ?_, List.forall_mem_cons.mpr ⟨fun x => ?_, List.forall_mem_cons.mpr ⟨fun x => ?_,
      List.forall_mem_cons.mpr ⟨fun x => ?_, List.forall_mem_cons.mpr ⟨fun x => ?_, fun p hp => absurd hp List.not_mem_nil⟩⟩⟩⟩⟩
    · refine (rest_apply x).trans (tile_rest m c _ ?_).symm
      have e : ((win0_7.blk t).view.emb ((Rect.unit (s := S8x256) ![4, 0] ![4, 256] inb_S8x256_S4x256_4_0).emb x) 0).val = 4 + (x 0).val := by
        blk_simp [idx t]
      exact e.symm ▸ Nat.le_add_right 4 _
    · obtain ⟨q, rfl⟩ := single x
      exact ((weight2_apply _ _ _ _ q).trans (weight_blk m c t q 2)).trans (piece_row m c t q 2 inb_S8x256_S1x256_2_0).symm
    · obtain ⟨q, rfl⟩ := single x
      exact ((weight1_apply _ _ _ _ q).trans (weight_blk m c t q 1)).trans (piece_row m c t q 1 inb_S8x256_S1x256_1_0).symm
    · obtain ⟨q, rfl⟩ := single x
      exact ((weight0_apply _ _ _ _ q).trans (weight_blk m c t q 0)).trans (piece_row m c t q 0 inb_S8x256_S1x256_0_0).symm
    · obtain ⟨q, rfl⟩ := single x
      exact ((weight3_apply _ _ _ _ q).trans (weight_blk m c t q 3)).trans (piece_row m c t q 3 inb_S8x256_S1x256_3_0).symm
  · exact View.cover_of_tiledBy _ ![1, 256] (by sl_kernel_rfl) y

/-- The line after the call: the first four rows. -/
theorem tail : Pipeline.afterTail₀ cfgs (dats m) 0 (V0 m) [hostOps1] c main_v1
    = extractStridedSlice S4x2048 ![0, 0] (show FVec Ideal S8x2048 .f32 from (dats m 0 c).arrAt 7 cfg0.N) slices_S8x2048_S4x2048_0_0 := by
  unfold Pipeline.afterTail₀
  simp only [hostOps1, List.flatten_cons, List.flatten_nil, List.append_nil, List.cons_append, List.nil_append]
  simp only [StableHlo.after_cons, StableHlo.after_nil]
  after_results_simp
  have e : Pipeline.withArrays (cfgs 0).spec c (V0 m c) (fun w => (dats m 0 c).arrAt w (cfgs 0).N) (Proc.devRef .tc main_v0_1)
    = (dats m 0 c).arrAt 7 cfg0.N := Pipeline.withArrays_arr (cfgs 0).spec (by decide) c (V0 m c) _ 7
  rw [e]

theorem final_dw : Pipeline.afterTail₀ cfgs (dats m) 0 (V0 m) [hostOps1] c main_v1
    = fun i => weight (col (arg0 m c) (i 1)) (G m c (i 1)) (i 0) := by
  refine (tail m c).trans (funext fun j => ?_)
  obtain ⟨k, q, rfl⟩ : ∃ (k : Fin 4) (q : Fin 2048), j = ix2 k q := ⟨j 0, j 1, funext fun a => by match a with | ⟨0, _⟩ => rfl | ⟨1, _⟩ => rfl⟩
  rw [final_tile]
  pointwise [tile]

/-- The program's run: its three results. -/
theorem run (ρ : Dev nD → PrngReg) : θ_run defs (onTc (τ := τ) (main (F := Ideal))) ⟨m, fun _ => 0, ρ⟩ fun r => ∀ c : Dev nD,
      r.2.mem ((c : Thread nD τ).loc main_v0_0) = (fun i => input (fun k => arg1 m c (ix2 k (i 1))) (G m c (i 1)) (i 0))
      ∧ r.2.mem ((c : Thread nD τ).loc main_v1) = (fun i => weight (col (arg0 m c) (i 1)) (G m c (i 1)) (i 0))
      ∧ r.2.mem ((c : Thread nD τ).loc main_v0_2) = (fun i => ∑ p : Fin 2048, G m c (i 1) p) :=
  (θ_run defs _ _).mono (fun r h c => ⟨((h c).1 6).trans (final_dx m c),
    ((h c).2 main_v1 (Pipeline.mem_restRefs_of main_v1 (by decide) (by decide))).trans (final_dw m c),
    ((h c).1 8).trans (final_db m c)⟩) (run_main m ρ)

end Cert.Kernel16Ideal.Conv

namespace Cert.Proof

open Cert.Kernel16Ideal.Conv Cert.Reference16Ideal.Conv

/-- The backward pass of the gated convolution is the reference's. -/
theorem conv_grad : Cert.algebraic_Kernel16Ideal_Reference16Ideal_pre_finite_conv (hPre_finite_conv := Cert.Pre_finite_conv.Gen.facts) := fun m g m' g' hp hm =>
  ⟨_, _, _, (θ_run_and (Cert.Kernel16Ideal.Conv.run m g) (Cert.Kernel16Ideal.Gen.unchanged m g)).mono fun r h c => ⟨(h.1 c).1, (h.1 c).2.1, (h.1 c).2.2, h.2 c⟩,
    (θ_run Cert.Reference16Ideal.defs _ _).mono (fun r h c => by
      have real := real_incoming _ _ _ _ _ _ (hp c)
      obtain ⟨m0, m1, m2, m3, m4, m5⟩ := hm c
      obtain ⟨r0, r1, r2, r'⟩ := h c
      refine ⟨r0.trans ?_, r1.trans ?_, r2.trans ?_, r'⟩
      · rw [Cert.Reference16Ideal.Read.val_main_v66_eq, m0, m1, m2, m3, m4, m5]
        funext i
        obtain ⟨p, q, rfl⟩ : ∃ (p : Fin 2048) (q : Fin 2048), i = ix2 p q := ⟨i 0, i 1, funext fun a => by match a with | ⟨0, _⟩ => rfl | ⟨1, _⟩ => rfl⟩
        exact Cert.Reference16Ideal.Conv.input_apply _ _ _ _ _ _ real p q
      · rw [Cert.Reference16Ideal.Read.val_main_v63_eq, m0, m1, m2, m3, m4, m5]
        funext i
        obtain ⟨k, q, rfl⟩ : ∃ (k : Fin 4) (q : Fin 2048), i = ix2 k q := ⟨i 0, i 1, funext fun a => by match a with | ⟨0, _⟩ => rfl | ⟨1, _⟩ => rfl⟩
        exact Cert.Reference16Ideal.Conv.weight_apply _ _ _ _ _ _ real k q
      · rw [Cert.Reference16Ideal.Read.val_main_v54_eq, m0, m1, m2, m3, m4, m5]
        funext i
        obtain ⟨q, rfl⟩ : ∃ q : Fin 2048, i = ix2 0 q := ⟨i 1, funext fun a => by match a with | ⟨0, _⟩ => exact Subsingleton.elim (α := Fin 1) _ _ | ⟨1, _⟩ => rfl⟩
        exact Cert.Reference16Ideal.Conv.bias_apply _ _ _ _ _ _ real q)
      (Cert.Reference16Ideal.Value.run (F := Ideal) m' g')⟩

/-- The reference's frame. -/
theorem conv_frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

end Cert.Proof
-- ==== Proof.CrossFinal.lean ====
/- The cross attention's gradient: the kernel's five results are the reference's for real arguments. -/
module

public import proofs.«01_k».proof.Proof.CrossRun
public import proofs.«01_k».proof.Proof.CrossRef
public import proofs.«01_k».proof.Proof.CrossSum
public import proofs.«01_k».proof.Proof.ConvBackFinal
public import proofs.«01_k».proof.Proof.Gen.Kernel17Ideal.Value
public import proofs.«01_k».proof.Proof.Gen.Reference17Ideal.Run
public import proofs.«01_k».proof.Proof.Gen.Pre_finite_cross
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel17Ideal.Cross

open Cert.Kernel17Ideal Cert.Kernel17Ideal.Gen Cert.Cross Cert.Reference17Ideal.Read Cert.Reference17Ideal.Cross

/-- The precondition's arguments are real. -/
theorem real_args [Cert.Pre_finite_cross.Facts] (x0 : FVec Ideal S2048x512 .f32) (x1 : FVec Ideal S256x1024 .f32) (x2 x3 : FVec Ideal S1x128 .f32)
    (x4 : FVec Ideal S2048x512 .bf16) (h : Cert.Pre_finite_cross.fn (F := Ideal) x0 x1 x2 x3 x4 = fun _ => 1#1) : Cert.Cross.Real x0 x1 x2 x3 x4 := by
  have h := congrFun h ix0
  unfold Cert.Pre_finite_cross.fn Cert.Pre_finite_cross.fn_part1 at h
  simp only [WordCmp.andi_at, IntOp.andi_eq_one] at h
  obtain ⟨⟨⟨⟨h0, h1⟩, h2⟩, h3⟩, h4⟩ := h
  exact ⟨fun i => Cert.Kernel16Ideal.Conv.real_at _ (Host.reduce_andi_all _ _ _ _ _ h0 i), fun i => Cert.Kernel16Ideal.Conv.real_at _ (Host.reduce_andi_all _ _ _ _ _ h1 i),
    fun i => Cert.Kernel16Ideal.Conv.real_at _ (Host.reduce_andi_all _ _ _ _ _ h2 i), fun i => Cert.Kernel16Ideal.Conv.real_at _ (Host.reduce_andi_all _ _ _ _ _ h3 i),
    fun i => Cert.Kernel16Ideal.Conv.real_at _ (Host.reduce_andi_all _ _ _ _ _ h4 i)⟩

variable (m : (ℓ : Loc nD τ sig) → Buf (Elt Ideal) ℓ) (c : Dev nD) (R : Cert.Cross.Real (a0 m c) (a1 m c) (a2 m c) (a3 m c) (a4 m c))

include R

theorem final_q : (dats m 0 c).arrAt 6 cfg0.N = val_main_v142 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out_q]
  obtain ⟨p, d, rfl⟩ : ∃ (p : Fin 1024) (d : Fin 128), y = ix2 p d := ⟨y 0, y 1, funext fun a => by match a with | ⟨0, _⟩ => rfl | ⟨1, _⟩ => rfl⟩
  have e : (win0_6.blk t).view.emb (ix2 p d) = ix2 (at' (part t) p) (⟨(hd t).val * 128 + d.val, by omega⟩ : Fin 512) := by blk_ext [at', part, hd, idx t]
  rw [e]
  exact (toQ_at m c t p d).trans ((dqK_eq R _ _ d).trans (r142 _ _ _ _ _ (hd t) (at' (part t) p) d).symm)

theorem final_k : (dats m 0 c).arrAt 7 cfg0.N = val_main_v117 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  have h : t.val % 2 = 1 := (flush0_7 t).mp hf
  blk_simp
  rw [after0_7, out_k m c t h]
  obtain ⟨p, d, rfl⟩ : ∃ (p : Fin 256) (d : Fin 128), y = ix2 p d := ⟨y 0, y 1, funext fun a => by match a with | ⟨0, _⟩ => rfl | ⟨1, _⟩ => rfl⟩
  have e : (win0_7.blk t).view.emb (ix2 p d) = ix2 p (⟨(hd t).val * 128 + d.val, by omega⟩ : Fin 512) := by blk_ext [hd, idx t]
  rw [e]
  refine Eq.trans ?_ ((dk_sum R (hd t) p d).trans (r117 _ _ _ _ _ (hd t) p d).symm)
  refine Finset.sum_congr (M := EReal) rfl fun s _ => (toK_at m c _ p d).trans ?_
  rw [show hd ⟨2 * (t.val / 2) + s.val, Pipeline.run_point_lt_of_flush t h s⟩ = hd t from Fin.ext (by simp only [hd]; omega),
    show part ⟨2 * (t.val / 2) + s.val, Pipeline.run_point_lt_of_flush t h s⟩ = s from Fin.ext (by simp only [part]; omega)]

theorem final_v : (dats m 0 c).arrAt 8 cfg0.N = val_main_v79 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t hf y => ?_
  have h : t.val % 2 = 1 := (flush0_8 t).mp hf
  blk_simp
  rw [after0_8, out_v m c t h]
  obtain ⟨p, d, rfl⟩ : ∃ (p : Fin 256) (d : Fin 128), y = ix2 p d := ⟨y 0, y 1, funext fun a => by match a with | ⟨0, _⟩ => rfl | ⟨1, _⟩ => rfl⟩
  have e : (win0_8.blk t).view.emb (ix2 p d) = ix2 p (⟨(hd t).val * 128 + d.val, by omega⟩ : Fin 512) := by blk_ext [hd, idx t]
  rw [e]
  refine Eq.trans ?_ ((dv_sum R (hd t) p d).trans (r79 _ _ _ _ _ (hd t) p d).symm)
  refine Finset.sum_congr (M := EReal) rfl fun s _ => (toV_at m c _ p d).trans ?_
  rw [show hd ⟨2 * (t.val / 2) + s.val, Pipeline.run_point_lt_of_flush t h s⟩ = hd t from Fin.ext (by simp only [hd]; omega),
    show part ⟨2 * (t.val / 2) + s.val, Pipeline.run_point_lt_of_flush t h s⟩ = s from Fin.ext (by simp only [part]; omega)]

theorem final_gq : (dats m 0 c).arrAt 9 cfg0.N = val_main_v140 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 9 _ (by decide +kernel) fun t hf y => ?_
  have h : t.val % 8 = 7 := (flush0_9 t).mp hf
  have hN := lt_of_lt_of_eq t.isLt N_0
  blk_simp
  rw [after0_9, out_gq m c t h]
  obtain ⟨d, rfl⟩ : ∃ d : Fin 128, y = ix2 0 d := ⟨y 1, funext fun a => by match a with | ⟨0, _⟩ => exact Subsingleton.elim (α := Fin 1) _ _ | ⟨1, _⟩ => rfl⟩
  have e : (win0_9.blk t).view.emb (ix2 0 d) = ix2 (0 : Fin 1) d := by blk_ext [idx t]
  rw [e]
  refine Eq.trans ?_ ((dgq_sum R d).trans (r140 _ _ _ _ _ d).symm)
  refine Finset.sum_congr (M := EReal) rfl fun s _ => (toGq_at m c _ d).trans ?_
  rw [show hd ⟨8 * (t.val / 8) + s.val, Pipeline.run_point_lt_of_flush t h s⟩ = ⟨s.val / 2, by omega⟩ from Fin.ext (by simp only [hd]; omega),
    show part ⟨8 * (t.val / 8) + s.val, Pipeline.run_point_lt_of_flush t h s⟩ = ⟨s.val % 2, by omega⟩ from Fin.ext (by simp only [part]; omega)]

theorem final_gk : (dats m 0 c).arrAt 10 cfg0.N = val_main_v116 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 10 _ (by decide +kernel) fun t hf y => ?_
  have h : t.val % 8 = 7 := (flush0_10 t).mp hf
  have hN := lt_of_lt_of_eq t.isLt N_0
  blk_simp
  rw [after0_10, out_gk m c t h]
  obtain ⟨d, rfl⟩ : ∃ d : Fin 128, y = ix2 0 d := ⟨y 1, funext fun a => by match a with | ⟨0, _⟩ => exact Subsingleton.elim (α := Fin 1) _ _ | ⟨1, _⟩ => rfl⟩
  have e : (win0_10.blk t).view.emb (ix2 0 d) = ix2 (0 : Fin 1) d := by blk_ext [idx t]
  rw [e]
  refine Eq.trans ?_ ((dgk_sum R d).trans (r116 _ _ _ _ _ d).symm)
  refine Finset.sum_congr (M := EReal) rfl fun s _ => (toGk_at m c _ d).trans ?_
  rw [show hd ⟨8 * (t.val / 8) + s.val, Pipeline.run_point_lt_of_flush t h s⟩ = ⟨s.val / 2, by omega⟩ from Fin.ext (by simp only [hd]; omega),
    show part ⟨8 * (t.val / 8) + s.val, Pipeline.run_point_lt_of_flush t h s⟩ = ⟨s.val % 2, by omega⟩ from Fin.ext (by simp only [part]; omega)]

end Cert.Kernel17Ideal.Cross

namespace Cert.Proof

open Cert.Kernel17Ideal.Cross

/-- The gradient of the cross attention is the reference's. -/
theorem cross_grad : Cert.algebraic_Kernel17Ideal_Reference17Ideal_pre_finite_cross (hPre_finite_cross := Cert.Pre_finite_cross.Gen.facts) := fun m g m' g' hp hm =>
  ⟨_, _, _, _, _, (θ_run Cert.Kernel17Ideal.defs _ _).mono (fun r h c => by
      have R := letI := Cert.Pre_finite_cross.Gen.facts; real_args _ _ _ _ _ (hp c)
      obtain ⟨k0, k1, k2, k3, k4, k'⟩ := h c
      exact ⟨k0.trans (final_q m c R), k1.trans (final_k m c R), k2.trans (final_v m c R), k3.trans (final_gq m c R), k4.trans (final_gk m c R), k'⟩)
      (Cert.Kernel17Ideal.Value.run_blocks m g),
    (θ_run Cert.Reference17Ideal.defs _ _).mono (fun r h c => by
      obtain ⟨m0, m1, m2, m3, m4⟩ := hm c
      obtain ⟨r0, r1, r2, r3, r4, r'⟩ := h c
      refine ⟨r0.trans ?_, r1.trans ?_, r2.trans ?_, r3.trans ?_, r4.trans ?_, r'⟩
      · rw [Cert.Reference17Ideal.Read.val_main_v142_eq, m0, m1, m2, m3, m4]
      · rw [Cert.Reference17Ideal.Read.val_main_v117_eq, m0, m1, m2, m3, m4]
      · rw [Cert.Reference17Ideal.Read.val_main_v79_eq, m0, m1, m2, m3, m4]
      · rw [Cert.Reference17Ideal.Read.val_main_v140_eq, m0, m1, m2, m3, m4]
      · rw [Cert.Reference17Ideal.Read.val_main_v116_eq, m0, m1, m2, m3, m4])
      (Cert.Reference17Ideal.Value.run (F := Ideal) m' g')⟩

/-- The reference's frame. -/
theorem cross_frame_reference : Cert.quiescent_Reference17Ideal := fun m ρ _ =>
  (θ_run Cert.Reference17Ideal.defs _ _).mono (fun r h => ⟨fun c => (h c).2.2.2.2.2, sem_eq_zero_of_no_sems (by decide) r.2⟩)
    (Cert.Reference17Ideal.Value.run (F := Ideal) m ρ)

end Cert.Proof

end
-- ==== Proof.CrossFwd.lean ====
/- The cross attention: the kernel's heads are the reference's where the scores are real. -/
module

public import proofs.«01_k».proof.Proof.CrossKernel
public import proofs.«01_k».proof.Proof.CrossSum
public import proofs.«01_k».proof.Proof.Loss
public import proofs.«01_k».proof.Proof.ConvBackFinal
public import proofs.«01_k».proof.Proof.Gen.Kernel29Ideal.Value
public import proofs.«01_k».proof.Proof.Gen.Reference29Ideal.Read
public import proofs.«01_k».proof.Proof.Gen.Reference29Ideal.Run
public import proofs.«01_k».proof.Proof.Gen.Pre_finite_scores
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Cross

/-- A query's result: the kernel divides the weighted sum of the values by the weights' sum, the reference each weight. -/
theorem out_eq (s : Fin 256 → ℝ) (v : Fin 256 → EReal) :
    (∑ m, e (fun m => (s m : EReal)) m * v m) * Ideal.div 1 (Z fun m => (s m : EReal))
      = ∑ m, v m * Ideal.div (e (fun m => (s m : EReal)) m) (Z fun m => (s m : EReal)) := by
  obtain ⟨w, hw, ew⟩ := e_real s
  obtain ⟨z, hz, ez⟩ := Z_real s
  rw [ez]
  simp only [ew, Ideal.div_coe hz.ne']
  rw [one_mul, ← Cert.Kernel11Ideal.Loss.sum_mul_real _ _ (by positivity)]
  exact Finset.sum_congr (M := EReal) rfl fun m _ => by rw [mul_comm (w m : EReal), mul_assoc]

/-- The scores are real where the queries, the keys and the gains are: the values do not matter. -/
theorem ss_real_of_keys {x0 : (⟨2, ![2048, 512]⟩ : Shape).Idx → EReal} {x1 : (⟨2, ![256, 1024]⟩ : Shape).Idx → EReal} {x2 x3 : (⟨2, ![1, 128]⟩ : Shape).Idx → EReal}
    (r0 : ∀ i, ∃ r : ℝ, x0 i = r) (r1 : ∀ (m : Fin 256) (d : Fin 512), ∃ r : ℝ, x1 (ix2 m ⟨d.val, by omega⟩) = r) (r2 : ∀ i, ∃ r : ℝ, x2 i = r) (r3 : ∀ i, ∃ r : ℝ, x3 i = r)
    (h : Fin 4) (p : Fin 2048) : ∃ u : Fin 256 → ℝ, ss x0 x1 x2 x3 h p = fun d => (u d : EReal) := by
  obtain ⟨u, eu⟩ := ss_real (x0 := x0) (x1 := fun i => x1 (ix2 (i 0) ⟨(i 1).val % 512, by omega⟩)) (x2 := x2) (x3 := x3) (x4 := fun _ => 0)
    ⟨r0, fun i => r1 (i 0) ⟨(i 1).val % 512, Nat.mod_lt _ (by omega)⟩, r2, r3, fun _ => ⟨0, rfl⟩⟩ h p
  refine ⟨u, eu ▸ ?_⟩
  have k : keyRow x1 h = keyRow (fun i => x1 (ix2 (i 0) ⟨(i 1).val % 512, by omega⟩)) h := funext fun m => funext fun d =>
    congrArg (fun q => x1 (ix2 m q)) (Fin.ext (show h.val * 128 + d.val = (h.val * 128 + d.val) % 512 by omega))
  unfold ss ks
  rw [k]

end Cert.Cross

namespace Cert.Reference29Ideal.Cross

open Cert.Reference29Ideal Cert.Reference29Ideal.Read Cert.Cross

/-! ## The reference's values -/

variable (x0 : FVec Ideal S2048x512 .f32) (x1 : FVec Ideal S256x1024 .f32) (x2 x3 : FVec Ideal S1x128 .f32)

theorem r10 (p : Fin 2048) (h : Fin 4) : val_main_v10 (F := Ideal) x0 (ix3 p h 0) = ms (head x0 h p) := by
  unfold ms
  pointwise [val_main_v10, val_main_v9, val_main_v8, val_main_v7, val_main_v6, val_main_v5, val_main_v4, val_main_v2, val_main_cst, val_main_cst_0, val_main_cst_1]

theorem r18 (p : Fin 2048) (h : Fin 4) (q : Fin 128) : val_main_v18 (F := Ideal) x0 x2 (ix3 p h q) = qs x0 x2 h p q := by
  unfold qs qry key unit
  rw [← r10]
  pointwise [val_main_v18, val_main_v17, val_main_v16, val_main_v15, val_main_v14, val_main_v13, val_main_v12, val_main_v11, val_main_v3, val_main_v2, val_main_cst_2]

theorem r27 (p : Fin 256) (h : Fin 4) : val_main_v27 (F := Ideal) x1 (ix3 p h 0) = ms (keyRow x1 h p) := by
  unfold ms
  pointwise [val_main_v27, val_main_v26, val_main_v25, val_main_v24, val_main_v23, val_main_v22, val_main_v21, val_main_v19, val_main_v0, val_main_cst_3, val_main_cst_4, val_main_cst_5]

theorem r33 (p : Fin 256) (h : Fin 4) (q : Fin 128) : val_main_v33 (F := Ideal) x1 x3 (ix3 p h q) = ks x1 x3 h p q := by
  unfold ks key unit
  rw [← r27]
  pointwise [val_main_v33, val_main_v32, val_main_v31, val_main_v30, val_main_v29, val_main_v28, val_main_v20, val_main_v19, val_main_v0]

theorem r34 (h : Fin 4) (p : Fin 2048) (m : Fin 256) : val_main_v34 (F := Ideal) x0 x1 x2 x3 (ix3 h p m) = ss x0 x1 x2 x3 h p m := by
  unfold ss score
  simp only [← r18, ← r33]
  pointwise [val_main_v34]

theorem r35 (h : Fin 4) (p : Fin 2048) : val_main_v35 (F := Ideal) x0 x1 x2 x3 (ix2 h p) = top (ss x0 x1 x2 x3 h p) := by
  unfold top
  simp only [← r34]
  pointwise [val_main_v35, val_main_cst_6]

/-- The largest of negative infinity and a value. -/
theorem max_least (y : FVec Ideal S4x2048 .f32) (i : S4x2048.Idx) : maximumf (F := Ideal) (val_main_v36 (F := Ideal)) y i = y i := by
  have e : val_main_v36 (F := Ideal) i = (⊥ : EReal) := by
    pointwise [val_main_v36, val_main_cst_7]
    simp [Ideal.ofBits, Ideal.ieee]
  show max (val_main_v36 (F := Ideal) i) (y i) = y i
  rw [e]
  exact max_eq_right bot_le

theorem r37 (h : Fin 4) (p : Fin 2048) : val_main_v37 (F := Ideal) x0 x1 x2 x3 (ix2 h p) = top (ss x0 x1 x2 x3 h p) :=
  (max_least _ _).trans (r35 _ _ _ _ h p)

theorem r41 (h : Fin 4) (p : Fin 2048) (m : Fin 256) : val_main_v41 (F := Ideal) x0 x1 x2 x3 (ix3 h p m) = e (ss x0 x1 x2 x3 h p) m := by
  unfold e
  rw [← r34, ← r37]
  pointwise [val_main_v41, val_main_v40, val_main_v39, val_main_v38]

theorem r42 (h : Fin 4) (p : Fin 2048) : val_main_v42 (F := Ideal) x0 x1 x2 x3 (ix2 h p) = Z (ss x0 x1 x2 x3 h p) := by
  unfold Z
  simp only [← r41]
  pointwise [val_main_v42, val_main_cst_8]

theorem r50 (h : Fin 4) (p : Fin 2048) (d : Fin 128) :
    val_main_v50 (F := Ideal) x0 x1 x2 x3 (ix2 p ⟨h.val * 128 + d.val, by omega⟩)
      = ∑ m : Fin 256, valRow x1 h m d * Ideal.div (e (ss x0 x1 x2 x3 h p) m) (Z (ss x0 x1 x2 x3 h p)) := by
  simp only [← r41, ← r42]
  pointwise [val_main_v50, val_main_v49, val_main_v48, val_main_v47, val_main_v46, val_main_v45, val_main_v44, val_main_v43, val_main_v1]

end Cert.Reference29Ideal.Cross

namespace Cert.Kernel29Ideal.Cross

open Cert.Kernel29Ideal Cert.Kernel29Ideal.Gen Cert.Cross Cert.Reference29Ideal.Read Cert.Reference29Ideal.Cross
open Cert.Kernel17Ideal.Cross (row)

theorem pay2 (q : FVec Ideal S1024x128 .f32) (k : FVec Ideal S256x128 .f32) (gq gk : FVec Ideal S1x128 .f32) (p : Fin 1024) (n : Fin 256) :
    k0_pay2 (F := Ideal) q k gq gk (ix2 p n) = e (score (qry (row q p) (row gq 0)) fun n => key (row k n) (row gk 0)) n := by
  unfold e top score qry key unit ms
  pointwise [k0_pay2]

theorem pay1 (v : FVec Ideal S256x128 .f32) (w : FVec Ideal S1024x256 .f32) (p : Fin 1024) (d : Fin 128) :
    k0_pay1 (F := Ideal) v w (ix2 p d) = (∑ n : Fin 256, w (ix2 p n) * v (ix2 n d)) * Ideal.div 1 (∑ n : Fin 256, w (ix2 p n)) := by
  pointwise [k0_pay1]

variable (m : (ℓ : Loc nD τ sig) → Buf (Elt Ideal) ℓ) (c : Dev nD)

/-- Every window's block index at a grid point. -/
theorem idx : ∀ t : Fin cfg0.N, win0_0.index t = ![t.val % 2, t.val / 2] ∧ win0_1.index t = ![0, t.val / 2] ∧ win0_2.index t = ![0, 4 + t.val / 2]
    ∧ win0_3.index t = ![0, 0] ∧ win0_4.index t = ![0, 0] ∧ win0_5.index t = ![t.val % 2, t.val / 2] :=
  (by decide +kernel : ∀ t : Fin grid0.N, _)

/-- A point's head and block of queries. -/
def hd (t : Fin cfg0.N) : Fin 4 := ⟨t.val / 2, by have := lt_of_lt_of_eq t.isLt N_0; omega⟩
def part (t : Fin cfg0.N) : Fin 2 := ⟨t.val % 2, by omega⟩

abbrev a0 : S2048x512.Idx → EReal := m ((c : Thread nD τ).loc main_arg0)
abbrev a1 : S256x1024.Idx → EReal := m ((c : Thread nD τ).loc main_arg1)
abbrev a2 : S1x128.Idx → EReal := m ((c : Thread nD τ).loc main_arg2)
abbrev a3 : S1x128.Idx → EReal := m ((c : Thread nD τ).loc main_arg3)

/-- The blocks a point reads. -/
def b0 (t : Fin cfg0.N) : FVec Ideal S1024x128 .f32 := iblk m c 0 t
def b1 (t : Fin cfg0.N) : FVec Ideal S256x128 .f32 := iblk m c 1 t
def b2 (t : Fin cfg0.N) : FVec Ideal S256x128 .f32 := iblk m c 2 t
def b3 (t : Fin cfg0.N) : FVec Ideal S1x128 .f32 := iblk m c 3 t
def b4 (t : Fin cfg0.N) : FVec Ideal S1x128 .f32 := iblk m c 4 t

theorem row0 (t : Fin cfg0.N) (p : Fin 1024) : row (b0 m c t) p = head (a0 m c) (hd t) (at' (part t) p) :=
  funext fun d => by
    unfold row head b0 a0
    blk_point [iblk, V, hd, part, at', idx t]

theorem row1 (t : Fin cfg0.N) (p : Fin 256) : row (b1 m c t) p = keyRow (a1 m c) (hd t) p :=
  funext fun d => by
    unfold row keyRow b1 a1
    blk_point [iblk, V, hd, idx t]

theorem blk_v (t : Fin cfg0.N) (p : Fin 256) (d : Fin 128) : b2 m c t (ix2 p d) = valRow (a1 m c) (hd t) p d := by
  unfold valRow b2 a1
  blk_point [iblk, V, hd, idx t]

theorem row3 (t : Fin cfg0.N) : row (b3 m c t) 0 = gain (a2 m c) :=
  funext fun d => by
    unfold row gain b3 a2
    blk_point [iblk, V, idx t]

theorem row4 (t : Fin cfg0.N) : row (b4 m c t) 0 = gain (a3 m c) :=
  funext fun d => by
    unfold row gain b4 a3
    blk_point [iblk, V, idx t]

/-- A point's block of the result. -/
theorem toO_at (t : Fin cfg0.N) (p : Fin 1024) (d : Fin 128) :
    k0_pay1 (F := Ideal) (b2 m c t) (k0_pay2 (b0 m c t) (b1 m c t) (b3 m c t) (b4 m c t)) (ix2 p d)
      = (∑ n, e (ss (a0 m c) (a1 m c) (a2 m c) (a3 m c) (hd t) (at' (part t) p)) n * valRow (a1 m c) (hd t) n d)
        * Ideal.div 1 (Z (ss (a0 m c) (a1 m c) (a2 m c) (a3 m c) (hd t) (at' (part t) p))) := by
  rw [pay1]
  simp only [pay2, row0, row1, row3, row4, blk_v]
  rfl

/-- The precondition's arguments are real. -/
theorem real_args [Cert.Pre_finite_scores.Facts] (x0 : FVec Ideal S2048x512 .f32) (x1 : FVec Ideal S256x1024 .f32) (x2 x3 : FVec Ideal S1x128 .f32)
    (h : Cert.Pre_finite_scores.fn (F := Ideal) x0 x1 x2 x3 = fun _ => 1#1) (k : Fin 4) (p : Fin 2048) :
    ∃ u : Fin 256 → ℝ, ss x0 x1 x2 x3 k p = fun d => (u d : EReal) := by
  have h := congrFun h ix0
  unfold Cert.Pre_finite_scores.fn Cert.Pre_finite_scores.fn_part1 at h
  simp only [WordCmp.andi_at, IntOp.andi_eq_one] at h
  obtain ⟨⟨⟨h0, h1⟩, h2⟩, h3⟩ := h
  refine ss_real_of_keys (fun i => Cert.Kernel16Ideal.Conv.real_at _ (Host.reduce_andi_all _ _ _ _ _ h0 i)) (fun m d => ?_)
    (fun i => Cert.Kernel16Ideal.Conv.real_at _ (Host.reduce_andi_all _ _ _ _ _ h2 i)) (fun i => Cert.Kernel16Ideal.Conv.real_at _ (Host.reduce_andi_all _ _ _ _ _ h3 i)) k p
  obtain ⟨r, er⟩ := Cert.Kernel16Ideal.Conv.real_at _ (Host.reduce_andi_all _ _ _ _ _ h1 (ix2 m d))
  exact ⟨r, er ▸ congrArg x1 (funext fun a => by match a with | ⟨0, _⟩ => exact Fin.ext (Nat.zero_add _).symm | ⟨1, _⟩ => exact Fin.ext (Nat.zero_add _).symm)⟩

theorem final (R : ∀ k p, ∃ u : Fin 256 → ℝ, ss (a0 m c) (a1 m c) (a2 m c) (a3 m c) k p = fun d => (u d : EReal)) :
    (dats m 0 c).arrAt 5 cfg0.N = val_main_v50 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  obtain ⟨p, d, rfl⟩ : ∃ (p : Fin 1024) (d : Fin 128), y = ix2 p d := ⟨y 0, y 1, funext fun a => by match a with | ⟨0, _⟩ => rfl | ⟨1, _⟩ => rfl⟩
  have e : (win0_5.blk t).view.emb (ix2 p d) = ix2 (at' (part t) p) (⟨(hd t).val * 128 + d.val, by omega⟩ : Fin 512) := by blk_ext [at', part, hd, idx t]
  rw [e]
  refine (toO_at m c t p d).trans (Eq.trans ?_ (r50 _ _ _ _ (hd t) (at' (part t) p) d).symm)
  obtain ⟨u, eu⟩ := R (hd t) (at' (part t) p)
  rw [eu]
  exact out_eq u fun n => valRow (a1 m c) (hd t) n d

end Cert.Kernel29Ideal.Cross

namespace Cert.Proof

open Cert.Kernel29Ideal.Cross

/-- The cross attention is the reference's. -/
theorem cross_fwd_value : Cert.algebraic_Kernel29Ideal_Reference29Ideal_pre_finite_scores (hPre_finite_scores := Cert.Pre_finite_scores.Gen.facts) := fun m g m' g' hp hm =>
  ⟨_, (θ_run Cert.Kernel29Ideal.defs _ _).mono (fun r h c => by
      have R := letI := Cert.Pre_finite_scores.Gen.facts; real_args _ _ _ _ (hp c)
      obtain ⟨k0, k'⟩ := h c
      exact ⟨k0.trans (final m c R), k'⟩)
      (Cert.Kernel29Ideal.Value.run_blocks m g),
    (θ_run Cert.Reference29Ideal.defs _ _).mono (fun r h c => by
      obtain ⟨m0, m1, m2, m3⟩ := hm c
      obtain ⟨r0, r'⟩ := h c
      refine ⟨r0.trans ?_, r'⟩
      rw [Cert.Reference29Ideal.Read.val_main_v50_eq, m0, m1, m2, m3])
      (Cert.Reference29Ideal.Value.run (F := Ideal) m' g')⟩

/-- The reference's frame. -/
theorem cross_fwd_frame_reference : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

end Cert.Proof

end

end
-- ==== Proof.ConvFwd.lean ====
/- The gated convolution: the kernel's channels are the reference's. -/
module

public import proofs.«01_k».proof.Proof.ConvBack
public import proofs.«01_k».proof.Proof.Gen.Kernel30Ideal.Value
public import proofs.«01_k».proof.Proof.Gen.Reference30Ideal.Read
public import proofs.«01_k».proof.Proof.Gen.Reference30Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvColumn

/-- A gated channel. -/
def gated (X : Fin 2048 → EReal) (W : Fin 4 → EReal) (B : EReal) (p : Fin 2048) : EReal := pre X W B p * Ideal.logistic (pre X W B p)

end Cert.ConvColumn

namespace Cert.Reference30Ideal.Conv

open Cert.Reference30Ideal Cert.Reference30Ideal.Read Cert.ConvColumn
open Cert.Reference16Ideal.Conv (col shifted)

variable (x : FVec Ideal S2048x6144 .f32) (w : FVec Ideal S4x2048 .f32) (b : FVec Ideal S1x2048 .f32)

theorem shift3 (p q : Fin 2048) : val_main_v4 (F := Ideal) x (ix2 p q) = back (col x q) 3 p := by
  pointwise [val_main_v4, val_main_v2, val_main_v1, val_main_cst, val_main_v0]
  exact shifted (col x q) 3 p (by omega)

theorem shift2 (p q : Fin 2048) : val_main_v10 (F := Ideal) x (ix2 p q) = back (col x q) 2 p := by
  pointwise [val_main_v10, val_main_v2, val_main_v1, val_main_cst, val_main_v0]
  exact shifted (col x q) 2 p (by omega)

theorem shift1 (p q : Fin 2048) : val_main_v15 (F := Ideal) x (ix2 p q) = back (col x q) 1 p := by
  pointwise [val_main_v15, val_main_v2, val_main_v1, val_main_cst, val_main_v0]
  exact shifted (col x q) 1 p (by omega)

theorem shift0 (p q : Fin 2048) : val_main_v20 (F := Ideal) x (ix2 p q) = col x q p := by
  pointwise [val_main_v20, val_main_v2, val_main_v1, val_main_cst, val_main_v0]
  rfl

theorem pre_apply (p q : Fin 2048) :
    val_main_v23 (F := Ideal) x w b (ix2 p q) = pre (col x q) (fun k => w (ix2 k q)) (b (ix2 0 q)) p := by
  pointwise [val_main_v23, val_main_v22, val_main_v21, val_main_v19, val_main_v18, val_main_v17, val_main_v16, val_main_v14, val_main_v13, val_main_v12, val_main_v11,
    val_main_v9, val_main_v8, val_main_v7, val_main_v6, val_main_v5, val_main_v3]
  simp only [shift0, shift1, shift2, shift3]
  unfold pre
  show (_ : EReal) = _
  abel

theorem gated_apply (p q : Fin 2048) :
    val_main_v24 (F := Ideal) x w b (ix2 p q) = gated (col x q) (fun k => w (ix2 k q)) (b (ix2 0 q)) p := by
  pointwise [val_main_v24, val_main_call0_v5, val_main_call0_v4, val_main_call0_cst_0, val_main_call0_v3, val_main_call0_v2, val_main_call0_cst,
    val_main_call0_v1, val_main_call0_v0]
  simp only [pre_apply]
  rfl

end Cert.Reference30Ideal.Conv

namespace Cert.Kernel30Ideal.Conv

open Cert.Kernel30Ideal Cert.Kernel30Ideal.Gen Cert.ConvColumn Cert.Reference30Ideal.Read Cert.Reference30Ideal.Conv
open Cert.Reference16Ideal.Conv (col)
open Cert.Kernel16Ideal.Conv (row)

/-- What the gate is applied to, off a point's blocks. -/
abbrev preOf (x : FVec Ideal S2048x256 .f32) (w : FVec Ideal S4x256 .f32) (b : FVec Ideal S1x256 .f32) : FVec Ideal S2048x256 .f32 :=
  k0_pay2 (F := Ideal) x b (row 3 inb_S4x256_S1x256_3_0 w) (row 0 inb_S4x256_S1x256_0_0 w) (row 1 inb_S4x256_S1x256_1_0 w) (row 2 inb_S4x256_S1x256_2_0 w)

theorem preOf_apply (x : FVec Ideal S2048x256 .f32) (w : FVec Ideal S4x256 .f32) (b : FVec Ideal S1x256 .f32) (p : Fin 2048) (q : Fin 256) :
    preOf x w b (ix2 p q) = pre (fun p => x (ix2 p q)) (fun k => w (ix2 k q)) (b (ix2 0 q)) p := by
  unfold pre
  rw [← Cert.Kernel16Ideal.Conv.at_back x p q (s := 3) (h := Nat.mod_lt _ (by omega)) (by omega), ← Cert.Kernel16Ideal.Conv.at_back x p q (s := 2) (h := Nat.mod_lt _ (by omega)) (by omega),
    ← Cert.Kernel16Ideal.Conv.at_back x p q (s := 1) (h := Nat.mod_lt _ (by omega)) (by omega), ← Cert.Kernel16Ideal.Conv.sge_select (by omega), ← Cert.Kernel16Ideal.Conv.sge_select (by omega), ← Cert.Kernel16Ideal.Conv.sge_select (by omega)]
  pointwise [preOf, k0_pay2, row]

variable (m : (ℓ : Loc nD τ sig) → Buf (Elt Ideal) ℓ) (c : Dev nD)

/-- Every window's block index at a grid point. -/
theorem idx : ∀ t : Fin cfg0.N, win0_0.index t = ![0, 16 + t.val] ∧ win0_1.index t = ![0, t.val] ∧ win0_2.index t = ![0, t.val] ∧ win0_3.index t = ![0, t.val] :=
  (by decide +kernel : ∀ t : Fin grid0.N, _)

/-- The channel a point's column is. -/
def chan (t : Fin cfg0.N) (q : Fin 256) : Fin 2048 := ⟨t.val * 256 + q.val, by have := lt_of_lt_of_eq t.isLt N_0; omega⟩

/-- The blocks a point reads. -/
def b0 (t : Fin cfg0.N) : FVec Ideal S2048x256 .f32 := iblk m c 0 t
def b1 (t : Fin cfg0.N) : FVec Ideal S4x256 .f32 := iblk m c 1 t
def b2 (t : Fin cfg0.N) : FVec Ideal S1x256 .f32 := iblk m c 2 t

abbrev a0 : S2048x6144.Idx → EReal := m ((c : Thread nD τ).loc main_arg0)
abbrev a1 : S4x2048.Idx → EReal := m ((c : Thread nD τ).loc main_arg1)
abbrev a2 : S1x2048.Idx → EReal := m ((c : Thread nD τ).loc main_arg2)

theorem blk_x (t : Fin cfg0.N) (p : Fin 2048) (q : Fin 256) : b0 m c t (ix2 p q) = col (a0 m c) (chan t q) p := by
  unfold col b0 a0
  blk_point [iblk, V, chan, idx t]

theorem blk_w (t : Fin cfg0.N) (k : Fin 4) (q : Fin 256) : b1 m c t (ix2 k q) = a1 m c (ix2 k (chan t q)) := by
  unfold b1 a1
  blk_point [iblk, V, chan, idx t]

theorem blk_b (t : Fin cfg0.N) (q : Fin 256) : b2 m c t (ix2 0 q) = a2 m c (ix2 0 (chan t q)) := by
  unfold b2 a2
  blk_point [iblk, V, chan, idx t]

theorem pre_blk (t : Fin cfg0.N) (p : Fin 2048) (q : Fin 256) :
    preOf (b0 m c t) (b1 m c t) (b2 m c t) (ix2 p q) = pre (col (a0 m c) (chan t q)) (fun k => a1 m c (ix2 k (chan t q))) (a2 m c (ix2 0 (chan t q))) p := by
  rw [preOf_apply]
  simp only [blk_x, blk_w, blk_b]

theorem final : (dats m 0 c).arrAt 3 cfg0.N = val_main_v24 (F := Ideal) (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  unfold out0_3
  frame_out
  obtain ⟨p, q, rfl⟩ : ∃ (p : Fin 2048) (q : Fin 256), y = ix2 p q := ⟨y 0, y 1, funext fun a => by match a with | ⟨0, _⟩ => rfl | ⟨1, _⟩ => rfl⟩
  have e : (win0_3.blk t).view.emb (ix2 p q) = ix2 p (chan t q) := by blk_ext [chan, idx t]
  rw [e]
  refine Eq.trans ?_ (gated_apply _ _ _ p (chan t q)).symm
  exact congrArg (fun z : EReal => z * Ideal.logistic z) (pre_blk m c t p q)

end Cert.Kernel30Ideal.Conv

namespace Cert.Proof

/-- The gated convolution is the reference's. -/
theorem conv_fwd_value : Cert.algebraic_Kernel30Ideal_Reference30Ideal := by
  pair_intro
  · run_from Cert.Kernel30Ideal.Value.run_blocks m g
  · run_from Cert.Reference30Ideal.Value.run m' g'
    rw [Cert.Kernel30Ideal.Conv.final m c]
    exact (Cert.Reference30Ideal.Read.val_main_v24_eq m' c).trans (by rw [(hagree c).1, (hagree c).2.1, (hagree c).2.2])

/-- The reference's frame. -/
theorem conv_fwd_frame_reference : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

end Cert.Proof

end

end
-- ==== Proof.Merge.lean ====
/- The merge of the three attention branches by their log-denominators, and the norm of its result: the kernel's rows are the reference's where the
   log-denominators are real. -/
module

public import proofs.«01_k».proof.Proof.Loss
public import proofs.«01_k».proof.Proof.ConvBackFinal
public import proofs.«01_k».proof.Proof.Gen.Kernel31Ideal.Value
public import proofs.«01_k».proof.Proof.Gen.Reference31Ideal.Read
public import proofs.«01_k».proof.Proof.Gen.Reference31Ideal.Run
public import proofs.«01_k».proof.Proof.Gen.Pre_finite_logs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

/-- The largest of three. -/
def top (l : Fin 3 → EReal) : EReal := max (max (l 0) (l 1)) (l 2)

/-- A branch's weight before it is divided by their sum. -/
def wt (l : Fin 3 → EReal) (i : Fin 3) : EReal := Ideal.exp (l i - top l)

/-- The merge as the kernel forms it: the weighted sum divided by the weights' sum. -/
def mix (l o : Fin 3 → EReal) : EReal := Ideal.div (wt l 0 * o 0 + wt l 1 * o 1 + wt l 2 * o 2) (wt l 0 + wt l 1 + wt l 2)

/-- The merge as the reference forms it: each weight divided. -/
def mix' (l o : Fin 3 → EReal) : EReal :=
  Ideal.div (wt l 0) (∑ i, wt l i) * o 0 + Ideal.div (wt l 1) (∑ i, wt l i) * o 1 + Ideal.div (wt l 2) (∑ i, wt l i) * o 2

/-- A row divided by the root of its mean square, with its gain. -/
def normed (y g : Fin 1024 → EReal) (q : Fin 1024) : EReal :=
  y q * Ideal.rsqrt (Ideal.div (∑ k, y k * y k) (Ideal.ofBits .f32 0x44800000#32) + Ideal.ofBits .f32 0x358637BD#32) * g q

theorem wt_real (l : Fin 3 → ℝ) : ∃ w : Fin 3 → ℝ, (∀ i, 0 < w i) ∧ ∀ i, wt (fun i => (l i : EReal)) i = (w i : EReal) := by
  refine ⟨fun i => Real.exp (l i - max (max (l 0) (l 1)) (l 2)), fun i => Real.exp_pos _, fun i => ?_⟩
  have M (a b : ℝ) : max (a : EReal) (b : EReal) = ((max a b : ℝ) : EReal) := (EReal.coe_strictMono.monotone.map_max).symm
  unfold wt top
  simp only [M, ← EReal.coe_sub, Ideal.exp_coe]

theorem mix_eq (l o : Fin 3 → EReal) (h : ∀ i, ∃ r : ℝ, l i = r) : mix l o = mix' l o := by
  choose r e using h
  obtain rfl : l = fun i => (r i : EReal) := funext e
  obtain ⟨w, hw, ew⟩ := wt_real r
  have z : 0 < w 0 + w 1 + w 2 := add_pos (add_pos (hw 0) (hw 1)) (hw 2)
  unfold mix mix'
  simp only [Fin.sum_univ_three, ew]
  rw [← EReal.coe_add, ← EReal.coe_add]
  simp only [Ideal.div_coe z.ne']
  have s := Cert.Kernel11Ideal.Loss.sum_mul_real (fun i : Fin 3 => (w i : EReal) * o i) (1 / (w 0 + w 1 + w 2)) (by positivity)
  simp only [Fin.sum_univ_three] at s
  rw [← s]
  simp only [mul_right_comm]

/-- The three arrays' entries at an index. -/
abbrev three {s : Shape} (a b c : s.Idx → EReal) (i : s.Idx) : Fin 3 → EReal := ![a i, b i, c i]

end Cert.Merge

namespace Cert.Reference31Ideal.Merge

open Cert.Reference31Ideal Cert.Reference31Ideal.Read Cert.Merge

variable (o0 o1 o2 l0 l1 l2 : FVec Ideal S2048x1024 .f32) (g : FVec Ideal S1x1024 .f32)

theorem r3 (i : Fin 3) (p : Fin 2048) (q : Fin 1024) : val_main_v3 (F := Ideal) l0 l1 l2 (ix3 i p q) = three l0 l1 l2 (ix2 p q) i := by
  match i with
  | ⟨0, _⟩ => pointwise [val_main_v3, val_main_v2, val_main_v1, val_main_v0]
  | ⟨1, _⟩ => pointwise [val_main_v3, val_main_v2, val_main_v1, val_main_v0]
  | ⟨2, _⟩ => pointwise [val_main_v3, val_main_v2, val_main_v1, val_main_v0]

theorem r4 (p : Fin 2048) (q : Fin 1024) : val_main_v4 (F := Ideal) l0 l1 l2 (ix2 p q) = Finset.fold max ⊥ (three l0 l1 l2 (ix2 p q)) Finset.univ := by
  have e : Ideal.ofBits .f32 0xFF800000#32 = (⊥ : EReal) := by simp [Ideal.ofBits, Ideal.ieee]
  rw [← e]
  simp only [← r3]
  pointwise [val_main_v4, val_main_cst]

theorem max_least (y : FVec Ideal S2048x1024 .f32) (i : S2048x1024.Idx) : maximumf (F := Ideal) (val_main_v5 (F := Ideal)) y i = y i := by
  have e : val_main_v5 (F := Ideal) i = (⊥ : EReal) := by
    pointwise [val_main_v5, val_main_cst_0]
    simp [Ideal.ofBits, Ideal.ieee]
  show max (val_main_v5 (F := Ideal) i) (y i) = y i
  rw [e]
  exact max_eq_right bot_le

theorem fold_top (l : Fin 3 → EReal) : Finset.fold max ⊥ l Finset.univ = top l := by
  unfold top
  rw [show (Finset.univ : Finset (Fin 3)) = {0, 1, 2} from rfl, Finset.fold_insert (by decide), Finset.fold_insert (by decide), Finset.fold_singleton,
    max_eq_left (bot_le (a := l 2)), max_assoc]

theorem r6 (p : Fin 2048) (q : Fin 1024) : val_main_v6 (F := Ideal) l0 l1 l2 (ix2 p q) = top (three l0 l1 l2 (ix2 p q)) :=
  (max_least _ _).trans ((r4 _ _ _ p q).trans (fold_top _))

theorem r10 (i : Fin 3) (p : Fin 2048) (q : Fin 1024) : val_main_v10 (F := Ideal) l0 l1 l2 (ix3 i p q) = wt (three l0 l1 l2 (ix2 p q)) i := by
  unfold wt
  rw [← r3, ← r6]
  pointwise [val_main_v10, val_main_v9, val_main_v8, val_main_v7]

theorem r11 (p : Fin 2048) (q : Fin 1024) : val_main_v11 (F := Ideal) l0 l1 l2 (ix2 p q) = ∑ i, wt (three l0 l1 l2 (ix2 p q)) i := by
  simp only [← r10]
  pointwise [val_main_v11, val_main_cst_1]

theorem r25 (p : Fin 2048) (q : Fin 1024) :
    val_main_v25 (F := Ideal) o0 o1 o2 l0 l1 l2 (ix2 p q) = mix' (three l0 l1 l2 (ix2 p q)) (three o0 o1 o2 (ix2 p q)) := by
  unfold mix'
  rw [← r11, ← r10, ← r10, ← r10]
  pointwise [val_main_v25, val_main_v24, val_main_v23, val_main_v22, val_main_v21, val_main_v20, val_main_v19, val_main_v18, val_main_v17, val_main_v16,
    val_main_v15, val_main_v14, val_main_v13, val_main_v12]
  try rfl

theorem r38 (p : Fin 2048) (q : Fin 1024) : val_main_v38 (F := Ideal) o0 o1 o2 l0 l1 l2 g (ix2 p q)
    = normed (fun k => mix' (three l0 l1 l2 (ix2 p k)) (three o0 o1 o2 (ix2 p k))) (fun k => g (ix2 0 k)) q := by
  unfold normed
  simp only [← r25]
  pointwise [val_main_v38, val_main_v37, val_main_v36, val_main_v35, val_main_v34, val_main_v33, val_main_v32, val_main_v31, val_main_v30, val_main_v29,
    val_main_v28, val_main_v27, val_main_v26, val_main_cst_2, val_main_cst_3, val_main_cst_4]

end Cert.Reference31Ideal.Merge

namespace Cert.Kernel31Ideal.Merge

open Cert.Kernel31Ideal Cert.Kernel31Ideal.Gen Cert.Merge Cert.Reference31Ideal.Read Cert.Reference31Ideal.Merge

theorem pay1 (o0 o1 o2 l0 l1 l2 : FVec Ideal S512x1024 .f32) (g : FVec Ideal S1x1024 .f32) (p : Fin 512) (q : Fin 1024) :
    k0_pay1 (F := Ideal) o0 o1 o2 l0 l1 l2 g (ix2 p q)
      = normed (fun k => mix (three l0 l1 l2 (ix2 p k)) (three o0 o1 o2 (ix2 p k))) (fun k => g (ix2 0 k)) q := by
  unfold normed mix wt top three
  pointwise [k0_pay1]
  try rfl

variable (m : (ℓ : Loc nD τ sig) → Buf (Elt Ideal) ℓ) (c : Dev nD)

/-- Every window's block index at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![t.val, 0] :=
  (by decide +kernel : ∀ t : Fin grid0.N, _)

/-- The array's row a point's row is. -/
def at' (t : Fin cfg0.N) (p : Fin 512) : Fin 2048 := ⟨t.val * 512 + p.val, by have := lt_of_lt_of_eq t.isLt N_0; omega⟩

/-- The blocks a point reads. -/
def b0 (t : Fin cfg0.N) : FVec Ideal S512x1024 .f32 := iblk m c 0 t
def b1 (t : Fin cfg0.N) : FVec Ideal S512x1024 .f32 := iblk m c 1 t
def b2 (t : Fin cfg0.N) : FVec Ideal S512x1024 .f32 := iblk m c 2 t
def b3 (t : Fin cfg0.N) : FVec Ideal S512x1024 .f32 := iblk m c 3 t
def b4 (t : Fin cfg0.N) : FVec Ideal S512x1024 .f32 := iblk m c 4 t
def b5 (t : Fin cfg0.N) : FVec Ideal S512x1024 .f32 := iblk m c 5 t
def b6 (t : Fin cfg0.N) : FVec Ideal S1x1024 .f32 := iblk m c 6 t

abbrev a0 : S2048x1024.Idx → EReal := m ((c : Thread nD τ).loc main_arg0)
abbrev a1 : S2048x1024.Idx → EReal := m ((c : Thread nD τ).loc main_arg1)
abbrev a2 : S2048x1024.Idx → EReal := m ((c : Thread nD τ).loc main_arg2)
abbrev a3 : S2048x1024.Idx → EReal := m ((c : Thread nD τ).loc main_arg3)
abbrev a4 : S2048x1024.Idx → EReal := m ((c : Thread nD τ).loc main_arg4)
abbrev a5 : S2048x1024.Idx → EReal := m ((c : Thread nD τ).loc main_arg5)
abbrev a6 : S1x1024.Idx → EReal := m ((c : Thread nD τ).loc main_arg6)

theorem blk (t : Fin cfg0.N) (p : Fin 512) (q : Fin 1024) : b0 m c t (ix2 p q) = a0 m c (ix2 (at' t p) q) ∧ b1 m c t (ix2 p q) = a1 m c (ix2 (at' t p) q)
    ∧ b2 m c t (ix2 p q) = a2 m c (ix2 (at' t p) q) ∧ b3 m c t (ix2 p q) = a3 m c (ix2 (at' t p) q) ∧ b4 m c t (ix2 p q) = a4 m c (ix2 (at' t p) q)
    ∧ b5 m c t (ix2 p q) = a5 m c (ix2 (at' t p) q) ∧ b6 m c t (ix2 0 q) = a6 m c (ix2 0 q) := by
  refine ⟨?_, ?_, ?_, ?_, ?_, ?_, ?_⟩
  · unfold b0 a0; blk_point [iblk, V, at', idx t]
  · unfold b1 a1; blk_point [iblk, V, at', idx t]
  · unfold b2 a2; blk_point [iblk, V, at', idx t]
  · unfold b3 a3; blk_point [iblk, V, at', idx t]
  · unfold b4 a4; blk_point [iblk, V, at', idx t]
  · unfold b5 a5; blk_point [iblk, V, at', idx t]
  · unfold b6 a6; blk_point [iblk, V, idx t]

/-- The precondition's arguments are real. -/
theorem real_args [Cert.Pre_finite_logs.Facts] (o0 o1 o2 l0 l1 l2 : FVec Ideal S2048x1024 .f32) (g : FVec Ideal S1x1024 .f32)
    (h : Cert.Pre_finite_logs.fn (F := Ideal) o0 o1 o2 l0 l1 l2 g = fun _ => 1#1) (x : S2048x1024.Idx) (i : Fin 3) : ∃ r : ℝ, three l0 l1 l2 x i = r := by
  have h := congrFun h ix0
  unfold Cert.Pre_finite_logs.fn at h
  simp only [WordCmp.andi_at, IntOp.andi_eq_one] at h
  obtain ⟨⟨h0, h1⟩, h2⟩ := h
  match i with
  | ⟨0, _⟩ => exact Cert.Kernel16Ideal.Conv.real_at _ (Host.reduce_andi_all _ _ _ _ _ h0 x)
  | ⟨1, _⟩ => exact Cert.Kernel16Ideal.Conv.real_at _ (Host.reduce_andi_all _ _ _ _ _ h1 x)
  | ⟨2, _⟩ => exact Cert.Kernel16Ideal.Conv.real_at _ (Host.reduce_andi_all _ _ _ _ _ h2 x)

theorem final (R : ∀ x i, ∃ r : ℝ, three (a3 m c) (a4 m c) (a5 m c) x i = r) :
    (dats m 0 c).arrAt 7 cfg0.N = val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ (by decide +kernel) fun t hf y => ?_
  blk_simp
  rw [after0_7]
  unfold out0_7
  frame_out
  obtain ⟨p, q, rfl⟩ : ∃ (p : Fin 512) (q : Fin 1024), y = ix2 p q := ⟨y 0, y 1, funext fun a => by match a with | ⟨0, _⟩ => rfl | ⟨1, _⟩ => rfl⟩
  have e : (win0_7.blk t).view.emb (ix2 p q) = ix2 (at' t p) q := by blk_ext [at', idx t]
  rw [e]
  refine (pay1 (b0 m c t) (b1 m c t) (b2 m c t) (b3 m c t) (b4 m c t) (b5 m c t) (b6 m c t) p q).trans (Eq.trans ?_ (r38 _ _ _ _ _ _ _ (at' t p) q).symm)
  refine congr (congr (congrArg normed (funext fun k => ?_)) (funext fun k => (blk m c t p k).2.2.2.2.2.2)) rfl
  obtain ⟨e0, e1, e2, e3, e4, e5, -⟩ := blk m c t p k
  unfold three
  rw [e0, e1, e2, e3, e4, e5]
  exact mix_eq _ _ (R (ix2 (at' t p) k))

end Cert.Kernel31Ideal.Merge

namespace Cert.Proof

open Cert.Kernel31Ideal.Merge

/-- The merge of the branches is the reference's. -/
theorem merge_value : Cert.algebraic_Kernel31Ideal_Reference31Ideal_pre_finite_logs (hPre_finite_logs := Cert.Pre_finite_logs.Gen.facts) := fun m g m' g' hp hm =>
  ⟨_, (θ_run Cert.Kernel31Ideal.defs _ _).mono (fun r h c => by
      have R := letI := Cert.Pre_finite_logs.Gen.facts; real_args _ _ _ _ _ _ _ (hp c)
      obtain ⟨k0, k'⟩ := h c
      exact ⟨k0.trans (final m c R), k'⟩)
      (Cert.Kernel31Ideal.Value.run_blocks m g),
    (θ_run Cert.Reference31Ideal.defs _ _).mono (fun r h c => by
      obtain ⟨m0, m1, m2, m3, m4, m5, m6⟩ := hm c
      obtain ⟨r0, r'⟩ := h c
      refine ⟨r0.trans ?_, r'⟩
      rw [Cert.Reference31Ideal.Read.val_main_v38_eq, m0, m1, m2, m3, m4, m5, m6])
      (Cert.Reference31Ideal.Value.run (F := Ideal) m' g')⟩

/-- The reference's frame. -/
theorem merge_frame_reference : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

end Cert.Proof

end

end
-- ==== Proof.ActGrad.lean ====
/- The gradient of the squared rectifier through the down projection: the kernel's result array read at an index,
   and the same of the reference. -/
module

public import proofs.«01_k».proof.Defs
public import proofs.«01_k».proof.Proof.Gen.KernelIdeal.Value
public import proofs.«01_k».proof.Proof.Gen.ReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.ActGrad

open Cert.KernelIdeal Cert.KernelIdeal.Gen

variable (m : (ℓ : Loc nD τ sig) → Buf (Elt Ideal) ℓ)

/-- The reference's result as a function of the three argument arrays. -/
abbrev REF (dy : FVec Ideal S2048x2048 .bf16) (w : FVec Ideal S8192x2048 .bf16) (u : FVec Ideal S2048x8192 .f32) :
    FVec Ideal S2048x8192 .bf16 := Cert.ReferenceIdeal.Read.val_main_v14 (F := Ideal) dy w u

open Cert.ReferenceIdeal.Read in
/-- The reference at an index: the selection by the sign of `u` is the rectifier's own zero. -/
theorem REF_apply (dy : FVec Ideal S2048x2048 .bf16) (w : FVec Ideal S8192x2048 .bf16) (u : FVec Ideal S2048x8192 .f32)
    (j : S2048x8192.Idx) : REF dy w u j
      = (∑ k : Fin 2048, dy (ix2 (j 0) k) * w (ix2 (j 1) k)) * (Ideal.ofBits .f32 0x40000000#32 * max (u j) 0) := by
  show val_main_v14 (F := Ideal) dy w u j = _
  rw [val_main_v14_apply, val_main_v13_apply, val_main_v11_apply, val_main_v10_apply, val_main_v7_apply, val_main_v3_apply]
  simp only [val_main_v9_apply, val_main_v0_apply, val_main_v6_apply, val_main_v1_apply, val_main_v2_apply, val_main_v12_apply,
    val_main_cst_apply, val_main_cst_1_apply, val_main_cst_2_apply, val_main_call0_v0_apply, val_main_call0_cst_apply]
  pointwise
  have el : ∀ k, lidx_main_v10 j k = ix2 (j 0) k := fun k => funext fun a => by match a with | ⟨0, _⟩ => rfl | ⟨1, _⟩ => rfl
  have er : ∀ k, ridx_main_v10 j k = ix2 (j 1) k := fun k => funext fun a => by match a with | ⟨0, _⟩ => rfl | ⟨1, _⟩ => rfl
  simp only [el, er]
  split
  · rfl
  · rename_i h
    rw [max_eq_right (not_lt.mp h), mul_zero, mul_zero]

/-- Every window's block index at a grid point. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- What the body stores at an index of a point's block is the reference at that index's place in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1))
        (m ((c : Thread nD τ).loc main_arg2)) (((cfg0.win 3).blk t).view.emb y) := by
  have e : REF (m ((c : Thread nD τ).loc main_arg0)) (m ((c : Thread nD τ).loc main_arg1))
        (m ((c : Thread nD τ).loc main_arg2)) (((cfg0.win 3).blk t).view.emb y) = _ := REF_apply _ _ _ _
  refine Eq.trans ?_ e.symm
  pointwise [k0_pay1]
  blk_point [iblk, V, idx t]

/-- The result array after the run. -/
theorem final (c : Dev nD) : (dats m 0 c).arrAt 3 cfg0.N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  unfold outsAt0
  frame_out
  exact point m c t y

end Cert.KernelIdeal.ActGrad
-- ==== Proof.AttnFrameBits.lean ====
/- The frame of the attention gradient as printed, from the one of its idealized text: the two texts differ in
   the mask's constant alone, which the idealized one names, so with that name read back as the constant they are
   the same program. -/
module

public import proofs.«01_k».proof.Proof.AttnFrame
public import proofs.«01_k».proof.Proof.Gen.Kernel2.Frame

@[expose] public section

set_option maxRecDepth 16384

noncomputable section

namespace Cert.Kernel2.AttnFrame

open Idealize.ShloMosaic Idealize.SL.Sem

variable {F : FTy → Type} [FloatOps F]

/-- A named constant read as the constant it stands for. -/
@[reducible] def plain : Named F where
  named _ _ bits := FloatOps.ofBits bits

set_option maxHeartbeats 4000000 in
theorem body_eq (i : Cert.Kernel2.grid0.Coords) (arg2 : Memref Cert.Kernel2.sig .tc .vmem Cert.Kernel2.S2048x128 .f32) (h2 : arg2.IsWhole) (arg3 : Memref Cert.Kernel2.sig .tc .vmem Cert.Kernel2.S2048x128 .f32) (h3 : arg3.IsWhole) (arg4 : Memref Cert.Kernel2.sig .tc .vmem Cert.Kernel2.S2048x128 .f32) (h4 : arg4.IsWhole) (arg5 : Memref Cert.Kernel2.sig .tc .vmem Cert.Kernel2.S2048x128 .f32) (h5 : arg5.IsWhole) (arg6 : Memref Cert.Kernel2.sig .tc .vmem Cert.Kernel2.S2048x128 .f32) (h6 : arg6.IsWhole) (arg7 : Memref Cert.Kernel2.sig .tc .vmem Cert.Kernel2.S2048x128 .f32) (h7 : arg7.IsWhole) (arg8 : Memref Cert.Kernel2.sig .tc .vmem Cert.Kernel2.S2048x128 .f32) (h8 : arg8.IsWhole) (arg9 : Memref Cert.Kernel2.sig .tc .vmem Cert.Kernel2.S2048x128 .f32) (h9 : arg9.IsWhole) (arg10 : Memref Cert.Kernel2.sig .tc .vmem Cert.Kernel2.S2048x128 .f32) (h10 : arg10.IsWhole) (arg11 : Memref Cert.Kernel2.sig .tc .vmem Cert.Kernel2.S2048x128 .f32) (h11 : arg11.IsWhole) :
    Cert.Kernel2.cc0_attn_bwd_16 (F := F) i arg2 h2 arg3 h3 arg4 h4 arg5 h5 arg6 h6 arg7 h7 arg8 h8 arg9 h9 arg10 h10 arg11 h11
      = (letI := plain (F := F); Cert.Kernel2Ideal.cc0_attn_bwd_16 i arg2 h2 arg3 h3 arg4 h4 arg5 h5 arg6 h6 arg7 h7 arg8 h8 arg9 h9 arg10 h10 arg11 h11) := by
  rfl

set_option maxHeartbeats 4000000 in
theorem defs₀_eq : Cert.Kernel2.defs₀ (F := F) = (letI := plain (F := F); Cert.Kernel2Ideal.defs₀ (F := F)) := by
  unfold Cert.Kernel2.defs₀ Cert.Kernel2Ideal.defs₀
  refine congrArg Defs.onTc ?_
  funext l x
  match l, x with
  | 0, (t, s) => exact body_eq (Cert.Kernel2.grid0.coords t) (Cert.Kernel2.win0_0.stage (s 0)) (Cert.Kernel2.Facts₀.hstage0_0 ((s 0).cast Cert.Kernel2.Facts₀.nbuf0_0)) (Cert.Kernel2.win0_1.stage (s 1)) (Cert.Kernel2.Facts₀.hstage0_1 ((s 1).cast Cert.Kernel2.Facts₀.nbuf0_1)) (Cert.Kernel2.win0_2.stage (s 2)) (Cert.Kernel2.Facts₀.hstage0_2 ((s 2).cast Cert.Kernel2.Facts₀.nbuf0_2)) (Cert.Kernel2.win0_3.stage (s 3)) (Cert.Kernel2.Facts₀.hstage0_3 ((s 3).cast Cert.Kernel2.Facts₀.nbuf0_3)) (Cert.Kernel2.win0_4.stage (s 4)) (Cert.Kernel2.Facts₀.hstage0_4 ((s 4).cast Cert.Kernel2.Facts₀.nbuf0_4)) (Cert.Kernel2.win0_5.stage (s 5)) (Cert.Kernel2.Facts₀.hstage0_5 ((s 5).cast Cert.Kernel2.Facts₀.nbuf0_5)) (Cert.Kernel2.win0_6.stage (s 6)) (Cert.Kernel2.Facts₀.hstage0_6 ((s 6).cast Cert.Kernel2.Facts₀.nbuf0_6)) (Cert.Kernel2.win0_7.stage (s 7)) (Cert.Kernel2.Facts₀.hstage0_7 ((s 7).cast Cert.Kernel2.Facts₀.nbuf0_7)) (Cert.Kernel2.win0_8.stage (s 8)) (Cert.Kernel2.Facts₀.hstage0_8 ((s 8).cast Cert.Kernel2.Facts₀.nbuf0_8)) (Cert.Kernel2.win0_9.stage (s 9)) (Cert.Kernel2.Facts₀.hstage0_9 ((s 9).cast Cert.Kernel2.Facts₀.nbuf0_9))
  | ⟨_ + 1, h⟩, _ => exact absurd h (Nat.not_lt.2 (Nat.le_add_left _ _))

theorem defs_eq : Cert.Kernel2.defs (F := F) = (letI := plain (F := F); Cert.Kernel2Ideal.defs (F := F)) :=
  congrArg (Pipeline.defs (Cert.Kernel2.pcfgs (F := F))) defs₀_eq

set_option maxHeartbeats 4000000 in
theorem main_eq : Cert.Kernel2.main (F := F) = (letI := plain (F := F); Cert.Kernel2Ideal.main (F := F)) := rfl

/-- The frame: the arguments end unchanged and every counter is at zero. -/
theorem frame (m : (ℓ : Loc Cert.Kernel2.nD Cert.Kernel2.τ Cert.Kernel2.sig) → Buf (Elt F) ℓ) (ρ : Dev Cert.Kernel2.nD → PrngReg) :
    θ_run Cert.Kernel2.defs (onTc (τ := Cert.Kernel2.τ) (Cert.Kernel2.main (F := F))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0) := by
  rw [defs_eq, main_eq]
  letI := plain (F := F)
  exact Cert.Kernel2Ideal.AttnFrame.frame m ρ

end Cert.Kernel2.AttnFrame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Pre_finite_logs
public import proofs.«01_k».proof.Proof.Ends
public import proofs.«01_k».proof.Proof.Ends2
public import proofs.«01_k».proof.Proof.Ends3
public import proofs.«01_k».proof.Proof.CrossFinal
public import proofs.«01_k».proof.Proof.CrossFwd
public import proofs.«01_k».proof.Proof.ConvFwd
public import proofs.«01_k».proof.Proof.Merge
public import proofs.«01_k».proof.Proof.ConvBackFinal
public import proofs.«01_k».proof.Proof.Gen.Pre_finite_conv
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel10Ideal.Value
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel12Ideal.Value
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel13Ideal.Value
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Pre_finite_cross
public import proofs.«01_k».proof.Proof.Gen.Pre_finite_scores
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.ActGrad
public import proofs.«01_k».proof.Proof.AttnFrameBits
public import proofs.«01_k».proof.Proof.AttnFinal
public import Idealize.ShloMosaic.Adequacy
public import Idealize.ShloMosaic.Init

@[expose] public section

noncomputable section

namespace Cert.Proof

open Idealize.ShloMosaic Idealize.SL.Sem Cert.Kernel

/-- The gradient of the squared rectifier through the down projection agrees with the reference's. -/
theorem act_grad : Cert.algebraic_KernelIdeal_ReferenceIdeal := by
  pair_intro
  · run_from Cert.KernelIdeal.Value.run_blocks m g
  · run_from Cert.ReferenceIdeal.Value.run m' g'
    rw [Cert.KernelIdeal.ActGrad.final m c]
    rfl

/-- The reference's frame: its run, which has no semaphores. -/
theorem act_frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The gradient of the attention branch agrees with the reference's, of real arguments. -/
theorem attn_grad : Cert.algebraic_Kernel2Ideal_Reference2Ideal_pre_finite (hPre_finite := Cert.Pre_finite.Gen.facts) := by
  intro m g m' g' hp hm
  refine ⟨fun c => (Cert.Kernel2Ideal.AttnFrame.dats m 0 c).arrAt 7 Cert.Kernel2Ideal.cfg0.N,
    fun c => (Cert.Kernel2Ideal.AttnFrame.dats m 0 c).arrAt 8 Cert.Kernel2Ideal.cfg0.N,
    fun c => (Cert.Kernel2Ideal.AttnFrame.dats m 0 c).arrAt 9 Cert.Kernel2Ideal.cfg0.N,
    Cert.Kernel2Ideal.AttnFinal.run_values m g,
    (θ_run Cert.Reference2Ideal.defs _ _).mono (fun r h c => ?_) (Cert.Reference2Ideal.Value.run (F := Ideal) m' g')⟩
  obtain ⟨⟨Q, hQ⟩, ⟨K, hK⟩, ⟨V, hV⟩, ⟨D, hD⟩, ⟨G, hG⟩⟩ := Cert.Kernel2Ideal.AttnFinal.real_args _ _ _ _ _ (hp c)
  have args : Cert.Kernel2Ideal.AttnFinal.Args m c Q K V D G := ⟨hQ, hK, hV, hD, hG⟩
  obtain ⟨m0, m1, m2, m3, m4⟩ := hm c
  obtain ⟨r0, r1, r2, r'⟩ := h c
  refine ⟨r0.trans ?_, r1.trans ?_, r2.trans ?_, r'⟩
  · rw [Cert.Reference2Ideal.Read.val_main_v83_eq, m0, m1, m2, m3, m4, hQ, hK, hV, hD, hG, Cert.Reference2Ideal.AttnRef.v83]
    exact (Cert.Kernel2Ideal.AttnFinal.final_dq m c Q K V D G args).symm
  · rw [Cert.Reference2Ideal.Read.val_main_v82_eq, m0, m1, m2, m3, m4, hQ, hK, hV, hD, hG, Cert.Reference2Ideal.AttnRef.v82]
    exact (Cert.Kernel2Ideal.AttnFinal.final_dk m c Q K V D G args).symm
  · rw [Cert.Reference2Ideal.Read.val_main_v81_eq, m0, m1, m3, hQ, hK, hD, Cert.Reference2Ideal.AttnRef.v81]
    exact (Cert.Kernel2Ideal.AttnFinal.final_dv m c Q K V D G args).symm

/-- The attention reference's frame. -/
theorem attn_frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts, Cert.Pre_finite.Gen.facts, Cert.Pre_finite_conv.Gen.facts, Cert.Pre_finite_cross.Gen.facts, Cert.Pre_finite_scores.Gen.facts, Cert.Pre_finite_logs.Gen.facts,
  fun m ρ _ => Cert.Kernel.Gen.frame m ρ, fun m ρ _ => Cert.KernelIdeal.Gen.frame m ρ, act_frame_reference,
  fun m ρ _ => Cert.Kernel2.AttnFrame.frame m ρ, fun m ρ _ => Cert.Kernel2Ideal.AttnFrame.frame m ρ,
  fun m ρ _ => Cert.Kernel2Ideal.AttnFrame.frame m ρ, attn_frame_reference, fun m ρ _ => attn_frame_reference m ρ trivial,
  fun m ρ _ => Cert.Kernel3.Gen.frame m ρ, fun m ρ _ => Cert.Kernel3Ideal.Gen.frame m ρ, dw_down_frame_reference,
  fun m ρ _ => Cert.Kernel4.Gen.frame m ρ, fun m ρ _ => Cert.Kernel4Ideal.Gen.frame m ρ, dw_up_frame_reference,
  fun m ρ _ => Cert.Kernel5.Gen.frame m ρ, fun m ρ _ => Cert.Kernel5Ideal.Gen.frame m ρ, d_hm_frame_reference,
  fun m ρ _ => Cert.Kernel6.Gen.frame m ρ, fun m ρ _ => Cert.Kernel6Ideal.Gen.frame m ρ, dw_main_frame_reference,
  fun m ρ _ => Cert.Kernel7.Gen.frame m ρ, fun m ρ _ => Cert.Kernel7Ideal.Gen.frame m ρ, d_h_main_frame_reference,
  fun m ρ _ => Cert.Kernel8.Gen.frame m ρ, fun m ρ _ => Cert.Kernel8Ideal.Gen.frame m ρ, dw_out_frame_reference,
  fun m ρ _ => Cert.Kernel9.Gen.frame m ρ, fun m ρ _ => Cert.Kernel9Ideal.Gen.frame m ρ, d_mix_frame_reference,
  fun m ρ _ => Cert.Kernel10.Gen.frame m ρ, fun m ρ _ => Cert.Kernel10Ideal.Gen.frame m ρ, up_proj_frame_reference,
  fun m ρ _ => Cert.Kernel11.Gen.frame m ρ, fun m ρ _ => Cert.Kernel11Ideal.Gen.frame m ρ, down_proj_frame_reference,
  fun m ρ _ => Cert.Kernel12.Gen.frame m ρ, fun m ρ _ => Cert.Kernel12Ideal.Gen.frame m ρ, in_proj_frame_reference,
  fun m ρ _ => Cert.Kernel13.Gen.frame m ρ, fun m ρ _ => Cert.Kernel13Ideal.Gen.frame m ρ, out_proj_frame_reference,
  fun m ρ _ => Cert.Kernel14.Gen.frame m ρ, fun m ρ _ => Cert.Kernel14Ideal.Gen.frame m ρ, d_hc_frame_reference,
  fun m ρ _ => Cert.Kernel15.Gen.frame m ρ, fun m ρ _ => Cert.Kernel15Ideal.Gen.frame m ρ, d_h_dt_frame_reference,
  fun m ρ _ => Cert.Kernel16.Gen.frame m ρ, fun m ρ _ => Cert.Kernel16Ideal.Gen.frame m ρ, fun m ρ _ => Cert.Kernel16Ideal.Gen.frame m ρ,
  conv_frame_reference, fun m ρ _ => conv_frame_reference m ρ trivial,
  fun m ρ _ => Cert.Kernel17.Gen.frame m ρ, fun m ρ _ => Cert.Kernel17Ideal.Gen.frame m ρ, fun m ρ _ => Cert.Kernel17Ideal.Gen.frame m ρ,
  cross_frame_reference, fun m ρ _ => cross_frame_reference m ρ trivial,
  fun m ρ _ => Cert.Kernel18.Gen.frame m ρ, fun m ρ _ => Cert.Kernel18Ideal.Gen.frame m ρ, dw_co_frame_reference,
  fun m ρ _ => Cert.Kernel19.Gen.frame m ρ, fun m ρ _ => Cert.Kernel19Ideal.Gen.frame m ρ, d_oc_frame_reference,
  fun m ρ _ => Cert.Kernel20.Gen.frame m ρ, fun m ρ _ => Cert.Kernel20Ideal.Gen.frame m ρ, dw_cq_frame_reference,
  fun m ρ _ => Cert.Kernel21.Gen.frame m ρ, fun m ρ _ => Cert.Kernel21Ideal.Gen.frame m ρ, dw_ckv_frame_reference,
  fun m ρ _ => Cert.Kernel22.Gen.frame m ρ, fun m ρ _ => Cert.Kernel22Ideal.Gen.frame m ρ, d_memh_frame_reference,
  fun m ρ _ => Cert.Kernel23.Gen.frame m ρ, fun m ρ _ => Cert.Kernel23Ideal.Gen.frame m ρ, cq_proj_frame_reference,
  fun m ρ _ => Cert.Kernel24.Gen.frame m ρ, fun m ρ _ => Cert.Kernel24Ideal.Gen.frame m ρ, ckv_proj_frame_reference,
  fun m ρ _ => Cert.Kernel25.Gen.frame m ρ, fun m ρ _ => Cert.Kernel25Ideal.Gen.frame m ρ, co_proj_frame_reference,
  fun m ρ _ => Cert.Kernel26.Gen.frame m ρ, fun m ρ _ => Cert.Kernel26Ideal.Gen.frame m ρ, norm_in_frame_reference,
  fun m ρ _ => Cert.Kernel27.Gen.frame m ρ, fun m ρ _ => Cert.Kernel27Ideal.Gen.frame m ρ, norm_mem_back_frame_reference,
  fun m ρ _ => Cert.Kernel28.Gen.frame m ρ, fun m ρ _ => Cert.Kernel28Ideal.Gen.frame m ρ, norm_mem_frame_reference,
  fun m ρ _ => Cert.Kernel29.Gen.frame m ρ, fun m ρ _ => Cert.Kernel29Ideal.Gen.frame m ρ, fun m ρ _ => Cert.Kernel29Ideal.Gen.frame m ρ,
  cross_fwd_frame_reference, fun m ρ _ => cross_fwd_frame_reference m ρ trivial,
  fun m ρ _ => Cert.Kernel30.Gen.frame m ρ, fun m ρ _ => Cert.Kernel30Ideal.Gen.frame m ρ, conv_fwd_frame_reference,
  fun m ρ _ => Cert.Kernel31.Gen.frame m ρ, fun m ρ _ => Cert.Kernel31Ideal.Gen.frame m ρ, fun m ρ _ => Cert.Kernel31Ideal.Gen.frame m ρ,
  merge_frame_reference, fun m ρ _ => merge_frame_reference m ρ trivial,
  trivial, act_grad, IdealRules.named_const.statement Cert.Kernel2Ideal.κ "mask" .f32 0xF149F2CA#32 ⊥ rfl, attn_grad, trivial, dw_down_grad,
  trivial, dw_up_grad, trivial, d_hm_grad, trivial, dw_main_grad, trivial, d_h_main_grad, trivial, dw_out_grad, trivial, d_mix_grad,
  trivial, up_proj_value, trivial, down_proj_value, trivial, in_proj_value, trivial, out_proj_value, trivial, d_hc_value, trivial, d_h_dt_value,
  trivial, conv_grad, trivial, cross_grad, trivial, dw_co_grad, trivial, d_oc_grad, trivial, dw_cq_grad, trivial, dw_ckv_grad,
  trivial, d_memh_grad, trivial, cq_proj_value, trivial, ckv_proj_value, trivial, co_proj_value, trivial, norm_in_value, trivial, norm_mem_grad,
  trivial, norm_mem_value, trivial, cross_fwd_value, trivial, conv_fwd_value, trivial, merge_value⟩

end Cert.Proof

end
